-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S4x4096x8x2x64 : Shape := ⟨5, ![4, 4096, 8, 2, 64]⟩
abbrev S4x4096x8x128 : Shape := ⟨4, ![4, 4096, 8, 128]⟩
abbrev S32x8 : Shape := ⟨2, ![32, 8]⟩
abbrev S64 : Shape := ⟨1, ![64]⟩
abbrev S128 : Shape := ⟨1, ![128]⟩
abbrev S_ : Shape := ⟨0, ![]⟩

class Facts : Prop where
  bcast_S_S4x4096x8x2x64 : S_.BroadcastsInDim S4x4096x8x2x64 (![] : Fin 0 → Fin S4x4096x8x2x64.rank)
  reducesTo_S4x4096x8x2x64_S_d0_1_2_3_4 : S4x4096x8x2x64.ReducesTo [0, 1, 2, 3, 4] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  bcast_S_S32x8 : S_.BroadcastsInDim S32x8 (![] : Fin 0 → Fin S32x8.rank)
  reducesTo_S32x8_S_d0_1 : S32x8.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64 .f32) (main_arg7 : FVec F S64 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S4x4096x8x2x64 .f32) (main_arg1 : FVec F S4x4096x8x2x64 .f32) (main_arg2 : FVec F S4x4096x8x128 .f32) (main_arg3 : FVec F S32x8 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S4x4096x8x2x64 .f32 := Host.absf main_arg0
  let main_cst : FVec F S_ .f32 := constant S_ .f32 0x7F800000#32
  let main_v1 : FVec F S4x4096x8x2x64 .f32 := broadcastInDim S4x4096x8x2x64 ![] bcast_S_S4x4096x8x2x64 main_cst
  let main_v2 : IVec S4x4096x8x2x64 1 := cmpf .olt main_v0 main_v1
  let main_c : IVec S_ 1 := constantI S_ 1 1#1
  let main_v3 : IVec S_ 1 := (fun x v => Host.reduce IntOp.andi x v reducesTo_S4x4096x8x2x64_S_d0_1_2_3_4 h_S_) main_v2 main_c
  let main_v4 : FVec F S4x4096x8x2x64 .f32 := Host.absf main_arg1
  let main_cst_0 : FVec F S_ .f32 := constant S_ .f32 0x7F800000#32
  let main_v5 : FVec F S4x4096x8x2x64 .f32 := broadcastInDim S4x4096x8x2x64 ![] bcast_S_S4x4096x8x2x64 main_cst_0
  let main_v6 : IVec S4x4096x8x2x64 1 := cmpf .olt main_v4 main_v5
  let main_c_1 : IVec S_ 1 := constantI S_ 1 1#1
  let main_v7 : IVec S_ 1 := (fun x v => Host.reduce IntOp.andi x v reducesTo_S4x4096x8x2x64_S_d0_1_2_3_4 h_S_) main_v6 main_c_1
  let main_v8 : IVec S_ 1 := andi main_v3 main_v7
  let main_v9 : FVec F S4x4096x8x128 .f32 := Host.absf main_arg2
  let main_cst_2 : FVec F S_ .f32 := constant S_ .f32 0x7F800000#32
  let main_v10 : FVec F S4x4096x8x128 .f32 := broadcastInDim S4x4096x8x128 ![] bcast_S_S4x4096x8x128 main_cst_2
  let main_v11 : IVec S4x4096x8x128 1 := cmpf .olt main_v9 main_v10
  let main_c_3 : IVec S_ 1 := constantI S_ 1 1#1
  let main_v12 : IVec S_ 1 := (fun x v => Host.reduce IntOp.andi x v reducesTo_S4x4096x8x128_S_d0_1_2_3 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_arg7 main_v13 main_v16
-- ==== Pre_finite3.lean ====
abbrev S128x8x1024 : Shape := ⟨3, ![128, 8, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S128x8x1024 .f32) (main_arg1 : FVec F S1024 .f32) (main_arg2 : FVec F S1024x3072 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  main_v8
-- ==== Kernel.lean ====
abbrev S4x4096x8x2x64 : Shape := ⟨5, ![4, 4096, 8, 2, 64]⟩
abbrev S4x4096x8x128 : Shape := ⟨4, ![4, 4096, 8, 128]⟩
abbrev S32x8 : Shape := ⟨2, ![32, 8]⟩
abbrev S64 : Shape := ⟨1, ![64]⟩
abbrev S128 : Shape := ⟨1, ![128]⟩
abbrev S4x4096x1024 : Shape := ⟨3, ![4, 4096, 1024]⟩
abbrev S_ : Shape := ⟨0, ![]⟩
abbrev S4x16x256x8x128 : Shape := ⟨5, ![4, 16, 256, 8, 128]⟩
abbrev S4x8x16x128x256 : Shape := ⟨5, ![4, 8, 16, 128, 256]⟩
abbrev S4x8x16x16x256 : Shape := ⟨5, ![4, 8, 16, 16, 256]⟩
abbrev S4x8x16x144x256 : Shape := ⟨5, ![4, 8, 16, 144, 256]⟩
abbrev S256x256 : Shape := ⟨2, ![256, 256]⟩
abbrev S1x8 : Shape := ⟨2, ![1, 8]⟩
abbrev S8 : Shape := ⟨1, ![8]⟩
abbrev S8x1x1 : Shape := ⟨3, ![8, 1, 1]⟩
abbrev S256x256x1 : Shape := ⟨3, ![256, 256, 1]⟩
abbrev S256x256x8 : Shape := ⟨3, ![256, 256, 8]⟩
abbrev S8x256x256 : Shape := ⟨3, ![8, 256, 256]⟩
abbrev S8x1x256x256 : Shape := ⟨4, ![8, 1, 256, 256]⟩
abbrev S8x2x256x256 : Shape := ⟨4, ![8, 2, 256, 256]⟩
abbrev S1x64 : Shape := ⟨2, ![1, 64]⟩
abbrev S1x128 : Shape := ⟨2, ![1, 128]⟩
abbrev S1x1024x128 : Shape := ⟨3, ![1, 1024, 128]⟩
abbrev S1x4096x128 : Shape := ⟨3, ![1, 4096, 128]⟩
abbrev S1x1x16x144x256 : Shape := ⟨5, ![1, 1, 16, 144, 256]⟩
abbrev S1x2x256x256 : Shape := ⟨4, ![1, 2, 256, 256]⟩
abbrev S144x512 : Shape := ⟨2, ![144, 512]⟩
abbrev S1x256x128 : Shape := ⟨3, ![1, 256, 128]⟩
abbrev S256x128 : Shape := ⟨2, ![256, 128]⟩
abbrev S512x128 : Shape := ⟨2, ![512, 128]⟩
abbrev S1x512 : Shape := ⟨2, ![1, 512]⟩
abbrev S256x512 : Shape := ⟨2, ![256, 512]⟩
abbrev S512 : Shape := ⟨1, ![512]⟩
abbrev S1x1x1x144x256 : Shape := ⟨5, ![1, 1, 1, 144, 256]⟩
abbrev S144x256 : Shape := ⟨2, ![144, 256]⟩
abbrev S1x1x256x256 : Shape := ⟨4, ![1, 1, 256, 256]⟩
abbrev S128x512 : Shape := ⟨2, ![128, 512]⟩
abbrev S1 : Shape := ⟨1, ![1]⟩
abbrev S1x1 : Shape := ⟨2, ![1, 1]⟩
abbrev S128x256 : Shape := ⟨2, ![128, 256]⟩
abbrev S256 : Shape := ⟨1, ![256]⟩
abbrev S256x1 : Shape := ⟨2, ![256, 1]⟩

abbrev nBuf : Space → Nat
  | .hbm => 159
  | .vmem => 18
  | .smem => 0
  | _ => 0

abbrev hbmTy0_0 (i : Nat) : BufTy := match i % 128 with
  | 0 => ⟨S4x4096x8x2x64, .f32⟩
  | 1 => ⟨S4x4096x8x2x64, .f32⟩
  | 2 => ⟨S4x4096x8x128, .f32⟩
  | 3 => ⟨S32x8, .f32⟩
  | 4 => ⟨S64, .f32⟩
  | 5 => ⟨S64, .f32⟩
  | 6 => ⟨S64, .f32⟩
  | 7 => ⟨S64, .f32⟩
  | 8 => ⟨S128, .f32⟩
  | 9 => ⟨S4x4096x1024, .f32⟩
  | 10 => ⟨S_, .f32⟩
  | 11 => ⟨S_, .f32⟩
  | 12 => ⟨S_, .f32⟩
  | 13 => ⟨S_, .f32⟩
  | 14 => ⟨S4x4096x1024, .f32⟩
  | 15 => ⟨S4x4096x1024, .f32⟩
  | 16 => ⟨S4x4096x1024, .i32⟩
  | 17 => ⟨S_, .i32⟩
  | 18 => ⟨S4x4096x1024, .i32⟩
  | 19 => ⟨S4x4096x1024, .i32⟩
  | 20 => ⟨S_, .i32⟩
  | 21 => ⟨S4x4096x1024, .i32⟩
  | 22 => ⟨S4x4096x1024, .i1⟩
  | 23 => ⟨S_, .f32⟩
  | 24 => ⟨S_, .f32⟩
  | 25 => ⟨S4x4096x1024, .f32⟩
  | 26 => ⟨S4x4096x1024, .f32⟩
  | 27 => ⟨S4x4096x1024, .bf16⟩
  | 28 => ⟨S_, .f32⟩
  | 29 => ⟨S_, .f32⟩
  | 30 => ⟨S4x4096x1024, .f32⟩
  | 31 => ⟨S4x4096x1024, .f32⟩
  | 32 => ⟨S4x4096x1024, .bf16⟩
  | 33 => ⟨S4x4096x1024, .f32⟩
  | 34 => ⟨S4x4096x1024, .bf16⟩
  | 35 => ⟨S4x16x256x8x128, .f32⟩
  | 36 => ⟨S4x8x16x128x256, .f32⟩
  | 37 => ⟨S_, .f32⟩
  | 38 => ⟨S4x8x16x16x256, .f32⟩
  | 39 => ⟨S4x8x16x144x256, .f32⟩
  | 40 => ⟨S4x8x16x144x256, .bf16⟩
  | 41 => ⟨S256x256, .i32⟩
  | 42 => ⟨S256x256, .i32⟩
  | 43 => ⟨S256x256, .i32⟩
  | 44 => ⟨S1x8, .f32⟩
  | 45 => ⟨S8, .f32⟩
  | 46 => ⟨S8x1x1, .f32⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i32⟩
  | 53 => ⟨S256x256, .f32⟩
  | 54 => ⟨S_, .f32⟩
  | 55 => ⟨S256x256, .f32⟩
  | 56 => ⟨S256x256, .f32⟩
  | 57 => ⟨S256x256, .f32⟩
  | 58 => ⟨S_, .f32⟩
  | 59 => ⟨S256x256, .f32⟩
  | 60 => ⟨S256x256, .f32⟩
  | 61 => ⟨S_, .f32⟩
  | 62 => ⟨S256x256, .f32⟩
  | 63 => ⟨S256x256, .f32⟩
  | 64 => ⟨S256x256, .i32⟩
  | 65 => ⟨S_, .i32⟩
  | 66 => ⟨S256x256, .i32⟩
  | 67 => ⟨S256x256, .i32⟩
  | 68 => ⟨S_, .i32⟩
  | 69 => ⟨S256x256, .i32⟩
  | 70 => ⟨S256x256, .i1⟩
  | 71 => ⟨S_, .i32⟩
  | 72 => ⟨S256x256, .i32⟩
  | 73 => ⟨S256x256, .i32⟩
  | 74 => ⟨S256x256, .i32⟩
  | 75 => ⟨S_, .i32⟩
  | 76 => ⟨S256x256, .i32⟩
  | 77 => ⟨S256x256, .i1⟩
  | 78 => ⟨S_, .i32⟩
  | 79 => ⟨S256x256, .i32⟩
  | 80 => ⟨S256x256, .i32⟩
  | 81 => ⟨S256x256, .i32⟩
  | 82 => ⟨S256x256x1, .i32⟩
  | 83 => ⟨S256x256x8, .f32⟩
  | 84 => ⟨S8x256x256, .f32⟩
  | 85 => ⟨S8x256x256, .f32⟩
  | 86 => ⟨S8x256x256, .f32⟩
  | 87 => ⟨S_, .f32⟩
  | 88 => ⟨S_, .f32⟩
  | 89 => ⟨S_, .f32⟩
  | 90 => ⟨S_, .f32⟩
  | 91 => ⟨S8x256x256, .f32⟩
  | 92 => ⟨S8x256x256, .f32⟩
  | 93 => ⟨S_, .i32⟩
  | 94 => ⟨S256x256, .i32⟩
  | 95 => ⟨S256x256, .i1⟩
  | 96 => ⟨S_, .f32⟩
  | 97 => ⟨S_, .f32⟩
  | 98 => ⟨S8x256x256, .i1⟩
  | 99 => ⟨S8x256x256, .f32⟩
  | 100 => ⟨S8x256x256, .f32⟩
  | 101 => ⟨S_, .i32⟩
  | 102 => ⟨S256x256, .i32⟩
  | 103 => ⟨S256x256, .i32⟩
  | 104 => ⟨S_, .i32⟩
  | 105 => ⟨S256x256, .i32⟩
  | 106 => ⟨S256x256, .i32⟩
  | 107 => ⟨S_, .i32⟩
  | 108 => ⟨S256x256, .i32⟩
  | 109 => ⟨S256x256, .i32⟩
  | 110 => ⟨S256x256, .f32⟩
  | 111 => ⟨S_, .f32⟩
  | 112 => ⟨S256x256, .f32⟩
  | 113 => ⟨S256x256, .f32⟩
  | 114 => ⟨S256x256, .f32⟩
  | 115 => ⟨S_, .f32⟩
  | 116 => ⟨S256x256, .f32⟩
  | 117 => ⟨S256x256, .f32⟩
  | 118 => ⟨S_, .f32⟩
  | 119 => ⟨S256x256, .f32⟩
  | 120 => ⟨S256x256, .f32⟩
  | 121 => ⟨S256x256, .i32⟩
  | 122 => ⟨S_, .i32⟩
  | 123 => ⟨S256x256, .i32⟩
  | 124 => ⟨S256x256, .i32⟩
  | 125 => ⟨S_, .i32⟩
  | 126 => ⟨S256x256, .i32⟩
  | 127 => ⟨S256x256, .i1⟩
  | _ => ⟨S4x4096x8x2x64, .f32⟩

abbrev hbmTy0_1 (i : Nat) : BufTy := match i % 128 with
  | 0 => ⟨S_, .i32⟩
  | 1 => ⟨S256x256, .i32⟩
  | 2 => ⟨S256x256, .i32⟩
  | 3 => ⟨S256x256, .i32⟩
  | 4 => ⟨S_, .i32⟩
  | 5 => ⟨S256x256, .i32⟩
  | 6 => ⟨S256x256, .i1⟩
  | 7 => ⟨S_, .i32⟩
  | 8 => ⟨S256x256, .i32⟩
  | 9 => ⟨S256x256, .i32⟩
  | 10 => ⟨S256x256, .i32⟩
  | 11 => ⟨S256x256x1, .i32⟩
  | 12 => ⟨S256x256x8, .f32⟩
  | 13 => ⟨S8x256x256, .f32⟩
  | 14 => ⟨S8x256x256, .f32⟩
  | 15 => ⟨S8x256x256, .f32⟩
  | 16 => ⟨S_, .f32⟩
  | 17 => ⟨S_, .f32⟩
  | 18 => ⟨S_, .f32⟩
  | 19 => ⟨S_, .f32⟩
  | 20 => ⟨S8x256x256, .f32⟩
  | 21 => ⟨S8x256x256, .f32⟩
  | 22 => ⟨S8x1x256x256, .f32⟩
  | 23 => ⟨S8x1x256x256, .f32⟩
  | 24 => ⟨S8x2x256x256, .f32⟩
  | 25 => ⟨S1x64, .f32⟩
  | 26 => ⟨S1x64, .f32⟩
  | 27 => ⟨S1x64, .f32⟩
  | 28 => ⟨S1x64, .f32⟩
  | 29 => ⟨S1x128, .f32⟩
  | 30 => ⟨S4x4096x1024, .f32⟩
  | _ => ⟨S4x4096x8x2x64, .f32⟩

abbrev hbmTy (i : Nat) : BufTy := match i / 128 with
  | 0 => hbmTy0_0 i
  | 1 => hbmTy0_1 i
  | _ => ⟨S4x4096x8x2x64, .f32⟩

abbrev bufTy : (tb : Table) → Fin (tcTables nBuf tb) → BufTy
  | .hbm, ⟨i, _⟩ => hbmTy i
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x16x144x256, .bf16⟩
  | .local _ .vmem, ⟨7, _⟩ => ⟨S1x1x16x144x256, .bf16⟩
  | .local _ .vmem, ⟨8, _⟩ => ⟨S1x2x256x256, .f32⟩
  | .local _ .vmem, ⟨9, _⟩ => ⟨S1x2x256x256, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x1024x128, .f32⟩
  | .local _ .vmem, ⟨16, _⟩ => ⟨S1x1024x128, .f32⟩
  | .local _ .vmem, ⟨17, _⟩ => ⟨S144x512, .f32⟩
  | _, _ => ⟨S4x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev main_c_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_17 : Ref sig .tc := ⟨.hbm, 93, rfl⟩
abbrev main_v61 : Ref sig .tc := ⟨.hbm, 94, rfl⟩
abbrev main_v62 : Ref sig .tc := ⟨.hbm, 95, rfl⟩
abbrev main_cst_18 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v63 : Ref sig .tc := ⟨.hbm, 100, rfl⟩
abbrev main_c_19 : Ref sig .tc := ⟨.hbm, 101, rfl⟩
abbrev main_v64 : Ref sig .tc := ⟨.hbm, 102, rfl⟩
abbrev main_v65 : Ref sig .tc := ⟨.hbm, 103, rfl⟩
abbrev main_c_20 : Ref sig .tc := ⟨.hbm, 104, rfl⟩
abbrev main_v66 : Ref sig .tc := ⟨.hbm, 105, rfl⟩
abbrev main_v67 : Ref sig .tc := ⟨.hbm, 106, rfl⟩
abbrev main_c_21 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_22 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_23 : Ref sig .tc := ⟨.hbm, 115, rfl⟩
abbrev main_v74 : Ref sig .tc := ⟨.hbm, 116, rfl⟩
abbrev main_v75 : Ref sig .tc := ⟨.hbm, 117, rfl⟩
abbrev main_cst_24 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_25 : Ref sig .tc := ⟨.hbm, 122, rfl⟩
abbrev main_v79 : Ref sig .tc := ⟨.hbm, 123, rfl⟩
abbrev main_v80 : Ref sig .tc := ⟨.hbm, 124, rfl⟩
abbrev main_c_26 : Ref sig .tc := ⟨.hbm, 125, rfl⟩
abbrev main_v81 : Ref sig .tc := ⟨.hbm, 126, rfl⟩
abbrev main_v82 : Ref sig .tc := ⟨.hbm, 127, rfl⟩
abbrev main_c_27 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_28 : Ref sig .tc := ⟨.hbm, 132, rfl⟩
abbrev main_v86 : Ref sig .tc := ⟨.hbm, 133, rfl⟩
abbrev main_v87 : Ref sig .tc := ⟨.hbm, 134, rfl⟩
abbrev main_c_29 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_30 : Ref sig .tc := ⟨.hbm, 144, rfl⟩
abbrev main_v96 : Ref sig .tc := ⟨.hbm, 145, rfl⟩
abbrev main_cst_31 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![4, 8, 4], ![false, false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v1 : BitVec 32 := Scalar.muli arg15 c256_i32
  v1
def k0_off1 (k0_t1 : Fin k0_t1_loop.trips) : Fin 3 → Nat :=
  let c0 : Index := 0#32
  let c0_i32 : BitVec 32 := 0#32
  let c1_i32 : BitVec 32 := 1#32
  let arg15 : BitVec 32 := Scf.iv c0_i32 c1_i32 k0_t1
  let c256_i32 : BitVec 32 := 256#32
  let v1 : BitVec 32 := Scalar.muli arg15 c256_i32
  let v2 : BitVec 32 := v1
  let v5 : Index := Scalar.indexCast v2
  let c0_2 : Index := 0#32
  ![0, v5.toNat, 0]
@[reducible] def k0_t2_loop (i : grid0.Coords) (k0_t1 : Fin k0_t1_loop.trips) : Scf.Loop 32 :=
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_12 : BitVec 32 := 1#32
  ⟨c0_i32_10, v24, c1_i32_12⟩
def k0_mult2 (i : grid0.Coords) (k0_t1 : Fin k0_t1_loop.trips) (k0_t2 : Fin (k0_t2_loop i k0_t1).trips) : BitVec 32 :=
  let c4_i32_39 : BitVec 32 := 4#32
  let c0_i32_10 : BitVec 32 := 0#32
  let c1_i32_12 : BitVec 32 := 1#32
  let arg16 : BitVec 32 := Scf.iv c0_i32_10 c1_i32_12 k0_t2
  let v80 : BitVec 32 := Scalar.muli c4_i32_39 arg16
  let c0_i32_40 : BitVec 32 := 0#32
  let v81 : BitVec 32 := Scalar.addi v80 c0_i32_40
  let c256_i32_44 : BitVec 32 := 256#32
  let v85 : BitVec 32 := Scalar.muli v81 c256_i32_44
  v85
def k0_off2 (i : grid0.Coords) (k0_t1 : Fin k0_t1_loop.trips) (k0_t2 : Fin (k0_t2_loop i k0_t1).trips) (c0_i32_40 : BitVec 32) : Fin 3 → Nat :=
  let c0_45 : Index := 0#32
  let c4_i32_39 : BitVec 32 := 4#32
  let c0_i32_10 : BitVec 32 := 0#32
  let c1_i32_12 : BitVec 32 := 1#32
  let arg16 : BitVec 32 := Scf.iv c0_i32_10 c1_i32_12 k0_t2
  let v80 : BitVec 32 := Scalar.muli c4_i32_39 arg16
  let v81 : BitVec 32 := Scalar.addi v80 c0_i32_40
  let c256_i32_44 : BitVec 32 := 256#32
  let v85 : BitVec 32 := Scalar.muli v81 c256_i32_44
  let v86 : BitVec 32 := v85
  let v87 : Index := Scalar.indexCast v86
  let c0_46 : Index := 0#32
  ![0, v87.toNat, 0]
def k0_mult3 (i : grid0.Coords) (k0_t1 : Fin k0_t1_loop.trips) (k0_t2 : Fin (k0_t2_loop i k0_t1).trips) : BitVec 32 :=
  let c4_i32_39 : BitVec 32 := 4#32
  let c0_i32_10 : BitVec 32 := 0#32
  let c1_i32_12 : BitVec 32 := 1#32
  let arg16 : BitVec 32 := Scf.iv c0_i32_10 c1_i32_12 k0_t2
  let v80 : BitVec 32 := Scalar.muli c4_i32_39 arg16
  let c1_i32_41 : BitVec 32 := 1#32
  let v82 : BitVec 32 := Scalar.addi v80 c1_i32_41
  let c256_i32_48 : BitVec 32 := 256#32
  let v91 : BitVec 32 := Scalar.muli v82 c256_i32_48
  v91
def k0_mult4 (i : grid0.Coords) (k0_t1 : Fin k0_t1_loop.trips) (k0_t2 : Fin (k0_t2_loop i k0_t1).trips) : BitVec 32 :=
  let c4_i32_39 : BitVec 32 := 4#32
  let c0_i32_10 : BitVec 32 := 0#32
  let c1_i32_12 : BitVec 32 := 1#32
  let arg16 : BitVec 32 := Scf.iv c0_i32_10 c1_i32_12 k0_t2
  let v80 : BitVec 32 := Scalar.muli c4_i32_39 arg16
  let c2_i32_42 : BitVec 32 := 2#32
  let v83 : BitVec 32 := Scalar.addi v80 c2_i32_42
  let c256_i32_52 : BitVec 32 := 256#32
  let v97 : BitVec 32 := Scalar.muli v83 c256_i32_52
  v97
def k0_mult5 (i : grid0.Coords) (k0_t1 : Fin k0_t1_loop.trips) (k0_t2 : Fin (k0_t2_loop i k0_t1).trips) : BitVec 32 :=
  let c4_i32_39 : BitVec 32 := 4#32
  let c0_i32_10 : BitVec 32 := 0#32
  let c1_i32_12 : BitVec 32 := 1#32
  let arg16 : BitVec 32 := Scf.iv c0_i32_10 c1_i32_12 k0_t2
  let v80 : BitVec 32 := Scalar.muli c4_i32_39 arg16
  let c3_i32_43 : BitVec 32 := 3#32
  let v84 : BitVec 32 := Scalar.addi v80 c3_i32_43
  let c256_i32_56 : BitVec 32 := 256#32
  let v103 : BitVec 32 := Scalar.muli v84 c256_i32_56
  v103
def k0_off3 (i : grid0.Coords) (k0_t1 : Fin k0_t1_loop.trips) (k0_t2 : Fin (k0_t2_loop i k0_t1).trips) (c0_i32_40 : BitVec 32) : Fin 5 → Nat :=
  let c0_70 : Index := 0#32
  let c0_71 : Index := 0#32
  let c4_i32_39 : BitVec 32 := 4#32
  let c0_i32_10 : BitVec 32 := 0#32
  let c1_i32_12 : BitVec 32 := 1#32
  let arg16 : BitVec 32 := Scf.iv c0_i32_10 c1_i32_12 k0_t2
  let v80 : BitVec 32 := Scalar.muli c4_i32_39 arg16
  let v81 : BitVec 32 := Scalar.addi v80 c0_i32_40
  let v152 : Index := Scalar.indexCast v81
  let c0_72 : Index := 0#32
  let c0_73 : Index := 0#32
  ![0, 0, v152.toNat, 0, 0]
@[reducible] def k0_t3_loop (i : grid0.Coords) (k0_t1 : Fin k0_t1_loop.trips) : Scf.Loop 32 :=
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let v21 : BitVec 32 := Scalar.addi c0_i32_10 v20
  let c1_i32_13 : BitVec 32 := 1#32
  ⟨v24, v21, c1_i32_13⟩
def k0_mult6 (i : grid0.Coords) (k0_t1 : Fin k0_t1_loop.trips) (k0_t3 : Fin (k0_t3_loop i k0_t1).trips) : BitVec 32 :=
  let c4_i32_39 : BitVec 32 := 4#32
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg16 : BitVec 32 := Scf.iv v24 c1_i32_13 k0_t3
  let v80 : BitVec 32 := Scalar.muli c4_i32_39 arg16
  let c0_i32_40 : BitVec 32 := 0#32
  let v81 : BitVec 32 := Scalar.addi v80 c0_i32_40
  let c256_i32_44 : BitVec 32 := 256#32
  let v85 : BitVec 32 := Scalar.muli v81 c256_i32_44
  v85
def k0_off4 (i : grid0.Coords) (k0_t1 : Fin k0_t1_loop.trips) (k0_t3 : Fin (k0_t3_loop i k0_t1).trips) (c0_i32_40 : BitVec 32) : Fin 3 → Nat :=
  let c0_45 : Index := 0#32
  let c4_i32_39 : BitVec 32 := 4#32
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg16 : BitVec 32 := Scf.iv v24 c1_i32_13 k0_t3
  let v80 : BitVec 32 := Scalar.muli c4_i32_39 arg16
  let v81 : BitVec 32 := Scalar.addi v80 c0_i32_40
  let c256_i32_44 : BitVec 32 := 256#32
  let v85 : BitVec 32 := Scalar.muli v81 c256_i32_44
  let v86 : BitVec 32 := v85
  let v87 : Index := Scalar.indexCast v86
  let c0_46 : Index := 0#32
  ![0, v87.toNat, 0]
def k0_mult7 (i : grid0.Coords) (k0_t1 : Fin k0_t1_loop.trips) (k0_t3 : Fin (k0_t3_loop i k0_t1).trips) : BitVec 32 :=
  let c4_i32_39 : BitVec 32 := 4#32
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg16 : BitVec 32 := Scf.iv v24 c1_i32_13 k0_t3
  let v80 : BitVec 32 := Scalar.muli c4_i32_39 arg16
  let c1_i32_41 : BitVec 32 := 1#32
  let v82 : BitVec 32 := Scalar.addi v80 c1_i32_41
  let c256_i32_48 : BitVec 32 := 256#32
  let v91 : BitVec 32 := Scalar.muli v82 c256_i32_48
  v91
def k0_mult8 (i : grid0.Coords) (k0_t1 : Fin k0_t1_loop.trips) (k0_t3 : Fin (k0_t3_loop i k0_t1).trips) : BitVec 32 :=
  let c4_i32_39 : BitVec 32 := 4#32
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg16 : BitVec 32 := Scf.iv v24 c1_i32_13 k0_t3
  let v80 : BitVec 32 := Scalar.muli c4_i32_39 arg16
  let c2_i32_42 : BitVec 32 := 2#32
  let v83 : BitVec 32 := Scalar.addi v80 c2_i32_42
  let c256_i32_52 : BitVec 32 := 256#32
  let v97 : BitVec 32 := Scalar.muli v83 c256_i32_52
  v97
def k0_mult9 (i : grid0.Coords) (k0_t1 : Fin k0_t1_loop.trips) (k0_t3 : Fin (k0_t3_loop i k0_t1).trips) : BitVec 32 :=
  let c4_i32_39 : BitVec 32 := 4#32
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg16 : BitVec 32 := Scf.iv v24 c1_i32_13 k0_t3
  let v80 : BitVec 32 := Scalar.muli c4_i32_39 arg16
  let c3_i32_43 : BitVec 32 := 3#32
  let v84 : BitVec 32 := Scalar.addi v80 c3_i32_43
  let c256_i32_56 : BitVec 32 := 256#32
  let v103 : BitVec 32 := Scalar.muli v84 c256_i32_56
  v103
def k0_off5 (i : grid0.Coords) (k0_t1 : Fin k0_t1_loop.trips) (k0_t3 : Fin (k0_t3_loop i k0_t1).trips) (c0_i32_40 : BitVec 32) : Fin 5 → Nat :=
  let c0_70 : Index := 0#32
  let c0_71 : Index := 0#32
  let c4_i32_39 : BitVec 32 := 4#32
  let c0_i32_10 : BitVec 32 := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg16 : BitVec 32 := Scf.iv v24 c1_i32_13 k0_t3
  let v80 : BitVec 32 := Scalar.muli c4_i32_39 arg16
  let v81 : BitVec 32 := Scalar.addi v80 c0_i32_40
  let v152 : Index := Scalar.indexCast v81
  let c0_72 : Index := 0#32
  let c0_73 : Index := 0#32
  ![0, 0, v152.toNat, 0, 0]
def k0_cond1 (i : grid0.Coords) (k0_t1 : Fin k0_t1_loop.trips) : BitVec 1 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c3_i32 : BitVec 32 := 3#32
  let v27 : BitVec 32 := Scalar.andi v17 c3_i32
  let c0_i32_14 : BitVec 32 := 0#32
  let v28 : BitVec 32 := Scalar.maxsi v27 c0_i32_14
  let c3_i32_15 : BitVec 32 := 3#32
  let v29 : BitVec 32 := Scalar.minsi v28 c3_i32_15
  let c0_i32_16 : BitVec 32 := 0#32
  let v30 : BitVec 1 := Scalar.cmpi .ne v29 c0_i32_16
  v30

def k0_cond2 (i : grid0.Coords) (k0_t1 : Fin k0_t1_loop.trips) : BitVec 1 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c3_i32 : BitVec 32 := 3#32
  let v27 : BitVec 32 := Scalar.andi v17 c3_i32
  let c0_i32_14 : BitVec 32 := 0#32
  let v28 : BitVec 32 := Scalar.maxsi v27 c0_i32_14
  let c3_i32_15 : BitVec 32 := 3#32
  let v29 : BitVec 32 := Scalar.minsi v28 c3_i32_15
  let c1_i32_39 : BitVec 32 := 1#32
  let v80 : BitVec 32 := Scalar.subi v29 c1_i32_39
  let c0_i32_40 : BitVec 32 := 0#32
  let v81 : BitVec 1 := Scalar.cmpi .ne v80 c0_i32_40
  v81

def k0_cond3 (i : grid0.Coords) (k0_t1 : Fin k0_t1_loop.trips) : BitVec 1 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c3_i32 : BitVec 32 := 3#32
  let v27 : BitVec 32 := Scalar.andi v17 c3_i32
  let c0_i32_14 : BitVec 32 := 0#32
  let v28 : BitVec 32 := Scalar.maxsi v27 c0_i32_14
  let c3_i32_15 : BitVec 32 := 3#32
  let v29 : BitVec 32 := Scalar.minsi v28 c3_i32_15
  let c1_i32_39 : BitVec 32 := 1#32
  let v80 : BitVec 32 := Scalar.subi v29 c1_i32_39
  let c1_i32_41 : BitVec 32 := 1#32
  let v82 : BitVec 32 := Scalar.subi v80 c1_i32_41
  let c0_i32_42 : BitVec 32 := 0#32
  let v83 : BitVec 1 := Scalar.cmpi .ne v82 c0_i32_42
  v83

def k0_mult10 (i : grid0.Coords) (k0_t1 : Fin k0_t1_loop.trips) : BitVec 32 :=
  let c4_i32_55 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v95 : BitVec 32 := Scalar.muli c4_i32_55 v19
  let c0_i32_56 : BitVec 32 := 0#32
  let v96 : BitVec 32 := Scalar.addi v95 c0_i32_56
  let c256_i32_69 : BitVec 32 := 256#32
  let v106 : BitVec 32 := Scalar.muli v96 c256_i32_69
  v106
def k0_off6 (i : grid0.Coords) (k0_t1 : Fin k0_t1_loop.trips) (c0_i32_56 : BitVec 32) : Fin 3 → Nat :=
  let c0_70 : Index := 0#32
  let c4_i32_55 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v95 : BitVec 32 := Scalar.muli c4_i32_55 v19
  let v96 : BitVec 32 := Scalar.addi v95 c0_i32_56
  let c256_i32_69 : BitVec 32 := 256#32
  let v106 : BitVec 32 := Scalar.muli v96 c256_i32_69
  let v107 : BitVec 32 := v106
  let v108 : Index := Scalar.indexCast v107
  let c0_71 : Index := 0#32
  ![0, v108.toNat, 0]
def k0_mult11 (i : grid0.Coords) (k0_t1 : Fin k0_t1_loop.trips) : BitVec 32 :=
  let c4_i32_57 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v97 : BitVec 32 := Scalar.muli c4_i32_57 v19
  let c1_i32_58 : BitVec 32 := 1#32
  let v98 : BitVec 32 := Scalar.addi v97 c1_i32_58
  let c256_i32_73 : BitVec 32 := 256#32
  let v112 : BitVec 32 := Scalar.muli v98 c256_i32_73
  v112
def k0_mult12 (i : grid0.Coords) (k0_t1 : Fin k0_t1_loop.trips) : BitVec 32 :=
  let c4_i32_59 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v99 : BitVec 32 := Scalar.muli c4_i32_59 v19
  let c2_i32_60 : BitVec 32 := 2#32
  let v100 : BitVec 32 := Scalar.addi v99 c2_i32_60
  let c256_i32_77 : BitVec 32 := 256#32
  let v118 : BitVec 32 := Scalar.muli v100 c256_i32_77
  v118
def k0_mult13 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_43 : BitVec 32 := 1#32
  let v84 : BitVec 32 := Scalar.subi v4 c1_i32_43
  let c0_i32_44 : BitVec 32 := 0#32
  let v85 : BitVec 32 := Scalar.maxsi v84 c0_i32_44
  let c256_i32_81 : BitVec 32 := 256#32
  let v124 : BitVec 32 := Scalar.muli v85 c256_i32_81
  v124
def k0_off7 (i : grid0.Coords) (k0_t1 : Fin k0_t1_loop.trips) : Fin 3 → Nat :=
  let c0_82 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_43 : BitVec 32 := 1#32
  let v84 : BitVec 32 := Scalar.subi v4 c1_i32_43
  let c0_i32_44 : BitVec 32 := 0#32
  let v85 : BitVec 32 := Scalar.maxsi v84 c0_i32_44
  let c256_i32_81 : BitVec 32 := 256#32
  let v124 : BitVec 32 := Scalar.muli v85 c256_i32_81
  let v125 : BitVec 32 := v124
  let v126 : Index := Scalar.indexCast v125
  let c0_83 : Index := 0#32
  ![0, v126.toNat, 0]
def k0_mult14 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_85 : BitVec 32 := 256#32
  let v131 : BitVec 32 := Scalar.muli v4 c256_i32_85
  v131
def k0_off8 (i : grid0.Coords) (k0_t1 : Fin k0_t1_loop.trips) : Fin 3 → Nat :=
  let c0_86 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_85 : BitVec 32 := 256#32
  let v131 : BitVec 32 := Scalar.muli v4 c256_i32_85
  let v132 : BitVec 32 := v131
  let v133 : Index := Scalar.indexCast v132
  let c0_87 : Index := 0#32
  ![0, v133.toNat, 0]
def k0_off9 (i : grid0.Coords) (k0_t1 : Fin k0_t1_loop.trips) (c0_i32_56 : BitVec 32) : Fin 5 → Nat :=
  let c0_101 : Index := 0#32
  let c0_102 : Index := 0#32
  let c4_i32_55 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v95 : BitVec 32 := Scalar.muli c4_i32_55 v19
  let v96 : BitVec 32 := Scalar.addi v95 c0_i32_56
  let v190 : Index := Scalar.indexCast v96
  let c0_103 : Index := 0#32
  let c0_104 : Index := 0#32
  ![0, 0, v190.toNat, 0, 0]
def k0_off10 (i : grid0.Coords) (k0_t1 : Fin k0_t1_loop.trips) : Fin 5 → Nat :=
  let c0_116 : Index := 0#32
  let c0_117 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_43 : BitVec 32 := 1#32
  let v84 : BitVec 32 := Scalar.subi v4 c1_i32_43
  let c0_i32_44 : BitVec 32 := 0#32
  let v85 : BitVec 32 := Scalar.maxsi v84 c0_i32_44
  let v217 : Index := Scalar.indexCast v85
  let c0_118 : Index := 0#32
  let c0_119 : Index := 0#32
  ![0, 0, v217.toNat, 0, 0]
def k0_off11 (i : grid0.Coords) (k0_t1 : Fin k0_t1_loop.trips) : Fin 5 → Nat :=
  let c0_121 : Index := 0#32
  let c0_122 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let v226 : Index := Scalar.indexCast v4
  let c0_123 : Index := 0#32
  let c0_124 : Index := 0#32
  ![0, 0, v226.toNat, 0, 0]
def k0_mult15 (i : grid0.Coords) (k0_t1 : Fin k0_t1_loop.trips) : BitVec 32 :=
  let c4_i32_55 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v95 : BitVec 32 := Scalar.muli c4_i32_55 v19
  let c0_i32_56 : BitVec 32 := 0#32
  let v96 : BitVec 32 := Scalar.addi v95 c0_i32_56
  let c256_i32_67 : BitVec 32 := 256#32
  let v104 : BitVec 32 := Scalar.muli v96 c256_i32_67
  v104
def k0_off12 (i : grid0.Coords) (k0_t1 : Fin k0_t1_loop.trips) (c0_i32_56 : BitVec 32) : Fin 3 → Nat :=
  let c0_68 : Index := 0#32
  let c4_i32_55 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v95 : BitVec 32 := Scalar.muli c4_i32_55 v19
  let v96 : BitVec 32 := Scalar.addi v95 c0_i32_56
  let c256_i32_67 : BitVec 32 := 256#32
  let v104 : BitVec 32 := Scalar.muli v96 c256_i32_67
  let v105 : BitVec 32 := v104
  let v106 : Index := Scalar.indexCast v105
  let c0_69 : Index := 0#32
  ![0, v106.toNat, 0]
def k0_mult16 (i : grid0.Coords) (k0_t1 : Fin k0_t1_loop.trips) : BitVec 32 :=
  let c4_i32_57 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v97 : BitVec 32 := Scalar.muli c4_i32_57 v19
  let c1_i32_58 : BitVec 32 := 1#32
  let v98 : BitVec 32 := Scalar.addi v97 c1_i32_58
  let c256_i32_71 : BitVec 32 := 256#32
  let v110 : BitVec 32 := Scalar.muli v98 c256_i32_71
  v110
def k0_mult17 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_43 : BitVec 32 := 1#32
  let v84 : BitVec 32 := Scalar.subi v4 c1_i32_43
  let c0_i32_44 : BitVec 32 := 0#32
  let v85 : BitVec 32 := Scalar.maxsi v84 c0_i32_44
  let c256_i32_75 : BitVec 32 := 256#32
  let v116 : BitVec 32 := Scalar.muli v85 c256_i32_75
  v116
def k0_off13 (i : grid0.Coords) (k0_t1 : Fin k0_t1_loop.trips) : Fin 3 → Nat :=
  let c0_76 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_43 : BitVec 32 := 1#32
  let v84 : BitVec 32 := Scalar.subi v4 c1_i32_43
  let c0_i32_44 : BitVec 32 := 0#32
  let v85 : BitVec 32 := Scalar.maxsi v84 c0_i32_44
  let c256_i32_75 : BitVec 32 := 256#32
  let v116 : BitVec 32 := Scalar.muli v85 c256_i32_75
  let v117 : BitVec 32 := v116
  let v118 : Index := Scalar.indexCast v117
  let c0_77 : Index := 0#32
  ![0, v118.toNat, 0]
def k0_mult18 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_79 : BitVec 32 := 256#32
  let v123 : BitVec 32 := Scalar.muli v4 c256_i32_79
  v123
def k0_off14 (i : grid0.Coords) (k0_t1 : Fin k0_t1_loop.trips) : Fin 3 → Nat :=
  let c0_80 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_79 : BitVec 32 := 256#32
  let v123 : BitVec 32 := Scalar.muli v4 c256_i32_79
  let v124 : BitVec 32 := v123
  let v125 : Index := Scalar.indexCast v124
  let c0_81 : Index := 0#32
  ![0, v125.toNat, 0]
def k0_off15 (i : grid0.Coords) (k0_t1 : Fin k0_t1_loop.trips) (c0_i32_56 : BitVec 32) : Fin 5 → Nat :=
  let c0_93 : Index := 0#32
  let c0_94 : Index := 0#32
  let c4_i32_55 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v95 : BitVec 32 := Scalar.muli c4_i32_55 v19
  let v96 : BitVec 32 := Scalar.addi v95 c0_i32_56
  let v173 : Index := Scalar.indexCast v96
  let c0_95 : Index := 0#32
  let c0_96 : Index := 0#32
  ![0, 0, v173.toNat, 0, 0]
def k0_off16 (i : grid0.Coords) (k0_t1 : Fin k0_t1_loop.trips) : Fin 5 → Nat :=
  let c0_103 : Index := 0#32
  let c0_104 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_43 : BitVec 32 := 1#32
  let v84 : BitVec 32 := Scalar.subi v4 c1_i32_43
  let c0_i32_44 : BitVec 32 := 0#32
  let v85 : BitVec 32 := Scalar.maxsi v84 c0_i32_44
  let v191 : Index := Scalar.indexCast v85
  let c0_105 : Index := 0#32
  let c0_106 : Index := 0#32
  ![0, 0, v191.toNat, 0, 0]
def k0_off17 (i : grid0.Coords) (k0_t1 : Fin k0_t1_loop.trips) : Fin 5 → Nat :=
  let c0_108 : Index := 0#32
  let c0_109 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let v200 : Index := Scalar.indexCast v4
  let c0_110 : Index := 0#32
  let c0_111 : Index := 0#32
  ![0, 0, v200.toNat, 0, 0]
def k0_mult19 (i : grid0.Coords) (k0_t1 : Fin k0_t1_loop.trips) : BitVec 32 :=
  let c4_i32_53 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v93 : BitVec 32 := Scalar.muli c4_i32_53 v19
  let c0_i32_54 : BitVec 32 := 0#32
  let v94 : BitVec 32 := Scalar.addi v93 c0_i32_54
  let c256_i32_63 : BitVec 32 := 256#32
  let v100 : BitVec 32 := Scalar.muli v94 c256_i32_63
  v100
def k0_off18 (i : grid0.Coords) (k0_t1 : Fin k0_t1_loop.trips) : Fin 3 → Nat :=
  let c0_64 : Index := 0#32
  let c4_i32_53 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v93 : BitVec 32 := Scalar.muli c4_i32_53 v19
  let c0_i32_54 : BitVec 32 := 0#32
  let v94 : BitVec 32 := Scalar.addi v93 c0_i32_54
  let c256_i32_63 : BitVec 32 := 256#32
  let v100 : BitVec 32 := Scalar.muli v94 c256_i32_63
  let v101 : BitVec 32 := v100
  let v102 : Index := Scalar.indexCast v101
  let c0_65 : Index := 0#32
  ![0, v102.toNat, 0]
def k0_mult20 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_41 : BitVec 32 := 1#32
  let v82 : BitVec 32 := Scalar.subi v4 c1_i32_41
  let c0_i32_42 : BitVec 32 := 0#32
  let v83 : BitVec 32 := Scalar.maxsi v82 c0_i32_42
  let c256_i32_67 : BitVec 32 := 256#32
  let v106 : BitVec 32 := Scalar.muli v83 c256_i32_67
  v106
def k0_off19 (i : grid0.Coords) (k0_t1 : Fin k0_t1_loop.trips) : Fin 3 → Nat :=
  let c0_68 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_41 : BitVec 32 := 1#32
  let v82 : BitVec 32 := Scalar.subi v4 c1_i32_41
  let c0_i32_42 : BitVec 32 := 0#32
  let v83 : BitVec 32 := Scalar.maxsi v82 c0_i32_42
  let c256_i32_67 : BitVec 32 := 256#32
  let v106 : BitVec 32 := Scalar.muli v83 c256_i32_67
  let v107 : BitVec 32 := v106
  let v108 : Index := Scalar.indexCast v107
  let c0_69 : Index := 0#32
  ![0, v108.toNat, 0]
def k0_mult21 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_71 : BitVec 32 := 256#32
  let v113 : BitVec 32 := Scalar.muli v4 c256_i32_71
  v113
def k0_off20 (i : grid0.Coords) (k0_t1 : Fin k0_t1_loop.trips) : Fin 3 → Nat :=
  let c0_72 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_71 : BitVec 32 := 256#32
  let v113 : BitVec 32 := Scalar.muli v4 c256_i32_71
  let v114 : BitVec 32 := v113
  let v115 : Index := Scalar.indexCast v114
  let c0_73 : Index := 0#32
  ![0, v115.toNat, 0]
def k0_off21 (i : grid0.Coords) (k0_t1 : Fin k0_t1_loop.trips) : Fin 5 → Nat :=
  let c0_83 : Index := 0#32
  let c0_84 : Index := 0#32
  let c4_i32_53 : BitVec 32 := 4#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_7 : BitVec 32 := 1#32
  let v16 : BitVec 32 := Scalar.subi v4 c1_i32_7
  let c0_i32_8 : BitVec 32 := 0#32
  let v17 : BitVec 32 := Scalar.maxsi v16 c0_i32_8
  let c2_i32 : BitVec 32 := 2#32
  let v19 : BitVec 32 := Scalar.shrui v17 c2_i32
  let v93 : BitVec 32 := Scalar.muli c4_i32_53 v19
  let c0_i32_54 : BitVec 32 := 0#32
  let v94 : BitVec 32 := Scalar.addi v93 c0_i32_54
  let v154 : Index := Scalar.indexCast v94
  let c0_85 : Index := 0#32
  let c0_86 : Index := 0#32
  ![0, 0, v154.toNat, 0, 0]
def k0_off22 (i : grid0.Coords) (k0_t1 : Fin k0_t1_loop.trips) : Fin 5 → Nat :=
  let c0_88 : Index := 0#32
  let c0_89 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_41 : BitVec 32 := 1#32
  let v82 : BitVec 32 := Scalar.subi v4 c1_i32_41
  let c0_i32_42 : BitVec 32 := 0#32
  let v83 : BitVec 32 := Scalar.maxsi v82 c0_i32_42
  let v163 : Index := Scalar.indexCast v83
  let c0_90 : Index := 0#32
  let c0_91 : Index := 0#32
  ![0, 0, v163.toNat, 0, 0]
def k0_off23 (i : grid0.Coords) (k0_t1 : Fin k0_t1_loop.trips) : Fin 5 → Nat :=
  let c0_93 : Index := 0#32
  let c0_94 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let v172 : Index := Scalar.indexCast v4
  let c0_95 : Index := 0#32
  let c0_96 : Index := 0#32
  ![0, 0, v172.toNat, 0, 0]
def k0_mult22 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_39 : BitVec 32 := 1#32
  let v80 : BitVec 32 := Scalar.subi v4 c1_i32_39
  let c0_i32_40 : BitVec 32 := 0#32
  let v81 : BitVec 32 := Scalar.maxsi v80 c0_i32_40
  let c256_i32_59 : BitVec 32 := 256#32
  let v96 : BitVec 32 := Scalar.muli v81 c256_i32_59
  v96
def k0_off24 (i : grid0.Coords) (k0_t1 : Fin k0_t1_loop.trips) : Fin 3 → Nat :=
  let c0_60 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_39 : BitVec 32 := 1#32
  let v80 : BitVec 32 := Scalar.subi v4 c1_i32_39
  let c0_i32_40 : BitVec 32 := 0#32
  let v81 : BitVec 32 := Scalar.maxsi v80 c0_i32_40
  let c256_i32_59 : BitVec 32 := 256#32
  let v96 : BitVec 32 := Scalar.muli v81 c256_i32_59
  let v97 : BitVec 32 := v96
  let v98 : Index := Scalar.indexCast v97
  let c0_61 : Index := 0#32
  ![0, v98.toNat, 0]
def k0_mult23 (i : grid0.Coords) (k0_t1 : Fin k0_t1_loop.trips) : BitVec 32 :=
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_63 : BitVec 32 := 256#32
  let v103 : BitVec 32 := Scalar.muli v4 c256_i32_63
  v103
def k0_off25 (i : grid0.Coords) (k0_t1 : Fin k0_t1_loop.trips) : Fin 3 → Nat :=
  let c0_64 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c256_i32_63 : BitVec 32 := 256#32
  let v103 : BitVec 32 := Scalar.muli v4 c256_i32_63
  let v104 : BitVec 32 := v103
  let v105 : Index := Scalar.indexCast v104
  let c0_65 : Index := 0#32
  ![0, v105.toNat, 0]
def k0_off26 (i : grid0.Coords) (k0_t1 : Fin k0_t1_loop.trips) : Fin 5 → Nat :=
  let c0_73 : Index := 0#32
  let c0_74 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let c1_i32_39 : BitVec 32 := 1#32
  let v80 : BitVec 32 := Scalar.subi v4 c1_i32_39
  let c0_i32_40 : BitVec 32 := 0#32
  let v81 : BitVec 32 := Scalar.maxsi v80 c0_i32_40
  let v135 : Index := Scalar.indexCast v81
  let c0_75 : Index := 0#32
  let c0_76 : Index := 0#32
  ![0, 0, v135.toNat, 0, 0]
def k0_off27 (i : grid0.Coords) (k0_t1 : Fin k0_t1_loop.trips) : Fin 5 → Nat :=
  let c0_78 : Index := 0#32
  let c0_79 : Index := 0#32
  let arg2 : BitVec 32 := BitVec.ofNat 32 (i 2).val
  let c4_i32_1 : BitVec 32 := 4#32
  let v3 : BitVec 32 := Scalar.muli arg2 c4_i32_1
  let c0_i32 : BitVec 32 := 0#32
  let c1_i32 : BitVec 32 := 1#32
  let arg15 : BitVec 32 := Scf.iv c0_i32 c1_i32 k0_t1
  let v4 : BitVec 32 := Scalar.addi v3 arg15
  let v144 : Index := Scalar.indexCast v4
  let c0_80 : Index := 0#32
  let c0_81 : Index := 0#32
  ![0, 0, v144.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S4x4096x8x2x64 : Shape := ⟨5, ![4, 4096, 8, 2, 64]⟩
abbrev S4x4096x8x128 : Shape := ⟨4, ![4, 4096, 8, 128]⟩
abbrev S32x8 : Shape := ⟨2, ![32, 8]⟩
abbrev S64 : Shape := ⟨1, ![64]⟩
abbrev S128 : Shape := ⟨1, ![128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x2x4096x4096 : Shape := ⟨5, ![4, 8, 2, 4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S8x1x4096x4096 : Shape := ⟨4, ![8, 1, 4096, 4096]⟩
abbrev S1x8x1x4096x4096 : Shape := ⟨5, ![1, 8, 1, 4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x1024 : Shape := ⟨3, ![4, 4096, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x8x2x64, .f32⟩
  | .hbm, ⟨1, _⟩ => ⟨S4x4096x8x2x64, .f32⟩
  | .hbm, ⟨2, _⟩ => ⟨S4x4096x8x128, .f32⟩
  | .hbm, ⟨3, _⟩ => ⟨S32x8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .i32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S4x8x2x4096x4096, .f32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i32⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S_, .i32⟩
  | .hbm, ⟨52, _⟩ => ⟨S4096x4096, .i32⟩
  | .hbm, ⟨53, _⟩ => ⟨S4096x4096, .i32⟩
  | .hbm, ⟨54, _⟩ => ⟨S4096x4096, .i32⟩
  | .hbm, ⟨55, _⟩ => ⟨S_, .i32⟩
  | .hbm, ⟨56, _⟩ => ⟨S4096x4096, .i32⟩
  | .hbm, ⟨57, _⟩ => ⟨S4096x4096, .i1⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S4096x4096, .i32⟩
  | .hbm, ⟨62, _⟩ => ⟨S4096x4096x1, .i32⟩
  | .hbm, ⟨63, _⟩ => ⟨S4096x4096x8, .f32⟩
  | .hbm, ⟨64, _⟩ => ⟨S8x4096x4096, .f32⟩
  | .hbm, ⟨65, _⟩ => ⟨S_, .i32⟩
  | .hbm, ⟨66, _⟩ => ⟨S4096x4096, .i32⟩
  | .hbm, ⟨67, _⟩ => ⟨S4096x4096, .i1⟩
  | .hbm, ⟨68, _⟩ => ⟨S8x1x4096x4096, .f32⟩
  | .hbm, ⟨69, _⟩ => ⟨S1x8x1x4096x4096, .f32⟩
  | .hbm, ⟨70, _⟩ => ⟨S4x8x2x4096x4096, .f32⟩
  | .hbm, ⟨71, _⟩ => ⟨S4x8x2x4096x4096, .f32⟩
  | .hbm, ⟨72, _⟩ => ⟨S_, .f32⟩
  | .hbm, ⟨73, _⟩ => ⟨S_, .f32⟩
  | .hbm, ⟨74, _⟩ => ⟨S4x8x2x4096x4096, .i1⟩
  | .hbm, ⟨75, _⟩ => ⟨S4x8x2x4096x4096, .f32⟩
  | .hbm, ⟨76, _⟩ => ⟨S4x8x2x4096x4096, .f32⟩
  | .hbm, ⟨77, _⟩ => ⟨S_, .f32⟩
  | .hbm, ⟨78, _⟩ => ⟨S4x8x2x4096, .f32⟩
  | .hbm, ⟨79, _⟩ => ⟨S_, .f32⟩
  | .hbm, ⟨80, _⟩ => ⟨S4x8x2x4096, .f32⟩
  | .hbm, ⟨81, _⟩ => ⟨S4x8x2x4096, .f32⟩
  | .hbm, ⟨82, _⟩ => ⟨S4x8x2x4096x1, .f32⟩
  | .hbm, ⟨83, _⟩ => ⟨S4x8x2x4096x4096, .f32⟩
  | .hbm, ⟨84, _⟩ => ⟨S4x8x2x4096x4096, .f32⟩
  | .hbm, ⟨85, _⟩ => ⟨S4x8x2x4096x4096, .f32⟩
  | .hbm, ⟨86, _⟩ => ⟨S_, .f32⟩
  | .hbm, ⟨87, _⟩ => ⟨S4x8x2x4096, .f32⟩
  | .hbm, ⟨88, _⟩ => ⟨S4x8x2x4096x1, .f32⟩
  | .hbm, ⟨89, _⟩ => ⟨S4x8x2x4096x4096, .f32⟩
  | .hbm, ⟨90, _⟩ => ⟨S4x8x2x4096x4096, .f32⟩
  | .hbm, ⟨91, _⟩ => ⟨S4x8x1x4096x4096, .f32⟩
  | .hbm, ⟨92, _⟩ => ⟨S4x8x4096x4096, .f32⟩
  | .hbm, ⟨93, _⟩ => ⟨S4x8x1x4096x4096, .f32⟩
  | .hbm, ⟨94, _⟩ => ⟨S4x8x4096x4096, .f32⟩
  | .hbm, ⟨95, _⟩ => ⟨S4x8x4096x4096, .f32⟩
  | .hbm, ⟨96, _⟩ => ⟨S4x8x4096x4096, .f32⟩
  | .hbm, ⟨97, _⟩ => ⟨S4x8x4096x4096, .f32⟩
  | .hbm, ⟨98, _⟩ => ⟨S4x8x128x4096, .f32⟩
  | .hbm, ⟨99, _⟩ => ⟨S4x4096x8x128, .f32⟩
  | .hbm, ⟨100, _⟩ => ⟨S4x4096x8x128, .f32⟩
  | .hbm, ⟨101, _⟩ => ⟨S_, .f32⟩
  | .hbm, ⟨102, _⟩ => ⟨S4x4096x8, .f32⟩
  | .hbm, ⟨103, _⟩ => ⟨S4x4096x8x1, .f32⟩
  | .hbm, ⟨104, _⟩ => ⟨S_, .f32⟩
  | .hbm, ⟨105, _⟩ => ⟨S4x4096x8x1, .f32⟩
  | .hbm, ⟨106, _⟩ => ⟨S4x4096x8x1, .f32⟩
  | .hbm, ⟨107, _⟩ => ⟨S_, .f32⟩
  | .hbm, ⟨108, _⟩ => ⟨S4x4096x8x1, .f32⟩
  | .hbm, ⟨109, _⟩ => ⟨S4x4096x8x1, .f32⟩
  | .hbm, ⟨110, _⟩ => ⟨S4x4096x8x1, .f32⟩
  | .hbm, ⟨111, _⟩ => ⟨S4x4096x8x128, .f32⟩
  | .hbm, ⟨112, _⟩ => ⟨S4x4096x8x128, .f32⟩
  | .hbm, ⟨113, _⟩ => ⟨S1x1x1x128, .f32⟩
  | .hbm, ⟨114, _⟩ => ⟨S4x4096x8x128, .f32⟩
  | .hbm, ⟨115, _⟩ => ⟨S4x4096x8x128, .f32⟩
  | .hbm, ⟨116, _⟩ => ⟨S_, .f32⟩
  | .hbm, ⟨117, _⟩ => ⟨S4x4096x8x128, .f32⟩
  | .hbm, ⟨118, _⟩ => ⟨S4x4096x8x128, .f32⟩
  | .hbm, ⟨119, _⟩ => ⟨S4x4096x1024, .f32⟩
  | _, _ => ⟨S4x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v49 : Ref sig .tc := ⟨.hbm, 76, rfl⟩
abbrev main_cst_13 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_cst_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S_ : Shape := ⟨0, ![]⟩
abbrev S4x2816 : Shape := ⟨2, ![4, 2816]⟩
abbrev S8x2816 : Shape := ⟨2, ![8, 2816]⟩
abbrev S1x1024 : Shape := ⟨2, ![1, 1024]⟩
abbrev S16x11x8x256 : Shape := ⟨4, ![16, 11, 8, 256]⟩
abbrev S1x1024x1024 : Shape := ⟨3, ![1, 1024, 1024]⟩
abbrev S1024x256 : Shape := ⟨2, ![1024, 256]⟩
abbrev S8x256 : Shape := ⟨2, ![8, 256]⟩
abbrev S256x1024 : Shape := ⟨2, ![256, 1024]⟩
abbrev S1x1x8x256 : Shape := ⟨4, ![1, 1, 8, 256]⟩
abbrev S1024x1024 : Shape := ⟨2, ![1024, 1024]⟩
abbrev S11x8x256 : Shape := ⟨3, ![11, 8, 256]⟩
abbrev S1024x1 : Shape := ⟨2, ![1024, 1]⟩
abbrev S256x256 : Shape := ⟨2, ![256, 256]⟩
abbrev S1x8x256 : Shape := ⟨3, ![1, 8, 256]⟩
abbrev S1x256 : Shape := ⟨2, ![1, 256]⟩
abbrev S4x4x11x8x256 : Shape := ⟨5, ![4, 4, 11, 8, 256]⟩
abbrev S4x1x11x8x256 : Shape := ⟨5, ![4, 1, 11, 8, 256]⟩
abbrev S4x11x8x256 : Shape := ⟨4, ![4, 11, 8, 256]⟩
abbrev S4x11x2x256 : Shape := ⟨4, ![4, 11, 2, 256]⟩
abbrev S4x2x11x256 : Shape := ⟨4, ![4, 2, 11, 256]⟩
abbrev S4x2x2816 : Shape := ⟨3, ![4, 2, 2816]⟩

abbrev nBuf : Space → Nat
  | .hbm => 21
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x2816, .f32⟩
  | .hbm, ⟨7, _⟩ => ⟨S_, .f32⟩
  | .hbm, ⟨8, _⟩ => ⟨S4x2816, .f32⟩
  | .hbm, ⟨9, _⟩ => ⟨S8x2816, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S4x4096x1024, .f32⟩
  | .hbm, ⟨14, _⟩ => ⟨S16x11x8x256, .f32⟩
  | .hbm, ⟨15, _⟩ => ⟨S4x4x11x8x256, .f32⟩
  | .hbm, ⟨16, _⟩ => ⟨S4x1x11x8x256, .f32⟩
  | .hbm, ⟨17, _⟩ => ⟨S4x11x8x256, .f32⟩
  | .hbm, ⟨18, _⟩ => ⟨S4x11x2x256, .f32⟩
  | .hbm, ⟨19, _⟩ => ⟨S4x2x11x256, .f32⟩
  | .hbm, ⟨20, _⟩ => ⟨S4x2x2816, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S8x256, .f32⟩
  | .local _ .vmem, ⟨8, _⟩ => ⟨S8x256, .f32⟩
  | .local _ .vmem, ⟨9, _⟩ => ⟨S256x1024, .bf16⟩
  | .local _ .vmem, ⟨10, _⟩ => ⟨S256x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x1x8x256, .f32⟩
  | .local _ .vmem, ⟨14, _⟩ => ⟨S1x1x8x256, .f32⟩
  | .local _ .vmem, ⟨15, _⟩ => ⟨S1024x1024, .bf16⟩
  | .local _ .vmem, ⟨16, _⟩ => ⟨S1024x1024, .f32⟩
  | .local _ .vmem, ⟨17, _⟩ => ⟨S11x8x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 11], ![false, false, false]⟩

def k0_off1 (i : grid0.Coords) : Fin 3 → Nat :=
  let arg2 : BitVec 32 := BitVec.ofNat 32 (i 2).val
  let v39 : Index := Scalar.indexCast arg2
  let c0_39 : Index := 0#32
  let c0_40 : Index := 0#32
  ![v39.toNat, 0, 0]
def k0_cond2 (i : grid0.Coords) : BitVec 1 :=
  let arg2 : BitVec 32 := BitVec.ofNat 32 (i 2).val
  let c10_i32 : BitVec 32 := 10#32
  let v263 : BitVec 1 := Scalar.cmpi .eq arg2 c10_i32
  let v264 : BitVec 32 := Scalar.extui v263
  let c0_i32_106 : BitVec 32 := 0#32
  let v265 : BitVec 1 := Scalar.cmpi .ne v264 c0_i32_106
  v265

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference2Ideal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x2x2816 : Shape := ⟨3, ![4, 2, 2816]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S_, .f32⟩
  | .hbm, ⟨7, _⟩ => ⟨S4x2x2816, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x5632, .f32⟩
  | .hbm, ⟨25, _⟩ => ⟨S4x4096x2816, .f32⟩
  | .hbm, ⟨26, _⟩ => ⟨S4x4096x2816, .f32⟩
  | .hbm, ⟨27, _⟩ => ⟨S4x4098x2816, .f32⟩
  | .hbm, ⟨28, _⟩ => ⟨S1x2816, .f32⟩
  | .hbm, ⟨29, _⟩ => ⟨S2816, .f32⟩
  | .hbm, ⟨30, _⟩ => ⟨S4x4096x2816, .f32⟩
  | .hbm, ⟨31, _⟩ => ⟨S1x1x2816, .f32⟩
  | .hbm, ⟨32, _⟩ => ⟨S4x4096x2816, .f32⟩
  | .hbm, ⟨33, _⟩ => ⟨S4x4096x2816, .f32⟩
  | .hbm, ⟨34, _⟩ => ⟨S1x1x2816, .f32⟩
  | .hbm, ⟨35, _⟩ => ⟨S4x4096x2816, .f32⟩
  | .hbm, ⟨36, _⟩ => ⟨S4x4096x2816, .f32⟩
  | .hbm, ⟨37, _⟩ => ⟨S1x2816, .f32⟩
  | .hbm, ⟨38, _⟩ => ⟨S2816, .f32⟩
  | .hbm, ⟨39, _⟩ => ⟨S4x4096x2816, .f32⟩
  | .hbm, ⟨40, _⟩ => ⟨S1x1x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S1x2816, .f32⟩
  | .hbm, ⟨45, _⟩ => ⟨S2816, .f32⟩
  | .hbm, ⟨46, _⟩ => ⟨S4x4096x2816, .f32⟩
  | .hbm, ⟨47, _⟩ => ⟨S1x1x2816, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S_, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x1024, .f32⟩
  | .hbm, ⟨62, _⟩ => ⟨S4x2x2816, .f32⟩
  | .hbm, ⟨63, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel3.lean ====
abbrev S128x8x1024 : Shape := ⟨3, ![128, 8, 1024]⟩
abbrev S1024 : Shape := ⟨1, ![1024]⟩
abbrev S1024x3072 : Shape := ⟨2, ![1024, 3072]⟩
abbrev S64 : Shape := ⟨1, ![64]⟩
abbrev S1024x1024 : Shape := ⟨2, ![1024, 1024]⟩
abbrev S1x1024 : Shape := ⟨2, ![1, 1024]⟩
abbrev S1x64 : Shape := ⟨2, ![1, 64]⟩
abbrev S16x64 : Shape := ⟨2, ![16, 64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x256 : Shape := ⟨2, ![512, 256]⟩

abbrev nBuf : Space → Nat
  | .hbm => 49
  | .vmem => 13
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x1024, .f32⟩
  | .hbm, ⟨6, _⟩ => ⟨S1x1024, .f32⟩
  | .hbm, ⟨7, _⟩ => ⟨S1024x3072, .bf16⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S256, .i32⟩
  | .hbm, ⟨17, _⟩ => ⟨S_, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S1x256, .i32⟩
  | .hbm, ⟨37, _⟩ => ⟨S256x256, .i32⟩
  | .hbm, ⟨38, _⟩ => ⟨S256x256, .i32⟩
  | .hbm, ⟨39, _⟩ => ⟨S256x256, .i1⟩
  | .hbm, ⟨40, _⟩ => ⟨S_, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S256x256, .bf16⟩
  | .hbm, ⟨46, _⟩ => ⟨S1024x1024, .f32⟩
  | .hbm, ⟨47, _⟩ => ⟨S1024x1024, .f32⟩
  | .hbm, ⟨48, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x1024, .f32⟩
  | .local _ .vmem, ⟨5, _⟩ => ⟨S1x1024, .f32⟩
  | .local _ .vmem, ⟨6, _⟩ => ⟨S256x256, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S128x8x1024 : Shape := ⟨3, ![128, 8, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x3072 : Shape := ⟨3, ![128, 8, 3072]⟩
abbrev S128x8x8x2x64 : Shape := ⟨5, ![128, 8, 8, 2, 64]⟩
abbrev S128x8x8x2 : Shape := ⟨4, ![128, 8, 8, 2]⟩
abbrev S128x8x8x2x1 : Shape := ⟨5, ![128, 8, 8, 2, 1]⟩
abbrev S1x1x1x1x64 : Shape := ⟨5, ![1, 1, 1, 1, 64]⟩
abbrev S1024x1024 : Shape := ⟨2, ![1024, 1024]⟩

abbrev nBuf : Space → Nat
  | .hbm => 65
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x8x3072, .f32⟩
  | .hbm, ⟨22, _⟩ => ⟨S128x8x1024, .f32⟩
  | .hbm, ⟨23, _⟩ => ⟨S128x8x1024, .f32⟩
  | .hbm, ⟨24, _⟩ => ⟨S128x8x1024, .f32⟩
  | .hbm, ⟨25, _⟩ => ⟨S128x8x8x2x64, .f32⟩
  | .hbm, ⟨26, _⟩ => ⟨S128x8x8x2x64, .f32⟩
  | .hbm, ⟨27, _⟩ => ⟨S_, .f32⟩
  | .hbm, ⟨28, _⟩ => ⟨S128x8x8x2, .f32⟩
  | .hbm, ⟨29, _⟩ => ⟨S128x8x8x2x1, .f32⟩
  | .hbm, ⟨30, _⟩ => ⟨S_, .f32⟩
  | .hbm, ⟨31, _⟩ => ⟨S128x8x8x2x1, .f32⟩
  | .hbm, ⟨32, _⟩ => ⟨S128x8x8x2x1, .f32⟩
  | .hbm, ⟨33, _⟩ => ⟨S_, .f32⟩
  | .hbm, ⟨34, _⟩ => ⟨S128x8x8x2x1, .f32⟩
  | .hbm, ⟨35, _⟩ => ⟨S128x8x8x2x1, .f32⟩
  | .hbm, ⟨36, _⟩ => ⟨S128x8x8x2x1, .f32⟩
  | .hbm, ⟨37, _⟩ => ⟨S128x8x8x2x64, .f32⟩
  | .hbm, ⟨38, _⟩ => ⟨S128x8x8x2x64, .f32⟩
  | .hbm, ⟨39, _⟩ => ⟨S1x1x1x1x64, .f32⟩
  | .hbm, ⟨40, _⟩ => ⟨S128x8x8x2x64, .f32⟩
  | .hbm, ⟨41, _⟩ => ⟨S128x8x8x2x64, .f32⟩
  | .hbm, ⟨42, _⟩ => ⟨S_, .f32⟩
  | .hbm, ⟨43, _⟩ => ⟨S128x8x8x2x64, .f32⟩
  | .hbm, ⟨44, _⟩ => ⟨S128x8x8x2x64, .f32⟩
  | .hbm, ⟨45, _⟩ => ⟨S128x8x8x2x64, .f32⟩
  | .hbm, ⟨46, _⟩ => ⟨S128x8x8x2x64, .f32⟩
  | .hbm, ⟨47, _⟩ => ⟨S_, .f32⟩
  | .hbm, ⟨48, _⟩ => ⟨S128x8x8x2, .f32⟩
  | .hbm, ⟨49, _⟩ => ⟨S128x8x8x2x1, .f32⟩
  | .hbm, ⟨50, _⟩ => ⟨S_, .f32⟩
  | .hbm, ⟨51, _⟩ => ⟨S128x8x8x2x1, .f32⟩
  | .hbm, ⟨52, _⟩ => ⟨S128x8x8x2x1, .f32⟩
  | .hbm, ⟨53, _⟩ => ⟨S_, .f32⟩
  | .hbm, ⟨54, _⟩ => ⟨S128x8x8x2x1, .f32⟩
  | .hbm, ⟨55, _⟩ => ⟨S128x8x8x2x1, .f32⟩
  | .hbm, ⟨56, _⟩ => ⟨S128x8x8x2x1, .f32⟩
  | .hbm, ⟨57, _⟩ => ⟨S128x8x8x2x64, .f32⟩
  | .hbm, ⟨58, _⟩ => ⟨S128x8x8x2x64, .f32⟩
  | .hbm, ⟨59, _⟩ => ⟨S1x1x1x1x64, .f32⟩
  | .hbm, ⟨60, _⟩ => ⟨S128x8x8x2x64, .f32⟩
  | .hbm, ⟨61, _⟩ => ⟨S128x8x8x2x64, .f32⟩
  | .hbm, ⟨62, _⟩ => ⟨S1024x1024, .f32⟩
  | .hbm, ⟨63, _⟩ => ⟨S1024x1024, .f32⟩
  | .hbm, ⟨64, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.Trips.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.Proof.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The ten blocks a grid point reads, each held whole at its contents. -/
abbrev ins (c : Dev nD) (arg3 : Memref sig .tc .vmem S1x1024x128 .bf16) (arg4 : Memref sig .tc .vmem S1x1024x128 .bf16) (arg5 : Memref sig .tc .vmem S1x4096x128 .bf16) (arg6 : Memref sig .tc .vmem S1x1x16x144x256 .bf16) (arg7 : Memref sig .tc .vmem S1x2x256x256 .f32) (arg8 : Memref sig .tc .vmem S1x64 .f32) (arg9 : Memref sig .tc .vmem S1x64 .f32) (arg10 : Memref sig .tc .vmem S1x64 .f32) (arg11 : Memref sig .tc .vmem S1x64 .f32) (arg12 : Memref sig .tc .vmem S1x128 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12))

/-- One query tile with three left-over far tiles: the body's trip `k` writes the pieces `L` into the output block, whatever
    the output block and the accumulator held. -/
@[irreducible] def tripThree (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : k0_cond2 i k = 1#1) (h3 : k0_cond3 i k = 1#1) :
    { L : List (View.Piece (Elt F) S1x1024x128 .f32) // ∀ (E : Set ℕ) (f13 : BufTy.Contents (Elt F) arg13.view.ty) (f14 : BufTy.Contents (Elt F) arg14.view.ty),
      iprop(ins (F := F) c arg3 arg4 arg5 arg6 arg7 arg8 arg9 arg10 arg11 arg12 X3 X4 X5 X6 X7 X8 X9 X10 X11 X12 ∗ (arg13.view.loc (c : Thread nD τ) ↦[arg13.view.set]{fullShare} f13) ∗ (arg14.view.loc (c : Thread nD τ) ↦[arg14.view.set]{fullShare} f14))
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg2 k ())
          (fun _ => iprop(ins (F := F) c arg3 arg4 arg5 arg6 arg7 arg8 arg9 arg10 arg11 arg12 X3 X4 X5 X6 X7 X8 X9 X10 X11 X12 ∗ (arg13.view.loc (c : Thread nD τ) ↦[arg13.view.set]{fullShare} arg13.view.writes (Elt F) f13 L) ∗ (∃ f14, (arg14.view.loc (c : Thread nD τ) ↦[arg14.view.set]{fullShare} f14)))) } := by
  refine ⟨?_, fun E f13 f14 => ?run⟩
  case run =>
    unfold k0_t1_body
    iintro ⟨⟨H3, H4, H5, H6, H7, H8, H9, H10, H11, H12⟩, H13, H14⟩
    sl_exec
    sl_step
    sl_close

/-- One query tile with two left-over far tiles: the body's trip `k` writes the pieces `L` into the output block, whatever
    the output block and the accumulator held. -/
@[irreducible] def tripTwo (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : k0_cond2 i k = 1#1) (h3 : ¬ k0_cond3 i k = 1#1) :
    { L : List (View.Piece (Elt F) S1x1024x128 .f32) // ∀ (E : Set ℕ) (f13 : BufTy.Contents (Elt F) arg13.view.ty) (f14 : BufTy.Contents (Elt F) arg14.view.ty),
      iprop(ins (F := F) c arg3 arg4 arg5 arg6 arg7 arg8 arg9 arg10 arg11 arg12 X3 X4 X5 X6 X7 X8 X9 X10 X11 X12 ∗ (arg13.view.loc (c : Thread nD τ) ↦[arg13.view.set]{fullShare} f13) ∗ (arg14.view.loc (c : Thread nD τ) ↦[arg14.view.set]{fullShare} f14))
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg2 k ())
          (fun _ => iprop(ins (F := F) c arg3 arg4 arg5 arg6 arg7 arg8 arg9 arg10 arg11 arg12 X3 X4 X5 X6 X7 X8 X9 X10 X11 X12 ∗ (arg13.view.loc (c : Thread nD τ) ↦[arg13.view.set]{fullShare} arg13.view.writes (Elt F) f13 L) ∗ (∃ f14, (arg14.view.loc (c : Thread nD τ) ↦[arg14.view.set]{fullShare} f14)))) } := by
  refine ⟨?_, fun E f13 f14 => ?run⟩
  case run =>
    unfold k0_t1_body
    iintro ⟨⟨H3, H4, H5, H6, H7, H8, H9, H10, H11, H12⟩, H13, H14⟩
    sl_exec
    sl_step
    sl_close

/-- One query tile with one left-over far tiles: the body's trip `k` writes the pieces `L` into the output block, whatever
    the output block and the accumulator held. -/
@[irreducible] def tripOne (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : ¬ k0_cond2 i k = 1#1) :
    { L : List (View.Piece (Elt F) S1x1024x128 .f32) // ∀ (E : Set ℕ) (f13 : BufTy.Contents (Elt F) arg13.view.ty) (f14 : BufTy.Contents (Elt F) arg14.view.ty),
      iprop(ins (F := F) c arg3 arg4 arg5 arg6 arg7 arg8 arg9 arg10 arg11 arg12 X3 X4 X5 X6 X7 X8 X9 X10 X11 X12 ∗ (arg13.view.loc (c : Thread nD τ) ↦[arg13.view.set]{fullShare} f13) ∗ (arg14.view.loc (c : Thread nD τ) ↦[arg14.view.set]{fullShare} f14))
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg2 k ())
          (fun _ => iprop(ins (F := F) c arg3 arg4 arg5 arg6 arg7 arg8 arg9 arg10 arg11 arg12 X3 X4 X5 X6 X7 X8 X9 X10 X11 X12 ∗ (arg13.view.loc (c : Thread nD τ) ↦[arg13.view.set]{fullShare} arg13.view.writes (Elt F) f13 L) ∗ (∃ f14, (arg14.view.loc (c : Thread nD τ) ↦[arg14.view.set]{fullShare} f14)))) } := by
  refine ⟨?_, fun E f13 f14 => ?run⟩
  case run =>
    unfold k0_t1_body
    iintro ⟨⟨H3, H4, H5, H6, H7, H8, H9, H10, H11, H12⟩, H13, H14⟩
    sl_exec
    sl_step
    sl_close

/-- One query tile with no left-over far tiles: the body's trip `k` writes the pieces `L` into the output block, whatever
    the output block and the accumulator held. -/
@[irreducible] def tripNone (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : ¬ k0_cond1 i k = 1#1) :
    { L : List (View.Piece (Elt F) S1x1024x128 .f32) // ∀ (E : Set ℕ) (f13 : BufTy.Contents (Elt F) arg13.view.ty) (f14 : BufTy.Contents (Elt F) arg14.view.ty),
      iprop(ins (F := F) c arg3 arg4 arg5 arg6 arg7 arg8 arg9 arg10 arg11 arg12 X3 X4 X5 X6 X7 X8 X9 X10 X11 X12 ∗ (arg13.view.loc (c : Thread nD τ) ↦[arg13.view.set]{fullShare} f13) ∗ (arg14.view.loc (c : Thread nD τ) ↦[arg14.view.set]{fullShare} f14))
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg2 k ())
          (fun _ => iprop(ins (F := F) c arg3 arg4 arg5 arg6 arg7 arg8 arg9 arg10 arg11 arg12 X3 X4 X5 X6 X7 X8 X9 X10 X11 X12 ∗ (arg13.view.loc (c : Thread nD τ) ↦[arg13.view.set]{fullShare} arg13.view.writes (Elt F) f13 L) ∗ (∃ f14, (arg14.view.loc (c : Thread nD τ) ↦[arg14.view.set]{fullShare} f14)))) } := by
  refine ⟨?_, fun E f13 f14 => ?run⟩
  case run =>
    unfold k0_t1_body
    iintro ⟨⟨H3, H4, H5, H6, H7, H8, H9, H10, H11, H12⟩, H13, H14⟩
    sl_exec
    sl_step
    sl_close

end Cert.Proof.Diff

end
-- ==== Proof.Spec.lean ====
module

public import proofs.«01_k».proof.Proof.Gen.KernelIdeal.Skeleton
public import Idealize.ShloMosaic.Lib.VecWindow

@[expose] public section

set_option maxRecDepth 16384

noncomputable section

namespace Cert.Proof.Diff

open Cert.KernelIdeal Cert.KernelIdeal.Gen
open Idealize.ShloMosaic Idealize.ShloMosaic.TcCoe

variable {F : FTy → Type} [FloatOps F]

/-- The running state of one query tile: the columns' running maxima and the unnormalised output (rows 0..127 the values'
    sums, row 128 the weights' sum). -/
structure St (F : FTy → Type) [FloatOps F] where
  m : FVec F S1x512 .f32
  acc : FVec F S144x512 .f32

/-- Keys `256 n … 256 n + 255` of the block of keys (`n` below 16). -/
def ktile (x : Vec F S1x4096x128 .bf16) (n : ℕ) : Vec F S1x256x128 .bf16 :=
  VecWindow.window x ![0, 256 * (n % 16), 0] S1x256x128.size (by intro a; fin_cases a <;> simp [S1x256x128, S1x4096x128] <;> omega)

/-- The transposed values (with their row of ones) of key tile `n`. -/
def vtile (x : Vec F S1x1x16x144x256 .bf16) (n : ℕ) : Vec F S1x1x1x144x256 .bf16 :=
  VecWindow.window x ![0, 0, n % 16, 0, 0] S1x1x1x144x256.size (by intro a; fin_cases a <;> simp [S1x1x1x144x256, S1x1x16x144x256] <;> omega)

/-- Queries `256 n … 256 n + 255` of the block of queries (`n` below 4). -/
def qtile (x : Vec F S1x1024x128 .bf16) (n : ℕ) : Vec F S1x256x128 .bf16 :=
  VecWindow.window x ![0, 256 * (n % 4), 0] S1x256x128.size (by intro a; fin_cases a <;> simp [S1x256x128, S1x1024x128] <;> omega)

/-- One of the two bias tiles (0: the diagonal one, 1: the one left of it). -/
def btile (x : Vec F S1x2x256x256 .f32) (n : ℕ) : Vec F S1x1x256x256 .f32 :=
  VecWindow.window x ![0, n % 2, 0, 0] S1x1x256x256.size (by intro a; fin_cases a <;> simp [S1x1x256x256, S1x2x256x256] <;> omega)

/-- The two query components, one below the other. -/
def queries (qa qb : Vec F S1x256x128 .bf16) : FVec F S512x128 .bf16 :=
  concatenate S512x128 0 [⟨S256x128, shapeCast S256x128 qa shapeCasts_S1x256x128_S256x128⟩, ⟨S256x128, shapeCast S256x128 qb shapeCasts_S1x256x128_S256x128⟩]
    concatenates_S256x128_S256x128_S512x128_d0

/-- The transposed scores of one key tile: a row per key, a column per query (256 of the first component, 256 of the second). -/
def score (q : FVec F S512x128 .bf16) (kt : Vec F S1x256x128 .bf16) : FVec F S256x512 .f32 :=
  matmul dot_S256x128_S512x128_S256x512_1_1_0_0_n_n none (shapeCast S256x128 kt shapeCasts_S1x256x128_S256x128) q (constant S256x512 .f32 0x00000000#32)

/-- A bias tile beside itself: both components take the same bias. -/
def biasTwice (b : Vec F S1x1x256x256 .f32) : FVec F S256x512 .f32 :=
  concatenate S256x512 1 [⟨S256x256, shapeCast S256x256 b shapeCasts_S1x1x256x256_S256x256⟩, ⟨S256x256, shapeCast S256x256 b shapeCasts_S1x1x256x256_S256x256⟩]
    concatenates_S256x256_S256x256_S256x512_d1

/-- The bias of the tile left of the diagonal; the first query tile has none, and masks it out. -/
def biasNear (v4 : BitVec 32) (b : Vec F S1x1x256x256 .f32) : FVec F S256x512 .f32 :=
  addf (biasTwice b) (broadcast S256x512 (Scalar.select (Scalar.cmpi .sge v4 1#32) (Scalar.ofBits .f32 0x00000000#32) (Scalar.ofBits .f32 0xFF800000#32)))

/-- The largest score of each column in one tile, at least -1e30. -/
def tmax (s : FVec F S256x512 .f32) : FVec F S1x512 .f32 :=
  maximumf (shapeCast S1x512 (multiReduction .maximumf [0] S512 s 0xFF800000#32 reduces_S256x512_S512 (.inl rfl) rfl) shapeCasts_S512_S1x512)
    (broadcast S1x512 (Scalar.ofBits .f32 0xF149F2CA#32))

/-- The weights of one tile against its own maxima. -/
def weights (s : FVec F S256x512 .f32) : FVec F S256x512 .bf16 :=
  truncf .bf16 (exp2 (subf s (broadcastTo S256x512 (tmax s) broadcasts_S1x512_S256x512))) bitsLt_bf16_f32

/-- One tile's sum of values by weights. -/
def part (s : FVec F S256x512 .f32) (vt : Vec F S1x1x1x144x256 .bf16) : FVec F S144x512 .f32 :=
  matmul dot_S144x256_S256x512_S144x512_1_0_0_1_n_n none (shapeCast S144x256 vt shapeCasts_S1x1x1x144x256_S144x256) (weights s) (constant S144x512 .f32 0x00000000#32)

/-- A tile taken in: its scores and its values. -/
abbrev Tl (F : FTy → Type) [FloatOps F] : Type := FVec F S256x512 .f32 × Vec F S1x1x1x144x256 .bf16

/-- The maxima after a list of tiles. -/
def gmax (m : FVec F S1x512 .f32) (l : List (Tl F)) : FVec F S1x512 .f32 := l.foldl (fun a t => maximumf a (tmax t.1)) m

/-- The sum with one tile added, scaled to the maxima `mn`. -/
def addTile (mn : FVec F S1x512 .f32) (a : FVec F S144x512 .f32) (t : Tl F) : FVec F S144x512 .f32 :=
  addf a (mulf (broadcastTo S144x512 (exp2 (subf (tmax t.1) mn)) broadcasts_S1x512_S144x512) (part t.1 t.2))

/-- A list of tiles taken in together. -/
def group (st : St F) (l : List (Tl F)) : St F :=
  ⟨gmax st.m l, l.foldl (addTile (gmax st.m l)) (mulf (broadcastTo S144x512 (exp2 (subf st.m (gmax st.m l))) broadcasts_S1x512_S144x512) st.acc)⟩

/-- The state before any tile. -/
def st0 : St F := ⟨broadcast S1x512 (Scalar.ofBits .f32 0xF149F2CA#32), broadcast S144x512 (Scalar.ofBits .f32 0x00000000#32)⟩

/-- `cnt` far tiles from tile `base` on. -/
def farTiles (q : FVec F S512x128 .bf16) (x5 : Vec F S1x4096x128 .bf16) (x6 : Vec F S1x1x16x144x256 .bf16) (base : ℕ) : ℕ → List (Tl F)
  | 0 => []
  | cnt + 1 => farTiles q x5 x6 base cnt ++ [(score q (ktile x5 (base + cnt)), vtile x6 (base + cnt))]

/-- The state after `n` groups of four far tiles. -/
def quads (q : FVec F S512x128 .bf16) (x5 : Vec F S1x4096x128 .bf16) (x6 : Vec F S1x1x16x144x256 .bf16) : ℕ → St F
  | 0 => st0
  | n + 1 => group (quads q x5 x6 n) (farTiles q x5 x6 (4 * n) 4)

/-- The two last tiles of query tile `n`: the one left of the diagonal and the diagonal one. -/
def lastTiles (v4 : BitVec 32) (q : FVec F S512x128 .bf16) (x5 : Vec F S1x4096x128 .bf16) (x6 : Vec F S1x1x16x144x256 .bf16)
    (x7 : Vec F S1x2x256x256 .f32) (n : ℕ) : List (Tl F) :=
  [(addf (score q (ktile x5 (n - 1))) (biasNear v4 (btile x7 1)), vtile x6 (n - 1)), (addf (score q (ktile x5 n)) (biasTwice (btile x7 0)), vtile x6 n)]

/-- The state at the end of query tile `n`. -/
def tileState (v4 : BitVec 32) (q : FVec F S512x128 .bf16) (x5 : Vec F S1x4096x128 .bf16) (x6 : Vec F S1x1x16x144x256 .bf16)
    (x7 : Vec F S1x2x256x256 .f32) (n : ℕ) : St F :=
  group (quads q x5 x6 ((n - 1) / 4)) (farTiles q x5 x6 (4 * ((n - 1) / 4)) ((n - 1) % 4) ++ lastTiles v4 q x5 x6 x7 n)

/-- Rows 0..127 of the state over its row 128, the two components combined and normalised. -/
def combine (acc : FVec F S144x512 .f32) (x8 x9 x10 x11 : Vec F S1x64 .f32) (x12 : Vec F S1x128 .f32) : FVec F S256x128 .f32 :=
  k0_pay98 (VecWindow.window acc ![0, 0] S128x512.size (by decide)) (VecWindow.window acc ![128, 0] S1x512.size (by decide)) x8 x9 x10 x11 x12

/-- One query tile's output block; `n` counts the query tiles of the whole sequence, `r` those of the block. -/
def tileOut (v4 : BitVec 32) (x3 x4 : Vec F S1x1024x128 .bf16) (x5 : Vec F S1x4096x128 .bf16) (x6 : Vec F S1x1x16x144x256 .bf16)
    (x7 : Vec F S1x2x256x256 .f32) (x8 x9 x10 x11 : Vec F S1x64 .f32) (x12 : Vec F S1x128 .f32) (n r : ℕ) : Vec F S1x256x128 .f32 :=
  shapeCast S1x256x128 (combine (tileState v4 (queries (qtile x3 r) (qtile x4 r)) x5 x6 x7 n).acc x8 x9 x10 x11 x12) shapeCasts_S256x128_S1x256x128

end Cert.Proof.Diff

end
-- ==== Proof.Offsets.lean ====
module

public import proofs.«01_k».proof.Proof.Gen.KernelIdeal.Skeleton

@[expose] public section

set_option maxRecDepth 16384

noncomputable section

namespace Cert.Proof.Diff

open Cert.KernelIdeal Cert.KernelIdeal.Gen
open Idealize.ShloMosaic Idealize.ShloMosaic.TcCoe

/-- The number of query tiles before this one. -/
abbrev qn (i : grid0.Coords) (k : Fin k0_t1_loop.trips) : ℕ := 4 * (i 2).val + k.val

/-- A grid point with the third coordinate given. -/
def pt (a : Fin 4) : grid0.Coords := Function.update (fun ax => ⟨0, by fin_cases ax <;> decide⟩) 2 a

/-- The first loop runs over the groups of four far tiles. -/
theorem trips2_eq (i : grid0.Coords) (k : Fin k0_t1_loop.trips) : (k0_t2_loop i k).trips = (qn i k - 1) / 4 := by
  have h : ∀ (a : Fin 4) (b : Fin k0_t1_loop.trips), (k0_t2_loop (pt a) b).trips = (4 * a.val + b.val - 1) / 4 := by decide +kernel
  exact h (i 2) k

/-- The printed remainder loop has no trips. -/
theorem trips3_eq (i : grid0.Coords) (k : Fin k0_t1_loop.trips) : (k0_t3_loop i k).trips = 0 := by
  have h : ∀ (a : Fin 4) (b : Fin k0_t1_loop.trips), (k0_t3_loop (pt a) b).trips = 0 := by decide +kernel
  exact h (i 2) k

theorem off1_eq (k : Fin k0_t1_loop.trips) : k0_off1 k = ![0, 256 * (k.val % 4), 0] := by
  have h : ∀ (b : Fin k0_t1_loop.trips), k0_off1 b = ![0, 256 * (b.val % 4), 0] := by decide +kernel
  exact h k

theorem off2_eq (i : grid0.Coords) (k : Fin k0_t1_loop.trips) (t : Fin (k0_t2_loop i k).trips) (r : Fin 4) :
    k0_off2 i k t (BitVec.ofNat 32 r.val) = ![0, 256 * ((4 * t.val + r.val) % 16), 0] := by
  have h : ∀ (a : Fin 4) (b : Fin k0_t1_loop.trips) (t : Fin (k0_t2_loop (pt a) b).trips) (r : Fin 4),
    k0_off2 (pt a) b t (BitVec.ofNat 32 r.val) = ![0, 256 * ((4 * t.val + r.val) % 16), 0] := by decide +kernel
  exact h (i 2) k t r

theorem off3_eq (i : grid0.Coords) (k : Fin k0_t1_loop.trips) (t : Fin (k0_t2_loop i k).trips) (r : Fin 4) :
    k0_off3 i k t (BitVec.ofNat 32 r.val) = ![0, 0, (4 * t.val + r.val) % 16, 0, 0] := by
  have h : ∀ (a : Fin 4) (b : Fin k0_t1_loop.trips) (t : Fin (k0_t2_loop (pt a) b).trips) (r : Fin 4),
    k0_off3 (pt a) b t (BitVec.ofNat 32 r.val) = ![0, 0, (4 * t.val + r.val) % 16, 0, 0] := by decide +kernel
  exact h (i 2) k t r

theorem off6_eq (i : grid0.Coords) (k : Fin k0_t1_loop.trips) (r : Fin 3) : k0_off6 i k (BitVec.ofNat 32 r.val) = ![0, 256 * ((4 * ((qn i k - 1) / 4) + r.val) % 16), 0] := by
  have h : ∀ (a : Fin 4) (b : Fin k0_t1_loop.trips) (r : Fin 3), k0_off6 (pt a) b (BitVec.ofNat 32 r.val) = ![0, 256 * ((4 * (((4 * a.val + b.val) - 1) / 4) + r.val) % 16), 0] := by decide +kernel
  exact h (i 2) k r

theorem off7_eq (i : grid0.Coords) (k : Fin k0_t1_loop.trips) : k0_off7 i k = ![0, 256 * ((qn i k - 1) % 16), 0] := by
  have h : ∀ (a : Fin 4) (b : Fin k0_t1_loop.trips), k0_off7 (pt a) b = ![0, 256 * (((4 * a.val + b.val) - 1) % 16), 0] := by decide +kernel
  exact h (i 2) k

theorem off8_eq (i : grid0.Coords) (k : Fin k0_t1_loop.trips) : k0_off8 i k = ![0, 256 * ((qn i k) % 16), 0] := by
  have h : ∀ (a : Fin 4) (b : Fin k0_t1_loop.trips), k0_off8 (pt a) b = ![0, 256 * (((4 * a.val + b.val)) % 16), 0] := by decide +kernel
  exact h (i 2) k

theorem off9_eq (i : grid0.Coords) (k : Fin k0_t1_loop.trips) (r : Fin 3) : k0_off9 i k (BitVec.ofNat 32 r.val) = ![0, 0, (4 * ((qn i k - 1) / 4) + r.val) % 16, 0, 0] := by
  have h : ∀ (a : Fin 4) (b : Fin k0_t1_loop.trips) (r : Fin 3), k0_off9 (pt a) b (BitVec.ofNat 32 r.val) = ![0, 0, (4 * (((4 * a.val + b.val) - 1) / 4) + r.val) % 16, 0, 0] := by decide +kernel
  exact h (i 2) k r

theorem off10_eq (i : grid0.Coords) (k : Fin k0_t1_loop.trips) : k0_off10 i k = ![0, 0, (qn i k - 1) % 16, 0, 0] := by
  have h : ∀ (a : Fin 4) (b : Fin k0_t1_loop.trips), k0_off10 (pt a) b = ![0, 0, ((4 * a.val + b.val) - 1) % 16, 0, 0] := by decide +kernel
  exact h (i 2) k

theorem off11_eq (i : grid0.Coords) (k : Fin k0_t1_loop.trips) : k0_off11 i k = ![0, 0, (qn i k) % 16, 0, 0] := by
  have h : ∀ (a : Fin 4) (b : Fin k0_t1_loop.trips), k0_off11 (pt a) b = ![0, 0, ((4 * a.val + b.val)) % 16, 0, 0] := by decide +kernel
  exact h (i 2) k

theorem off12_eq (i : grid0.Coords) (k : Fin k0_t1_loop.trips) (r : Fin 2) : k0_off12 i k (BitVec.ofNat 32 r.val) = ![0, 256 * ((4 * ((qn i k - 1) / 4) + r.val) % 16), 0] := by
  have h : ∀ (a : Fin 4) (b : Fin k0_t1_loop.trips) (r : Fin 2), k0_off12 (pt a) b (BitVec.ofNat 32 r.val) = ![0, 256 * ((4 * (((4 * a.val + b.val) - 1) / 4) + r.val) % 16), 0] := by decide +kernel
  exact h (i 2) k r

theorem off13_eq (i : grid0.Coords) (k : Fin k0_t1_loop.trips) : k0_off13 i k = ![0, 256 * ((qn i k - 1) % 16), 0] := by
  have h : ∀ (a : Fin 4) (b : Fin k0_t1_loop.trips), k0_off13 (pt a) b = ![0, 256 * (((4 * a.val + b.val) - 1) % 16), 0] := by decide +kernel
  exact h (i 2) k

theorem off14_eq (i : grid0.Coords) (k : Fin k0_t1_loop.trips) : k0_off14 i k = ![0, 256 * ((qn i k) % 16), 0] := by
  have h : ∀ (a : Fin 4) (b : Fin k0_t1_loop.trips), k0_off14 (pt a) b = ![0, 256 * (((4 * a.val + b.val)) % 16), 0] := by decide +kernel
  exact h (i 2) k

theorem off15_eq (i : grid0.Coords) (k : Fin k0_t1_loop.trips) (r : Fin 2) : k0_off15 i k (BitVec.ofNat 32 r.val) = ![0, 0, (4 * ((qn i k - 1) / 4) + r.val) % 16, 0, 0] := by
  have h : ∀ (a : Fin 4) (b : Fin k0_t1_loop.trips) (r : Fin 2), k0_off15 (pt a) b (BitVec.ofNat 32 r.val) = ![0, 0, (4 * (((4 * a.val + b.val) - 1) / 4) + r.val) % 16, 0, 0] := by decide +kernel
  exact h (i 2) k r

theorem off16_eq (i : grid0.Coords) (k : Fin k0_t1_loop.trips) : k0_off16 i k = ![0, 0, (qn i k - 1) % 16, 0, 0] := by
  have h : ∀ (a : Fin 4) (b : Fin k0_t1_loop.trips), k0_off16 (pt a) b = ![0, 0, ((4 * a.val + b.val) - 1) % 16, 0, 0] := by decide +kernel
  exact h (i 2) k

theorem off17_eq (i : grid0.Coords) (k : Fin k0_t1_loop.trips) : k0_off17 i k = ![0, 0, (qn i k) % 16, 0, 0] := by
  have h : ∀ (a : Fin 4) (b : Fin k0_t1_loop.trips), k0_off17 (pt a) b = ![0, 0, ((4 * a.val + b.val)) % 16, 0, 0] := by decide +kernel
  exact h (i 2) k

theorem off18_eq (i : grid0.Coords) (k : Fin k0_t1_loop.trips) : k0_off18 i k = ![0, 256 * ((4 * ((qn i k - 1) / 4)) % 16), 0] := by
  have h : ∀ (a : Fin 4) (b : Fin k0_t1_loop.trips), k0_off18 (pt a) b = ![0, 256 * ((4 * (((4 * a.val + b.val) - 1) / 4)) % 16), 0] := by decide +kernel
  exact h (i 2) k

theorem off19_eq (i : grid0.Coords) (k : Fin k0_t1_loop.trips) : k0_off19 i k = ![0, 256 * ((qn i k - 1) % 16), 0] := by
  have h : ∀ (a : Fin 4) (b : Fin k0_t1_loop.trips), k0_off19 (pt a) b = ![0, 256 * (((4 * a.val + b.val) - 1) % 16), 0] := by decide +kernel
  exact h (i 2) k

theorem off20_eq (i : grid0.Coords) (k : Fin k0_t1_loop.trips) : k0_off20 i k = ![0, 256 * ((qn i k) % 16), 0] := by
  have h : ∀ (a : Fin 4) (b : Fin k0_t1_loop.trips), k0_off20 (pt a) b = ![0, 256 * (((4 * a.val + b.val)) % 16), 0] := by decide +kernel
  exact h (i 2) k

theorem off21_eq (i : grid0.Coords) (k : Fin k0_t1_loop.trips) : k0_off21 i k = ![0, 0, (4 * ((qn i k - 1) / 4)) % 16, 0, 0] := by
  have h : ∀ (a : Fin 4) (b : Fin k0_t1_loop.trips), k0_off21 (pt a) b = ![0, 0, (4 * (((4 * a.val + b.val) - 1) / 4)) % 16, 0, 0] := by decide +kernel
  exact h (i 2) k

theorem off22_eq (i : grid0.Coords) (k : Fin k0_t1_loop.trips) : k0_off22 i k = ![0, 0, (qn i k - 1) % 16, 0, 0] := by
  have h : ∀ (a : Fin 4) (b : Fin k0_t1_loop.trips), k0_off22 (pt a) b = ![0, 0, ((4 * a.val + b.val) - 1) % 16, 0, 0] := by decide +kernel
  exact h (i 2) k

theorem off23_eq (i : grid0.Coords) (k : Fin k0_t1_loop.trips) : k0_off23 i k = ![0, 0, (qn i k) % 16, 0, 0] := by
  have h : ∀ (a : Fin 4) (b : Fin k0_t1_loop.trips), k0_off23 (pt a) b = ![0, 0, ((4 * a.val + b.val)) % 16, 0, 0] := by decide +kernel
  exact h (i 2) k

theorem off24_eq (i : grid0.Coords) (k : Fin k0_t1_loop.trips) : k0_off24 i k = ![0, 256 * ((qn i k - 1) % 16), 0] := by
  have h : ∀ (a : Fin 4) (b : Fin k0_t1_loop.trips), k0_off24 (pt a) b = ![0, 256 * (((4 * a.val + b.val) - 1) % 16), 0] := by decide +kernel
  exact h (i 2) k

theorem off25_eq (i : grid0.Coords) (k : Fin k0_t1_loop.trips) : k0_off25 i k = ![0, 256 * ((qn i k) % 16), 0] := by
  have h : ∀ (a : Fin 4) (b : Fin k0_t1_loop.trips), k0_off25 (pt a) b = ![0, 256 * (((4 * a.val + b.val)) % 16), 0] := by decide +kernel
  exact h (i 2) k

theorem off26_eq (i : grid0.Coords) (k : Fin k0_t1_loop.trips) : k0_off26 i k = ![0, 0, (qn i k - 1) % 16, 0, 0] := by
  have h : ∀ (a : Fin 4) (b : Fin k0_t1_loop.trips), k0_off26 (pt a) b = ![0, 0, ((4 * a.val + b.val) - 1) % 16, 0, 0] := by decide +kernel
  exact h (i 2) k

theorem off27_eq (i : grid0.Coords) (k : Fin k0_t1_loop.trips) : k0_off27 i k = ![0, 0, (qn i k) % 16, 0, 0] := by
  have h : ∀ (a : Fin 4) (b : Fin k0_t1_loop.trips), k0_off27 (pt a) b = ![0, 0, ((4 * a.val + b.val)) % 16, 0, 0] := by decide +kernel
  exact h (i 2) k

theorem cond1_iff (i : grid0.Coords) (k : Fin k0_t1_loop.trips) : k0_cond1 i k = 1#1 ↔ (qn i k - 1) % 4 ≠ 0 := by
  have h : ∀ (a : Fin 4) (b : Fin k0_t1_loop.trips), k0_cond1 (pt a) b = 1#1 ↔ ((4 * a.val + b.val) - 1) % 4 ≠ 0 := by decide +kernel
  exact h (i 2) k

theorem cond2_iff (i : grid0.Coords) (k : Fin k0_t1_loop.trips) : k0_cond2 i k = 1#1 ↔ (qn i k - 1) % 4 ≠ 1 := by
  have h : ∀ (a : Fin 4) (b : Fin k0_t1_loop.trips), k0_cond2 (pt a) b = 1#1 ↔ ((4 * a.val + b.val) - 1) % 4 ≠ 1 := by decide +kernel
  exact h (i 2) k

theorem cond3_iff (i : grid0.Coords) (k : Fin k0_t1_loop.trips) : k0_cond3 i k = 1#1 ↔ (qn i k - 1) % 4 ≠ 2 := by
  have h : ∀ (a : Fin 4) (b : Fin k0_t1_loop.trips), k0_cond3 (pt a) b = 1#1 ↔ ((4 * a.val + b.val) - 1) % 4 ≠ 2 := by decide +kernel
  exact h (i 2) k

end Cert.Proof.Diff

end
-- ==== Proof.Tile.lean ====
module

public import proofs.«01_k».proof.Proof.Trips
public import proofs.«01_k».proof.Proof.Spec
public import proofs.«01_k».proof.Proof.Offsets
public import Idealize.ShloMosaic.Lib.Pipeline.Value

@[expose] public section

set_option maxRecDepth 16384

noncomputable section

namespace Cert.Proof.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a key tile. -/
theorem ld_ktile (v : View sig .tc .vmem S1x4096x128 .bf16) (f : v.ty.Contents (Elt F)) {off : Fin 3 → ℕ} {n : ℕ} (h : off = ![0, 256 * (n % 16), 0])
    (inb : ∀ a, off a + S1x256x128.size a ≤ S1x4096x128.size a) :
    v.readAt (Elt F) (Rect.unit (s := S1x4096x128) off S1x256x128.size inb).toLoadRect f = ktile (v.read (Elt F) f) n := by
  subst h; rfl

/-- A load of a value tile. -/
theorem ld_vtile (v : View sig .tc .vmem S1x1x16x144x256 .bf16) (f : v.ty.Contents (Elt F)) {off : Fin 5 → ℕ} {n : ℕ} (h : off = ![0, 0, n % 16, 0, 0])
    (inb : ∀ a, off a + S1x1x1x144x256.size a ≤ S1x1x16x144x256.size a) :
    v.readAt (Elt F) (Rect.unit (s := S1x1x16x144x256) off S1x1x1x144x256.size inb).toLoadRect f = vtile (v.read (Elt F) f) n := by
  subst h; rfl

/-- A load of a bias tile. -/
theorem ld_btile (v : View sig .tc .vmem S1x2x256x256 .f32) (f : v.ty.Contents (Elt F)) {off : Fin 4 → ℕ} {n : ℕ} (h : off = ![0, n % 2, 0, 0])
    (inb : ∀ a, off a + S1x1x256x256.size a ≤ S1x2x256x256.size a) :
    v.readAt (Elt F) (Rect.unit (s := S1x2x256x256) off S1x1x256x256.size inb).toLoadRect f = btile (v.read (Elt F) f) n := by
  subst h; rfl

/-- A load of the whole accumulator. -/
theorem readCov_read (v : View sig .tc .vmem S144x512 .f32) (L : List (View.Piece (Elt F) S144x512 .f32)) (inb : ∀ a, (![0, 0] : Fin 2 → ℕ) a + S144x512.size a ≤ S144x512.size a) :
    v.readCov L (Rect.unit (s := S144x512) ![0, 0] S144x512.size inb).toLoadRect = v.read (Elt F) (v.writes (Elt F) v.junk L) :=
  View.readAt_full v _ inb

/-- A load of part of the accumulator after a store of all of it. -/
theorem readCov_window (v : View sig .tc .vmem S144x512 .f32) (L : List (View.Piece (Elt F) S144x512 .f32)) (inb' : ∀ a, (![0, 0] : Fin 2 → ℕ) a + S144x512.size a ≤ S144x512.size a)
    (w : Vec F S144x512 .f32) {off size : Fin 2 → ℕ} (inb : ∀ a, off a + size a ≤ S144x512.size a) :
    v.readCov (⟨Rect.unit (s := S144x512) ![0, 0] S144x512.size inb', w⟩ :: L) (Rect.unit (s := S144x512) off size inb).toLoadRect = VecWindow.window w off size inb := by
  refine (View.readAt_unit v _ inb rfl inb).trans ?_
  rw [View.read_writes_full]

/-- A load of a query tile. -/
theorem ld_qtile (v : View sig .tc .vmem S1x1024x128 .bf16) (f : v.ty.Contents (Elt F)) {off : Fin 3 → ℕ} {n : ℕ} (h : off = ![0, 256 * (n % 4), 0])
    (inb : ∀ a, off a + S1x256x128.size a ≤ S1x1024x128.size a) :
    v.readAt (Elt F) (Rect.unit (s := S1x1024x128) off S1x256x128.size inb).toLoadRect f = qtile (v.read (Elt F) f) n := by
  subst h; rfl

/-- One trip of the loop over groups of four: the maxima it yields. -/
theorem trip2_m (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (w0 w1 : BitVec 32) (k : Fin k0_t1_loop.trips) (v6 v9 : Vec F S1x256x128 .bf16) (X5 : BufTy.Contents (Elt F) arg5.view.ty) (X6 : BufTy.Contents (Elt F) arg6.view.ty) (t : Fin (k0_t2_loop i k).trips) (m : FVec F S1x512 .f32) (f : BufTy.Contents (Elt F) arg14.view.ty) :
    tripR_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 t m f = (group ⟨m, arg14.view.read (Elt F) f⟩ (farTiles (queries v6 v9) (arg5.view.read (Elt F) X5) (arg6.view.read (Elt F) X6) (4 * t.val) 4)).m := by
  have raw : tripR_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 t m f
      = (group ⟨m, arg14.view.read (Elt F) f⟩ [(score (queries v6 v9) (arg5.view.readAt (Elt F) (Rect.unit (s := S1x4096x128) (k0_off2 i k t (BitVec.ofNat 32 ((0 : Fin 4).val))) S1x256x128.size (k0_off2_inb i k t 0)).toLoadRect X5), (arg6.view.readAt (Elt F) (Rect.unit (s := S1x1x16x144x256) (k0_off3 i k t (BitVec.ofNat 32 ((0 : Fin 4).val))) S1x1x1x144x256.size (k0_off3_inb i k t 0)).toLoadRect X6)), (score (queries v6 v9) (arg5.view.readAt (Elt F) (Rect.unit (s := S1x4096x128) (k0_off2 i k t (BitVec.ofNat 32 ((1 : Fin 4).val))) S1x256x128.size (k0_off2_inb i k t 1)).toLoadRect X5), (arg6.view.readAt (Elt F) (Rect.unit (s := S1x1x16x144x256) (k0_off3 i k t (BitVec.ofNat 32 ((1 : Fin 4).val))) S1x1x1x144x256.size (k0_off3_inb i k t 1)).toLoadRect X6)), (score (queries v6 v9) (arg5.view.readAt (Elt F) (Rect.unit (s := S1x4096x128) (k0_off2 i k t (BitVec.ofNat 32 ((2 : Fin 4).val))) S1x256x128.size (k0_off2_inb i k t 2)).toLoadRect X5), (arg6.view.readAt (Elt F) (Rect.unit (s := S1x1x16x144x256) (k0_off3 i k t (BitVec.ofNat 32 ((2 : Fin 4).val))) S1x1x1x144x256.size (k0_off3_inb i k t 2)).toLoadRect X6)), (score (queries v6 v9) (arg5.view.readAt (Elt F) (Rect.unit (s := S1x4096x128) (k0_off2 i k t (BitVec.ofNat 32 ((3 : Fin 4).val))) S1x256x128.size (k0_off2_inb i k t 3)).toLoadRect X5), (arg6.view.readAt (Elt F) (Rect.unit (s := S1x1x16x144x256) (k0_off3 i k t (BitVec.ofNat 32 ((3 : Fin 4).val))) S1x1x1x144x256.size (k0_off3_inb i k t 3)).toLoadRect X6))]).m := by
    unfold tripR_k0_t2 trip_k0_t2
    rfl
  rw [raw, ld_ktile arg5.view X5 (off2_eq i k t 0), ld_ktile arg5.view X5 (off2_eq i k t 1), ld_ktile arg5.view X5 (off2_eq i k t 2), ld_ktile arg5.view X5 (off2_eq i k t 3), ld_vtile arg6.view X6 (off3_eq i k t 0), ld_vtile arg6.view X6 (off3_eq i k t 1), ld_vtile arg6.view X6 (off3_eq i k t 2), ld_vtile arg6.view X6 (off3_eq i k t 3)]
  rfl

/-- One trip of the loop over groups of four: what it stores in the accumulator. -/
theorem trip2_acc (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (w0 w1 : BitVec 32) (k : Fin k0_t1_loop.trips) (v6 v9 : Vec F S1x256x128 .bf16) (X5 : BufTy.Contents (Elt F) arg5.view.ty) (X6 : BufTy.Contents (Elt F) arg6.view.ty) (t : Fin (k0_t2_loop i k).trips) (m : FVec F S1x512 .f32) (f : BufTy.Contents (Elt F) arg14.view.ty) :
    tripL_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 t m f
      = [⟨Rect.unit (s := S144x512) ![0, 0] S144x512.size inb_S144x512_S144x512_0_0, (group ⟨m, arg14.view.read (Elt F) f⟩ (farTiles (queries v6 v9) (arg5.view.read (Elt F) X5) (arg6.view.read (Elt F) X6) (4 * t.val) 4)).acc⟩] := by
  have raw : tripL_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 t m f
      = [⟨Rect.unit (s := S144x512) ![0, 0] S144x512.size inb_S144x512_S144x512_0_0, shapeCast S144x512 ((group ⟨m, arg14.view.readAt (Elt F) (Rect.unit (s := S144x512) ![0, 0] S144x512.size inb_S144x512_S144x512_0_0).toLoadRect f⟩ [(score (queries v6 v9) (arg5.view.readAt (Elt F) (Rect.unit (s := S1x4096x128) (k0_off2 i k t (BitVec.ofNat 32 ((0 : Fin 4).val))) S1x256x128.size (k0_off2_inb i k t 0)).toLoadRect X5), (arg6.view.readAt (Elt F) (Rect.unit (s := S1x1x16x144x256) (k0_off3 i k t (BitVec.ofNat 32 ((0 : Fin 4).val))) S1x1x1x144x256.size (k0_off3_inb i k t 0)).toLoadRect X6)), (score (queries v6 v9) (arg5.view.readAt (Elt F) (Rect.unit (s := S1x4096x128) (k0_off2 i k t (BitVec.ofNat 32 ((1 : Fin 4).val))) S1x256x128.size (k0_off2_inb i k t 1)).toLoadRect X5), (arg6.view.readAt (Elt F) (Rect.unit (s := S1x1x16x144x256) (k0_off3 i k t (BitVec.ofNat 32 ((1 : Fin 4).val))) S1x1x1x144x256.size (k0_off3_inb i k t 1)).toLoadRect X6)), (score (queries v6 v9) (arg5.view.readAt (Elt F) (Rect.unit (s := S1x4096x128) (k0_off2 i k t (BitVec.ofNat 32 ((2 : Fin 4).val))) S1x256x128.size (k0_off2_inb i k t 2)).toLoadRect X5), (arg6.view.readAt (Elt F) (Rect.unit (s := S1x1x16x144x256) (k0_off3 i k t (BitVec.ofNat 32 ((2 : Fin 4).val))) S1x1x1x144x256.size (k0_off3_inb i k t 2)).toLoadRect X6)), (score (queries v6 v9) (arg5.view.readAt (Elt F) (Rect.unit (s := S1x4096x128) (k0_off2 i k t (BitVec.ofNat 32 ((3 : Fin 4).val))) S1x256x128.size (k0_off2_inb i k t 3)).toLoadRect X5), (arg6.view.readAt (Elt F) (Rect.unit (s := S1x1x16x144x256) (k0_off3 i k t (BitVec.ofNat 32 ((3 : Fin 4).val))) S1x1x1x144x256.size (k0_off3_inb i k t 3)).toLoadRect X6))]).acc) shapeCasts_S144x512_S144x512⟩] := by
    unfold tripL_k0_t2 trip_k0_t2
    rfl
  rw [raw]; simp only [shapeCast_self]
  rw [View.readAt_full, ld_ktile arg5.view X5 (off2_eq i k t 0), ld_ktile arg5.view X5 (off2_eq i k t 1), ld_ktile arg5.view X5 (off2_eq i k t 2), ld_ktile arg5.view X5 (off2_eq i k t 3), ld_vtile arg6.view X6 (off3_eq i k t 0), ld_vtile arg6.view X6 (off3_eq i k t 1), ld_vtile arg6.view X6 (off3_eq i k t 2), ld_vtile arg6.view X6 (off3_eq i k t 3)]
  rfl

/-- The loop over groups of four, before trip `n`: its carried maxima and what the accumulator reads. -/
theorem loop2_eq (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (w0 w1 : BitVec 32) (k : Fin k0_t1_loop.trips) (v6 v9 : Vec F S1x256x128 .bf16) (X5 : BufTy.Contents (Elt F) arg5.view.ty) (X6 : BufTy.Contents (Elt F) arg6.view.ty) (G : BufTy.Contents (Elt F) arg14.view.ty) (init : FVec F S1x512 .f32)
    (hm : init = (st0 (F := F)).m) (ha : arg14.view.read (Elt F) G = (st0 (F := F)).acc) (n : ℕ) (hn : n ≤ (k0_t2_loop i k).trips) :
    (st_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 G init n).1 = (quads (queries v6 v9) (arg5.view.read (Elt F) X5) (arg6.view.read (Elt F) X6) n).m
      ∧ arg14.view.read (Elt F) (arg14.view.writes (Elt F) G (st_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 G init n).2) = (quads (queries v6 v9) (arg5.view.read (Elt F) X5) (arg6.view.read (Elt F) X6) n).acc := by
  induction n with
  | zero => exact ⟨hm, ha⟩
  | succ n ih =>
    obtain ⟨h1, h2⟩ := ih (by omega)
    rw [st_k0_t2_succ (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 G init ⟨n, hn⟩]
    dsimp only
    have e : (⟨(st_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 G init n).1, arg14.view.read (Elt F) (arg14.view.writes (Elt F) G (st_k0_t2 (F := F) Variants.none c none i arg3 harg3 arg4 harg4 arg5 harg5 arg6 harg6 arg7 harg7 arg8 harg8 arg9 harg9 arg10 harg10 arg11 harg11 arg12 harg12 arg13 harg13 arg14 harg14 arg2 w0 w1 k v6 v9 X5 X6 G init n).2)⟩ : St F)
        = quads (queries v6 v9) (arg5.view.read (Elt F) X5) (arg6.view.read (Elt F) X6) n := by
      rw [h1, h2]
    constructor
    · rw [trip2_m, e]; rfl
    · rw [trip2_acc, List.singleton_append, View.read_writes_full, e]; rfl

/-- The state and the pieces with which a query tile leaves the loop over groups of four. -/
def two (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) : FVec F S1x512 .f32 × List (View.Piece (Elt F) S144x512 .f32) :=
  st_k0_t2 (F := F) Variants.none c none i arg3 harg3 arg4 harg4 arg5 harg5 arg6 harg6 arg7 harg7 arg8 harg8 arg9 harg9 arg10 harg10 arg11 harg11 arg12 harg12 arg13 harg13 arg14 harg14 arg2 0#32 1#32 k (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4) X5 X6
    (arg14.view.writes (Elt F) arg14.view.junk [⟨Rect.unit (s := S144x512) ![0, 0] S144x512.size inb_S144x512_S144x512_0_0, k0_pay90⟩]) k0_pay91 (k0_t2_loop i k).trips

/-- And those with which it leaves the printed remainder loop. -/
def three (v24 : BitVec 32) (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) : FVec F S1x512 .f32 × List (View.Piece (Elt F) S144x512 .f32) :=
  st_k0_t3 (F := F) Variants.none c none i arg3 harg3 arg4 harg4 arg5 harg5 arg6 harg6 arg7 harg7 arg8 harg8 arg9 harg9 arg10 harg10 arg11 harg11 arg12 harg12 arg13 harg13 arg14 harg14 arg2 0#32 1#32 k (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4) v24 X5 X6
    (arg14.view.writes (Elt F) arg14.view.junk ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1 (k0_t3_loop i k).trips

/-- What a query tile with three left-over far tiles stores, in terms of its loads. -/
theorem rawThree (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : k0_cond2 i k = 1#1) (h3 : k0_cond3 i k = 1#1) : ∃ v24 : BitVec 32,
    (tripThree (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2 h3).1 = [⟨Rect.unit (s := S1x1024x128) (k0_off1 k) S1x256x128.size (k0_off1_inb k),
      k0_pay1 (k0_pay98
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off6 i k (BitVec.ofNat 32 ((0 : Fin 3).val))) S1x256x128.size (k0_off6_inb i k h1 h2 h3 0)).toLoadRect X5), (arg6.view.readAt (Elt F) (Rect.unit (s := S1x1x16x144x256) (k0_off9 i k (BitVec.ofNat 32 ((0 : Fin 3).val))) S1x1x1x144x256.size (k0_off9_inb i k h1 h2 h3 0)).toLoadRect X6)), (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off6 i k (BitVec.ofNat 32 ((1 : Fin 3).val))) S1x256x128.size (k0_off6_inb i k h1 h2 h3 1)).toLoadRect X5), (arg6.view.readAt (Elt F) (Rect.unit (s := S1x1x16x144x256) (k0_off9 i k (BitVec.ofNat 32 ((1 : Fin 3).val))) S1x1x1x144x256.size (k0_off9_inb i k h1 h2 h3 1)).toLoadRect X6)), (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off6 i k (BitVec.ofNat 32 ((2 : Fin 3).val))) S1x256x128.size (k0_off6_inb i k h1 h2 h3 2)).toLoadRect X5), (arg6.view.readAt (Elt F) (Rect.unit (s := S1x1x16x144x256) (k0_off9 i k (BitVec.ofNat 32 ((2 : Fin 3).val))) S1x1x1x144x256.size (k0_off9_inb i k h1 h2 h3 2)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off7 i k) S1x256x128.size (k0_off7_inb i k h1 h2 h3)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off10 i k) S1x1x1x144x256.size (k0_off10_inb i k h1 h2 h3)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off8 i k) S1x256x128.size (k0_off8_inb i k h1 h2 h3)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off11 i k) S1x1x1x144x256.size (k0_off11_inb i k h1 h2 h3)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![0, 0] S128x512.size inb_S144x512_S128x512_0_0).toLoadRect)
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off6 i k (BitVec.ofNat 32 ((0 : Fin 3).val))) S1x256x128.size (k0_off6_inb i k h1 h2 h3 0)).toLoadRect X5), (arg6.view.readAt (Elt F) (Rect.unit (s := S1x1x16x144x256) (k0_off9 i k (BitVec.ofNat 32 ((0 : Fin 3).val))) S1x1x1x144x256.size (k0_off9_inb i k h1 h2 h3 0)).toLoadRect X6)), (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off6 i k (BitVec.ofNat 32 ((1 : Fin 3).val))) S1x256x128.size (k0_off6_inb i k h1 h2 h3 1)).toLoadRect X5), (arg6.view.readAt (Elt F) (Rect.unit (s := S1x1x16x144x256) (k0_off9 i k (BitVec.ofNat 32 ((1 : Fin 3).val))) S1x1x1x144x256.size (k0_off9_inb i k h1 h2 h3 1)).toLoadRect X6)), (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off6 i k (BitVec.ofNat 32 ((2 : Fin 3).val))) S1x256x128.size (k0_off6_inb i k h1 h2 h3 2)).toLoadRect X5), (arg6.view.readAt (Elt F) (Rect.unit (s := S1x1x16x144x256) (k0_off9 i k (BitVec.ofNat 32 ((2 : Fin 3).val))) S1x1x1x144x256.size (k0_off9_inb i k h1 h2 h3 2)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off7 i k) S1x256x128.size (k0_off7_inb i k h1 h2 h3)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off10 i k) S1x1x1x144x256.size (k0_off10_inb i k h1 h2 h3)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off8 i k) S1x256x128.size (k0_off8_inb i k h1 h2 h3)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off11 i k) S1x1x1x144x256.size (k0_off11_inb i k h1 h2 h3)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![128, 0] S1x512.size inb_S144x512_S1x512_128_0).toLoadRect)
        (arg8.view.readAt (Elt F) (Rect.unit (s := S1x64) ![0, 0] S1x64.size inb_S1x64_S1x64_0_0).toLoadRect X8) (arg9.view.readAt (Elt F) (Rect.unit (s := S1x64) ![0, 0] S1x64.size inb_S1x64_S1x64_0_0).toLoadRect X9) (arg10.view.readAt (Elt F) (Rect.unit (s := S1x64) ![0, 0] S1x64.size inb_S1x64_S1x64_0_0).toLoadRect X10) (arg11.view.readAt (Elt F) (Rect.unit (s := S1x64) ![0, 0] S1x64.size inb_S1x64_S1x64_0_0).toLoadRect X11) (arg12.view.readAt (Elt F) (Rect.unit (s := S1x128) ![0, 0] S1x128.size inb_S1x128_S1x128_0_0).toLoadRect X12))⟩] := by
  refine ⟨tripThree.sl.v24 arg2 k, ?_⟩
  unfold tripThree
  rfl

/-- What a query tile with two left-over far tiles stores, in terms of its loads. -/
theorem rawTwo (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : k0_cond2 i k = 1#1) (h3 : ¬ k0_cond3 i k = 1#1) : ∃ v24 : BitVec 32,
    (tripTwo (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2 h3).1 = [⟨Rect.unit (s := S1x1024x128) (k0_off1 k) S1x256x128.size (k0_off1_inb k),
      k0_pay1 (k0_pay98
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off12 i k (BitVec.ofNat 32 ((0 : Fin 2).val))) S1x256x128.size (k0_off12_inb i k h1 h2 h3 0)).toLoadRect X5), (arg6.view.readAt (Elt F) (Rect.unit (s := S1x1x16x144x256) (k0_off15 i k (BitVec.ofNat 32 ((0 : Fin 2).val))) S1x1x1x144x256.size (k0_off15_inb i k h1 h2 h3 0)).toLoadRect X6)), (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off12 i k (BitVec.ofNat 32 ((1 : Fin 2).val))) S1x256x128.size (k0_off12_inb i k h1 h2 h3 1)).toLoadRect X5), (arg6.view.readAt (Elt F) (Rect.unit (s := S1x1x16x144x256) (k0_off15 i k (BitVec.ofNat 32 ((1 : Fin 2).val))) S1x1x1x144x256.size (k0_off15_inb i k h1 h2 h3 1)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off13 i k) S1x256x128.size (k0_off13_inb i k h1 h2 h3)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off16 i k) S1x1x1x144x256.size (k0_off16_inb i k h1 h2 h3)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off14 i k) S1x256x128.size (k0_off14_inb i k h1 h2 h3)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off17 i k) S1x1x1x144x256.size (k0_off17_inb i k h1 h2 h3)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![0, 0] S128x512.size inb_S144x512_S128x512_0_0).toLoadRect)
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off12 i k (BitVec.ofNat 32 ((0 : Fin 2).val))) S1x256x128.size (k0_off12_inb i k h1 h2 h3 0)).toLoadRect X5), (arg6.view.readAt (Elt F) (Rect.unit (s := S1x1x16x144x256) (k0_off15 i k (BitVec.ofNat 32 ((0 : Fin 2).val))) S1x1x1x144x256.size (k0_off15_inb i k h1 h2 h3 0)).toLoadRect X6)), (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off12 i k (BitVec.ofNat 32 ((1 : Fin 2).val))) S1x256x128.size (k0_off12_inb i k h1 h2 h3 1)).toLoadRect X5), (arg6.view.readAt (Elt F) (Rect.unit (s := S1x1x16x144x256) (k0_off15 i k (BitVec.ofNat 32 ((1 : Fin 2).val))) S1x1x1x144x256.size (k0_off15_inb i k h1 h2 h3 1)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off13 i k) S1x256x128.size (k0_off13_inb i k h1 h2 h3)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off16 i k) S1x1x1x144x256.size (k0_off16_inb i k h1 h2 h3)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off14 i k) S1x256x128.size (k0_off14_inb i k h1 h2 h3)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off17 i k) S1x1x1x144x256.size (k0_off17_inb i k h1 h2 h3)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![128, 0] S1x512.size inb_S144x512_S1x512_128_0).toLoadRect)
        (arg8.view.readAt (Elt F) (Rect.unit (s := S1x64) ![0, 0] S1x64.size inb_S1x64_S1x64_0_0).toLoadRect X8) (arg9.view.readAt (Elt F) (Rect.unit (s := S1x64) ![0, 0] S1x64.size inb_S1x64_S1x64_0_0).toLoadRect X9) (arg10.view.readAt (Elt F) (Rect.unit (s := S1x64) ![0, 0] S1x64.size inb_S1x64_S1x64_0_0).toLoadRect X10) (arg11.view.readAt (Elt F) (Rect.unit (s := S1x64) ![0, 0] S1x64.size inb_S1x64_S1x64_0_0).toLoadRect X11) (arg12.view.readAt (Elt F) (Rect.unit (s := S1x128) ![0, 0] S1x128.size inb_S1x128_S1x128_0_0).toLoadRect X12))⟩] := by
  refine ⟨tripTwo.sl.v24 arg2 k, ?_⟩
  unfold tripTwo
  rfl

/-- What a query tile with one left-over far tiles stores, in terms of its loads. -/
theorem rawOne (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : ¬ k0_cond2 i k = 1#1) : ∃ v24 : BitVec 32,
    (tripOne (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2).1 = [⟨Rect.unit (s := S1x1024x128) (k0_off1 k) S1x256x128.size (k0_off1_inb k),
      k0_pay1 (k0_pay98
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off18 i k) S1x256x128.size (k0_off18_inb i k h1 h2)).toLoadRect X5), (arg6.view.readAt (Elt F) (Rect.unit (s := S1x1x16x144x256) (k0_off21 i k) S1x1x1x144x256.size (k0_off21_inb i k h1 h2)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off19 i k) S1x256x128.size (k0_off19_inb i k h1 h2)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off22 i k) S1x1x1x144x256.size (k0_off22_inb i k h1 h2)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off20 i k) S1x256x128.size (k0_off20_inb i k h1 h2)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off23 i k) S1x1x1x144x256.size (k0_off23_inb i k h1 h2)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![0, 0] S128x512.size inb_S144x512_S128x512_0_0).toLoadRect)
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off18 i k) S1x256x128.size (k0_off18_inb i k h1 h2)).toLoadRect X5), (arg6.view.readAt (Elt F) (Rect.unit (s := S1x1x16x144x256) (k0_off21 i k) S1x1x1x144x256.size (k0_off21_inb i k h1 h2)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off19 i k) S1x256x128.size (k0_off19_inb i k h1 h2)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off22 i k) S1x1x1x144x256.size (k0_off22_inb i k h1 h2)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off20 i k) S1x256x128.size (k0_off20_inb i k h1 h2)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off23 i k) S1x1x1x144x256.size (k0_off23_inb i k h1 h2)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![128, 0] S1x512.size inb_S144x512_S1x512_128_0).toLoadRect)
        (arg8.view.readAt (Elt F) (Rect.unit (s := S1x64) ![0, 0] S1x64.size inb_S1x64_S1x64_0_0).toLoadRect X8) (arg9.view.readAt (Elt F) (Rect.unit (s := S1x64) ![0, 0] S1x64.size inb_S1x64_S1x64_0_0).toLoadRect X9) (arg10.view.readAt (Elt F) (Rect.unit (s := S1x64) ![0, 0] S1x64.size inb_S1x64_S1x64_0_0).toLoadRect X10) (arg11.view.readAt (Elt F) (Rect.unit (s := S1x64) ![0, 0] S1x64.size inb_S1x64_S1x64_0_0).toLoadRect X11) (arg12.view.readAt (Elt F) (Rect.unit (s := S1x128) ![0, 0] S1x128.size inb_S1x128_S1x128_0_0).toLoadRect X12))⟩] := by
  refine ⟨tripOne.sl.v24 arg2 k, ?_⟩
  unfold tripOne
  rfl

/-- What a query tile with none left-over far tiles stores, in terms of its loads. -/
theorem rawNone (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : ¬ k0_cond1 i k = 1#1) : ∃ v24 : BitVec 32,
    (tripNone (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1).1 = [⟨Rect.unit (s := S1x1024x128) (k0_off1 k) S1x256x128.size (k0_off1_inb k),
      k0_pay1 (k0_pay98
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off24 i k) S1x256x128.size (k0_off24_inb i k h1)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off26 i k) S1x1x1x144x256.size (k0_off26_inb i k h1)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off25 i k) S1x256x128.size (k0_off25_inb i k h1)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off27 i k) S1x1x1x144x256.size (k0_off27_inb i k h1)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![0, 0] S128x512.size inb_S144x512_S128x512_0_0).toLoadRect)
        (arg14.view.readCov (⟨Rect.unit (s := S144x512) ![0, 0] S144x512.size inb_S144x512_S144x512_0_0, shapeCast S144x512 (group ⟨(three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, arg14.view.readCov ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) (Rect.unit (s := S144x512) ![0, 0] S144x512.size inb_S144x512_S144x512_0_0).toLoadRect⟩ [(addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off24 i k) S1x256x128.size (k0_off24_inb i k h1)).toLoadRect X5)) (biasNear (Scalar.addi (Scalar.muli arg2 4#32) (Scf.iv 0#32 1#32 k.val)) (arg7.view.readAt (Elt F) (Rect.unit (s := S1x2x256x256) ![0, 1, 0, 0] S1x1x256x256.size inb_S1x2x256x256_S1x1x256x256_0_1_0_0).toLoadRect X7)), (arg6.view.readAt (Elt F) (Rect.unit (s := S1x1x16x144x256) (k0_off26 i k) S1x1x1x144x256.size (k0_off26_inb i k h1)).toLoadRect X6)), (addf (score (queries (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4)) (arg5.view.readAt (Elt F) (Rect.unit (s := S1x4096x128) (k0_off25 i k) S1x256x128.size (k0_off25_inb i k h1)).toLoadRect X5)) (biasTwice (arg7.view.readAt (Elt F) (Rect.unit (s := S1x2x256x256) ![0, 0, 0, 0] S1x1x256x256.size inb_S1x2x256x256_S1x1x256x256_0_0_0_0).toLoadRect X7)), (arg6.view.readAt (Elt F) (Rect.unit (s := S1x1x16x144x256) (k0_off27 i k) S1x1x1x144x256.size (k0_off27_inb i k h1)).toLoadRect X6))]).acc shapeCasts_S144x512_S144x512⟩ :: ((three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])))
          (Rect.unit (s := S144x512) ![128, 0] S1x512.size inb_S144x512_S1x512_128_0).toLoadRect)
        (arg8.view.readAt (Elt F) (Rect.unit (s := S1x64) ![0, 0] S1x64.size inb_S1x64_S1x64_0_0).toLoadRect X8) (arg9.view.readAt (Elt F) (Rect.unit (s := S1x64) ![0, 0] S1x64.size inb_S1x64_S1x64_0_0).toLoadRect X9) (arg10.view.readAt (Elt F) (Rect.unit (s := S1x64) ![0, 0] S1x64.size inb_S1x64_S1x64_0_0).toLoadRect X10) (arg11.view.readAt (Elt F) (Rect.unit (s := S1x64) ![0, 0] S1x64.size inb_S1x64_S1x64_0_0).toLoadRect X11) (arg12.view.readAt (Elt F) (Rect.unit (s := S1x128) ![0, 0] S1x128.size inb_S1x128_S1x128_0_0).toLoadRect X12))⟩] := by
  refine ⟨tripNone.sl.v24 arg2 k, ?_⟩
  unfold tripNone
  rfl

/-- A query tile leaves the loop over groups of four in the state after all of them. -/
theorem two_eq (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) :
    (two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1 = (quads (queries (qtile (arg3.view.read (Elt F) X3) k.val) (qtile (arg4.view.read (Elt F) X4) k.val)) (arg5.view.read (Elt F) X5) (arg6.view.read (Elt F) X6) ((qn i k - 1) / 4)).m
      ∧ arg14.view.read (Elt F) (arg14.view.writes (Elt F) arg14.view.junk ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).2 ++ [⟨Rect.unit (s := S144x512) ![0, 0] S144x512.size inb_S144x512_S144x512_0_0, k0_pay90⟩])) = (quads (queries (qtile (arg3.view.read (Elt F) X3) k.val) (qtile (arg4.view.read (Elt F) X4) k.val)) (arg5.view.read (Elt F) X5) (arg6.view.read (Elt F) X6) ((qn i k - 1) / 4)).acc := by
  have hq3 := ld_qtile arg3.view X3 (off1_eq k) (k0_off1_inb k)
  have hq4 := ld_qtile arg4.view X4 (off1_eq k) (k0_off1_inb k)
  have h := loop2_eq (F := F) c i arg3 harg3 arg4 harg4 arg5 harg5 arg6 harg6 arg7 harg7 arg8 harg8 arg9 harg9 arg10 harg10 arg11 harg11 arg12 harg12 arg13 harg13 arg14 harg14 arg2 0#32 1#32 k (arg3.view.readAt (Elt F) (Rect.unit (s := S1x1024x128) (k0_off1 k) S1x256x128.size (k0_off1_inb k)).toLoadRect X3) (arg4.view.readAt (Elt F) (Rect.unit (s := S1x1024x128) (k0_off1 k) S1x256x128.size (k0_off1_inb k)).toLoadRect X4) X5 X6
    (arg14.view.writes (Elt F) arg14.view.junk [⟨Rect.unit (s := S144x512) ![0, 0] S144x512.size inb_S144x512_S144x512_0_0, k0_pay90⟩]) k0_pay91 rfl
    (by rw [View.read_writes_full]; exact shapeCast_self _ _) (k0_t2_loop i k).trips le_rfl
  rw [← trips2_eq i k, ← hq3, ← hq4]
  refine ⟨h.1, ?_⟩
  rw [View.writes_append]
  exact h.2

/-- It leaves the printed remainder loop as it entered it. -/
theorem three_eq (v24 : BitVec 32) (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) :
    three (F := F) v24 c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k = ((two (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k).1, []) := by
  unfold three
  rw [trips3_eq i k]
  rfl

/-- What a query tile with three left-over far tiles stores. -/
theorem tripThree_eq (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : k0_cond2 i k = 1#1) (h3 : k0_cond3 i k = 1#1) :
    (tripThree (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2 h3).1 = [⟨Rect.unit (s := S1x1024x128) (k0_off1 k) S1x256x128.size (k0_off1_inb k),
      tileOut (Scalar.addi (Scalar.muli arg2 4#32) (Scf.iv 0#32 1#32 k.val)) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (qn i k) k.val⟩] := by
  obtain ⟨v24, e⟩ := rawThree (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2 h3
  have hmod : (qn i k - 1) % 4 = 3 := by have a1 := (cond1_iff i k).1 h1; have a2 := (cond2_iff i k).1 h2; have a3 := (cond3_iff i k).1 h3; omega
  have hq3 := ld_qtile arg3.view X3 (off1_eq k) (k0_off1_inb k)
  have hq4 := ld_qtile arg4.view X4 (off1_eq k) (k0_off1_inb k)
  obtain ⟨e1, e2⟩ := two_eq (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k
  rw [e, three_eq]
  simp only [List.nil_append, shapeCast_self]
  rw [readCov_window, readCov_window, readCov_read, e1, e2, hq3, hq4, ld_ktile arg5.view X5 (off6_eq i k 0), ld_ktile arg5.view X5 (off6_eq i k 1), ld_ktile arg5.view X5 (off6_eq i k 2), ld_ktile arg5.view X5 (off7_eq i k), ld_ktile arg5.view X5 (off8_eq i k), ld_vtile arg6.view X6 (off9_eq i k 0), ld_vtile arg6.view X6 (off9_eq i k 1), ld_vtile arg6.view X6 (off9_eq i k 2), ld_vtile arg6.view X6 (off10_eq i k), ld_vtile arg6.view X6 (off11_eq i k),
    ld_btile arg7.view X7 (n := 1) rfl, ld_btile arg7.view X7 (n := 0) rfl,
    View.readAt_full, View.readAt_full, View.readAt_full, View.readAt_full, View.readAt_full]
  unfold tileOut tileState
  rw [hmod]
  rfl

/-- What a query tile with two left-over far tiles stores. -/
theorem tripTwo_eq (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : k0_cond2 i k = 1#1) (h3 : ¬ k0_cond3 i k = 1#1) :
    (tripTwo (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2 h3).1 = [⟨Rect.unit (s := S1x1024x128) (k0_off1 k) S1x256x128.size (k0_off1_inb k),
      tileOut (Scalar.addi (Scalar.muli arg2 4#32) (Scf.iv 0#32 1#32 k.val)) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (qn i k) k.val⟩] := by
  obtain ⟨v24, e⟩ := rawTwo (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2 h3
  have hmod : (qn i k - 1) % 4 = 2 := by have a1 := (cond1_iff i k).1 h1; have a2 := (cond2_iff i k).1 h2; have a3 := mt (cond3_iff i k).2 h3; omega
  have hq3 := ld_qtile arg3.view X3 (off1_eq k) (k0_off1_inb k)
  have hq4 := ld_qtile arg4.view X4 (off1_eq k) (k0_off1_inb k)
  obtain ⟨e1, e2⟩ := two_eq (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k
  rw [e, three_eq]
  simp only [List.nil_append, shapeCast_self]
  rw [readCov_window, readCov_window, readCov_read, e1, e2, hq3, hq4, ld_ktile arg5.view X5 (off12_eq i k 0), ld_ktile arg5.view X5 (off12_eq i k 1), ld_ktile arg5.view X5 (off13_eq i k), ld_ktile arg5.view X5 (off14_eq i k), ld_vtile arg6.view X6 (off15_eq i k 0), ld_vtile arg6.view X6 (off15_eq i k 1), ld_vtile arg6.view X6 (off16_eq i k), ld_vtile arg6.view X6 (off17_eq i k),
    ld_btile arg7.view X7 (n := 1) rfl, ld_btile arg7.view X7 (n := 0) rfl,
    View.readAt_full, View.readAt_full, View.readAt_full, View.readAt_full, View.readAt_full]
  unfold tileOut tileState
  rw [hmod]
  rfl

/-- What a query tile with one left-over far tiles stores. -/
theorem tripOne_eq (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : k0_cond1 i k = 1#1) (h2 : ¬ k0_cond2 i k = 1#1) :
    (tripOne (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2).1 = [⟨Rect.unit (s := S1x1024x128) (k0_off1 k) S1x256x128.size (k0_off1_inb k),
      tileOut (Scalar.addi (Scalar.muli arg2 4#32) (Scf.iv 0#32 1#32 k.val)) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (qn i k) k.val⟩] := by
  obtain ⟨v24, e⟩ := rawOne (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1 h2
  have hmod : (qn i k - 1) % 4 = 1 := by have a1 := (cond1_iff i k).1 h1; have a2 := mt (cond2_iff i k).2 h2; omega
  have hq3 := ld_qtile arg3.view X3 (off1_eq k) (k0_off1_inb k)
  have hq4 := ld_qtile arg4.view X4 (off1_eq k) (k0_off1_inb k)
  obtain ⟨e1, e2⟩ := two_eq (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k
  rw [e, three_eq]
  simp only [List.nil_append, shapeCast_self]
  rw [readCov_window, readCov_window, readCov_read, e1, e2, hq3, hq4, ld_ktile arg5.view X5 (off18_eq i k), ld_ktile arg5.view X5 (off19_eq i k), ld_ktile arg5.view X5 (off20_eq i k), ld_vtile arg6.view X6 (off21_eq i k), ld_vtile arg6.view X6 (off22_eq i k), ld_vtile arg6.view X6 (off23_eq i k),
    ld_btile arg7.view X7 (n := 1) rfl, ld_btile arg7.view X7 (n := 0) rfl,
    View.readAt_full, View.readAt_full, View.readAt_full, View.readAt_full, View.readAt_full]
  unfold tileOut tileState
  rw [hmod]
  rfl

/-- What a query tile with none left-over far tiles stores. -/
theorem tripNone_eq (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (arg2 : BitVec 32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (h1 : ¬ k0_cond1 i k = 1#1) :
    (tripNone (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1).1 = [⟨Rect.unit (s := S1x1024x128) (k0_off1 k) S1x256x128.size (k0_off1_inb k),
      tileOut (Scalar.addi (Scalar.muli arg2 4#32) (Scf.iv 0#32 1#32 k.val)) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (qn i k) k.val⟩] := by
  obtain ⟨v24, e⟩ := rawNone (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k h1
  have hmod : (qn i k - 1) % 4 = 0 := by have a1 := mt (cond1_iff i k).2 h1; omega
  have hq3 := ld_qtile arg3.view X3 (off1_eq k) (k0_off1_inb k)
  have hq4 := ld_qtile arg4.view X4 (off1_eq k) (k0_off1_inb k)
  obtain ⟨e1, e2⟩ := two_eq (F := F) c i arg3 harg3 arg4 harg4 arg5 harg5 arg6 harg6 arg7 harg7 arg8 harg8 arg9 harg9 arg10 harg10 arg11 harg11 arg12 harg12 arg13 harg13 arg14 harg14 arg2 X3 X4 X5 X6 X7 X8 X9 X10 X11 X12 k
  rw [e, three_eq]
  simp only [List.nil_append, shapeCast_self]
  rw [readCov_window, readCov_window, readCov_read, e1, e2, hq3, hq4, ld_ktile arg5.view X5 (off24_eq i k), ld_ktile arg5.view X5 (off25_eq i k), ld_vtile arg6.view X6 (off26_eq i k), ld_vtile arg6.view X6 (off27_eq i k),
    ld_btile arg7.view X7 (n := 1) rfl, ld_btile arg7.view X7 (n := 0) rfl,
    View.readAt_full, View.readAt_full, View.readAt_full, View.readAt_full, View.readAt_full]
  unfold tileOut tileState
  rw [hmod]
  rfl

end Cert.Proof.Diff

end
-- ==== Proof.Body.lean ====
module

public import proofs.«01_k».proof.Proof.Gen.KernelIdeal.Frame
public import proofs.«01_k».proof.Proof.Tile
public import Idealize.ShloMosaic.Lib.Tactic
public import Idealize.ShloMosaic.PureOps.BitExact

@[expose] public section

set_option maxRecDepth 16384

noncomputable section

namespace Cert.Proof.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `r`, column `d` of a query tile's output. -/
def tix (r : ℕ) (hr : r < 256) (d : Fin 128) : S1x256x128.Idx := fun a => ⟨(![0, r, d.val] : Fin 3 → ℕ) a, by fin_cases a <;> simp [S1x256x128] <;> omega⟩

/-- The output block of a grid point: its four query tiles, one below the other. -/
def blockOut (i : grid0.Coords) (x3 : Vec F S1x1024x128 .bf16) (x4 : Vec F S1x1024x128 .bf16) (x5 : Vec F S1x4096x128 .bf16) (x6 : Vec F S1x1x16x144x256 .bf16) (x7 : Vec F S1x2x256x256 .f32) (x8 : Vec F S1x64 .f32) (x9 : Vec F S1x64 .f32) (x10 : Vec F S1x64 .f32) (x11 : Vec F S1x64 .f32) (x12 : Vec F S1x128 .f32) : Vec F S1x1024x128 .f32 := fun y =>
  tileOut (Scalar.addi (Scalar.muli (BitVec.ofNat 32 (i 2).val) 4#32) (Scf.iv 0#32 1#32 ((y 1).val / 256))) x3 x4 x5 x6 x7 x8 x9 x10 x11 x12 (4 * (i 2).val + (y 1).val / 256) ((y 1).val / 256)
    (tix ((y 1).val % 256) (Nat.mod_lt _ (by decide)) ⟨(y 2).val, (y 2).isLt⟩)

/-- A query tile's store extends the rows that hold the block. -/
theorem store_rows (i : grid0.Coords) (v : View sig .tc .vmem S1x1024x128 .f32) (f : v.ty.Contents (Elt F)) (x3 : Vec F S1x1024x128 .bf16) (x4 : Vec F S1x1024x128 .bf16) (x5 : Vec F S1x4096x128 .bf16) (x6 : Vec F S1x1x16x144x256 .bf16) (x7 : Vec F S1x2x256x256 .f32) (x8 : Vec F S1x64 .f32) (x9 : Vec F S1x64 .f32) (x10 : Vec F S1x64 .f32) (x11 : Vec F S1x64 .f32) (x12 : Vec F S1x128 .f32) (k : Fin k0_t1_loop.trips)
    (hf : ∀ y : S1x1024x128.Idx, (y 1).val < 256 * k.val → v.read (Elt F) f y = blockOut i x3 x4 x5 x6 x7 x8 x9 x10 x11 x12 y)
    (y : S1x1024x128.Idx) (hy : (y 1).val < 256 * (k.val + 1)) :
    v.read (Elt F) (v.writes (Elt F) f [⟨Rect.unit (s := S1x1024x128) (k0_off1 k) S1x256x128.size (k0_off1_inb k),
      tileOut (Scalar.addi (Scalar.muli (BitVec.ofNat 32 (i 2).val) 4#32) (Scf.iv 0#32 1#32 k.val)) x3 x4 x5 x6 x7 x8 x9 x10 x11 x12 (qn i k) k.val⟩]) y = blockOut i x3 x4 x5 x6 x7 x8 x9 x10 x11 x12 y := by
  have hk : k.val < 4 := k.isLt
  have ho := off1_eq k
  rw [Nat.mod_eq_of_lt hk] at ho
  by_cases h : (y 1).val < 256 * k.val
  · refine (View.read_writes_cons_unit_of_not_mem v f (k0_off1_inb k) _ [] y ho 1 (Or.inl h)).trans (hf y h)
  · have h1 : (y 1).val / 256 = k.val := by omega
    refine (View.read_writes_cons_unit_of_mem v f (k0_off1_inb k) _ [] y (tix ((y 1).val % 256) (Nat.mod_lt _ (by decide)) ⟨(y 2).val, (y 2).isLt⟩) ho ?_).trans ?_
    · intro a
      have h0 : (y 0).val < 1 := (y 0).isLt
      fin_cases a
      · show (y 0).val = 0 + 0; omega
      · show (y 1).val = 256 * k.val + (y 1).val % 256; omega
      · show (y 2).val = 0 + (y 2).val; omega
    · unfold blockOut; rw [h1]

/-- Before query tile `k`: the ten blocks as found, the rows of the earlier tiles done, the accumulator at anything. -/
abbrev rowsInv (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : ℕ) (_ : PUnit) : sProp 𝕄 :=
  iprop(ins (F := F) c arg3 arg4 arg5 arg6 arg7 arg8 arg9 arg10 arg11 arg12 X3 X4 X5 X6 X7 X8 X9 X10 X11 X12 ∗ (∃ f, (arg13.view.loc (c : Thread nD τ) ↦[arg13.view.set]{fullShare} f) ∗ ⌜∀ y : S1x1024x128.Idx, (y 1).val < 256 * k → arg13.view.read (Elt F) f y = blockOut i (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) y⌝) ∗ (∃ g, (arg14.view.loc (c : Thread nD τ) ↦[arg14.view.set]{fullShare} g)))

/-- One query tile keeps it. -/
theorem rows_step (E : Set ℕ) (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (acc : PUnit) :
    rowsInv (F := F) c i arg3 harg3 arg4 harg4 arg5 harg5 arg6 harg6 arg7 harg7 arg8 harg8 arg9 harg9 arg10 harg10 arg11 harg11 arg12 harg12 arg13 harg13 arg14 harg14 X3 X4 X5 X6 X7 X8 X9 X10 X11 X12 k.val acc
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 (BitVec.ofNat 32 (i 2).val) k acc)
          (rowsInv (F := F) c i arg3 harg3 arg4 harg4 arg5 harg5 arg6 harg6 arg7 harg7 arg8 harg8 arg9 harg9 arg10 harg10 arg11 harg11 arg12 harg12 arg13 harg13 arg14 harg14 X3 X4 X5 X6 X7 X8 X9 X10 X11 X12 (k.val + 1)) := by
  have key : ∃ L : List (View.Piece (Elt F) S1x1024x128 .f32),
      L = [⟨Rect.unit (s := S1x1024x128) (k0_off1 k) S1x256x128.size (k0_off1_inb k), tileOut (Scalar.addi (Scalar.muli (BitVec.ofNat 32 (i 2).val) 4#32) (Scf.iv 0#32 1#32 k.val)) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (qn i k) k.val⟩] ∧
      ∀ (f : BufTy.Contents (Elt F) arg13.view.ty) (g : BufTy.Contents (Elt F) arg14.view.ty),
      iprop(ins (F := F) c arg3 arg4 arg5 arg6 arg7 arg8 arg9 arg10 arg11 arg12 X3 X4 X5 X6 X7 X8 X9 X10 X11 X12 ∗ (arg13.view.loc (c : Thread nD τ) ↦[arg13.view.set]{fullShare} f) ∗ (arg14.view.loc (c : Thread nD τ) ↦[arg14.view.set]{fullShare} g))
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 (BitVec.ofNat 32 (i 2).val) k ())
          (fun _ => iprop(ins (F := F) c arg3 arg4 arg5 arg6 arg7 arg8 arg9 arg10 arg11 arg12 X3 X4 X5 X6 X7 X8 X9 X10 X11 X12 ∗ (arg13.view.loc (c : Thread nD τ) ↦[arg13.view.set]{fullShare} arg13.view.writes (Elt F) f L) ∗ (∃ g, (arg14.view.loc (c : Thread nD τ) ↦[arg14.view.set]{fullShare} g)))) := by
    by_cases h1 : k0_cond1 i k = 1#1
    · by_cases h2 : k0_cond2 i k = 1#1
      · by_cases h3 : k0_cond3 i k = 1#1
        · exact ⟨_, tripThree_eq (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1 h2 h3, fun f g => (tripThree (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1 h2 h3).2 E f g⟩
        · exact ⟨_, tripTwo_eq (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1 h2 h3, fun f g => (tripTwo (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1 h2 h3).2 E f g⟩
      · exact ⟨_, tripOne_eq (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1 h2, fun f g => (tripOne (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1 h2).2 E f g⟩
    · exact ⟨_, tripNone_eq (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1, fun f g => (tripNone (F := F) c i arg3 harg3 arg4 harg4 arg5 harg5 arg6 harg6 arg7 harg7 arg8 harg8 arg9 harg9 arg10 harg10 arg11 harg11 arg12 harg12 arg13 harg13 arg14 harg14 (BitVec.ofNat 32 (i 2).val) X3 X4 X5 X6 X7 X8 X9 X10 X11 X12 k h1).2 E f g⟩
  obtain ⟨L, rfl, run⟩ := key
  iintro ⟨HI, ⟨%f, H13, %hf⟩, %g, H14⟩
  iapply (wp_wand_r Idealize.ShloMosaic.frame (wpE (defs₀ (F := F)) Variants.none (c : Thread nD τ) none) E)
  isplitl [HI H13 H14]
  · iapply (run f g)
    isplitl [HI]; · iexact HI
    isplitl [H13]; · iexact H13
    iexact H14
  · iintro %u ⟨HI, H13, %g', H14⟩
    isplitl [HI]; · iexact HI
    isplitl [H13]
    · iexists _; isplitl [H13]; · iexact H13
      ipureintro
      exact fun y hy => store_rows i arg13.view f (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) k hf y hy
    · iexists _; iexact H14

/-- The ten blocks a grid point reads, by their values. -/
abbrev insX (c : Dev nD) (arg3 : Memref sig .tc .vmem S1x1024x128 .bf16) (arg4 : Memref sig .tc .vmem S1x1024x128 .bf16) (arg5 : Memref sig .tc .vmem S1x4096x128 .bf16) (arg6 : Memref sig .tc .vmem S1x1x16x144x256 .bf16) (arg7 : Memref sig .tc .vmem S1x2x256x256 .f32) (arg8 : Memref sig .tc .vmem S1x64 .f32) (arg9 : Memref sig .tc .vmem S1x64 .f32) (arg10 : Memref sig .tc .vmem S1x64 .f32) (arg11 : Memref sig .tc .vmem S1x64 .f32) (arg12 : Memref sig .tc .vmem S1x128 .f32) (x3 : Vec F S1x1024x128 .bf16) (x4 : Vec F S1x1024x128 .bf16) (x5 : Vec F S1x4096x128 .bf16) (x6 : Vec F S1x1x16x144x256 .bf16) (x7 : Vec F S1x2x256x256 .f32) (x8 : Vec F S1x64 .f32) (x9 : Vec F S1x64 .f32) (x10 : Vec F S1x64 .f32) (x11 : Vec F S1x64 .f32) (x12 : Vec F S1x128 .f32) : sProp 𝕄 := iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12)

/-- The kernel at one grid point: from its ten blocks, the output block and the accumulator at anything, it returns with the
    output block holding its four query tiles. -/
theorem kernel_run (E : Set ℕ) (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x2x256x256 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S144x512 .f32) (harg14 : arg14.IsWhole) (x3 : Vec F S1x1024x128 .bf16) (x4 : Vec F S1x1024x128 .bf16) (x5 : Vec F S1x4096x128 .bf16) (x6 : Vec F S1x1x16x144x256 .bf16) (x7 : Vec F S1x2x256x256 .f32) (x8 : Vec F S1x64 .f32) (x9 : Vec F S1x64 .f32) (x10 : Vec F S1x64 .f32) (x11 : Vec F S1x64 .f32) (x12 : Vec F S1x128 .f32) :
    iprop(insX (F := F) c arg3 arg4 arg5 arg6 arg7 arg8 arg9 arg10 arg11 arg12 x3 x4 x5 x6 x7 x8 x9 x10 x11 x12 ∗ (∃ d, (owns (c : Thread nD τ) arg13 fullShare d : sProp 𝕄)) ∗ (∃ d, (owns (c : Thread nD τ) arg14 fullShare d : sProp 𝕄)))
      ⊢ wp frame (wpE (defs₀ (F := F)) Variants.none (c : Thread nD τ) none) E (cc0_diff_prompt (F := F) i arg3 harg3 arg4 harg4 arg5 harg5 arg6 harg6 arg7 harg7 arg8 harg8 arg9 harg9 arg10 harg10 arg11 harg11 arg12 harg12 arg13 harg13 arg14 harg14)
          (fun _ => iprop(insX (F := F) c arg3 arg4 arg5 arg6 arg7 arg8 arg9 arg10 arg11 arg12 x3 x4 x5 x6 x7 x8 x9 x10 x11 x12 ∗ owns (c : Thread nD τ) arg13 fullShare (blockOut i x3 x4 x5 x6 x7 x8 x9 x10 x11 x12) ∗ (∃ d, (owns (c : Thread nD τ) arg14 fullShare d : sProp 𝕄)))) := by
  rw [show cc0_diff_prompt (F := F) i arg3 harg3 arg4 harg4 arg5 harg5 arg6 harg6 arg7 harg7 arg8 harg8 arg9 harg9 arg10 harg10 arg11 harg11 arg12 harg12 arg13 harg13 arg14 harg14 = cc0_diff_prompt_skel (F := F) i arg3 harg3 arg4 harg4 arg5 harg5 arg6 harg6 arg7 harg7 arg8 harg8 arg9 harg9 arg10 harg10 arg11 harg11 arg12 harg12 arg13 harg13 arg14 harg14 from congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc0_diff_prompt_eq_skeleton i) arg3) harg3) arg4) harg4) arg5) harg5) arg6) harg6) arg7) harg7) arg8) harg8) arg9) harg9) arg10) harg10) arg11) harg11) arg12) harg12) arg13) harg13) arg14) harg14]
  unfold insX owns
  iintro ⟨⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩⟩, ⟨%d13, %f13, -, H13⟩, ⟨%d14, %f14, -, H14⟩⟩
  subst h3
  subst h4
  subst h5
  subst h6
  subst h7
  subst h8
  subst h9
  subst h10
  subst h11
  subst h12
  unfold cc0_diff_prompt_skel
  dsimp only
  rw [wp_bind]
  iapply (Scf.wp_for frame (wpE (defs₀ (F := F)) Variants.none (c : Thread nD τ) none) E k0_t1_loop.lb k0_t1_loop.ub k0_t1_loop.st k0_t1_ok ⟨⟩ _
    (rowsInv (F := F) c i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12) (rows_step (F := F) E c i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12))
  isplitl [H3 H4 H5 H6 H7 H8 H9 H10 H11 H12 H13 H14]
  · isplitl [H3 H4 H5 H6 H7 H8 H9 H10 H11 H12]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]
    · iexists _; isplitl [H13]; · iexact H13
      ipureintro; intro y hy; omega
    · iexists _; iexact H14
  iintro %acc ⟨⟨H3, H4, H5, H6, H7, H8, H9, H10, H11, H12⟩, ⟨%g13, H13, %hg⟩, %g14, H14⟩
  sl_step
  isplitl [H3 H4 H5 H6 H7 H8 H9 H10 H11 H12]
  · isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl
  isplitl [H13]
  · iexists _; isplitr; swap; · iexact H13
    ipureintro
    funext y
    exact hg y (lt_of_lt_of_le (y 1).isLt (by decide))
  · iexists _; iexists _; isplitr; swap; · iexact H14
    ipureintro; rfl

end Cert.Proof.Diff

end
-- ==== Proof.Run.lean ====
module

public import proofs.«01_k».proof.Proof.Gen.KernelIdeal.Frame
public import proofs.«01_k».proof.Proof.Body

@[expose] public section

set_option maxRecDepth 16384

noncomputable section

namespace Cert.Proof.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block the body leaves at point `t`. -/
def outsAt (c : Dev nD) (t : Fin cfg0.N) : Vec F S1x1024x128 .f32 :=
  blockOut (grid0.coords t) (iblk m c 0 t) (iblk m c 1 t) (iblk m c 2 t) (iblk m c 3 t) (iblk m c 4 t) (iblk m c 5 t) (iblk m c 6 t) (iblk m c 7 t) (iblk m c 8 t) (iblk m c 9 t)

/-- The arrays as the region finds them; each input's buffer at its block, the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The body at every point: the blocks in, the four query tiles out, the accumulator at anything before and after. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10]
  unfold outsAt
  rw [show (dats m 0 c).Φ t.castSucc = Pipeline.ΦA spec0 c from rfl]
  unfold Pipeline.ΦA
  rw [scopedRest0_eq]
  simp only [← owns_whole]
  iintro ⟨⟨⟨%g, H14⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r Idealize.ShloMosaic.frame (wpE (defs₀ (F := F)) Variants.none (c : Thread nD τ) none) Set.univ)
  isplitl [H14 H0 H1 H2 H3 H4 H5 H6 H7 H8 H9 H10]
  · iapply (kernel_run (F := F) Set.univ c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]
    · iexists _; iexact H10
    · iexists _; iexact H14
  · iintro %u ⟨⟨H0, H1, H2, H3, H4, H5, H6, H7, H8, H9⟩, H10, %g', H14⟩
    isplitl [H14 Hρ]
    · isplitl [H14]
      · iexists _; iexact H14
      · iexact Hρ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

-- the launch theorem's implicit arguments are found by unfolding plain definitions in a type
set_option backward.isDefEq.respectTransparency.types false in
/-- Every weakly fair run of @main ends, with each array at what the pipeline's data give and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Proof.Diff

end
-- ==== Proof.Frames.lean ====
module

public import proofs.«01_k».proof.Defs
public import proofs.«01_k».proof.Proof.Gen.Kernel
public import proofs.«01_k».proof.Proof.Gen.ReferenceIdeal.Run
public import proofs.«01_k».proof.Proof.Run

@[expose] public section

set_option maxRecDepth 16384

noncomputable section

/-! The frame claims: the kernel's two, both read off the one run of `Run.lean`, and the reference's. -/

namespace Cert.Proof.Diff

open Cert.KernelIdeal Cert.KernelIdeal.Gen
open Idealize.ShloMosaic Idealize.ShloMosaic.TcCoe
open Idealize.SL.Sem

variable {F : FTy → Type} [FloatOps F]

/-- The kernel runs, gives the arguments back unchanged and leaves every semaphore counter at zero. -/
theorem frame_ideal : Cert.quiescent_KernelIdeal := fun m ρ _ =>
  θ_run_with_sems (frame_of m ρ (dats m) (A_eq m)) (run_main m ρ)

/-! The two programs' host parts and launches have one text each: the texts are equal part by part. -/

set_option maxHeartbeats 4000000 in
theorem part0_eq : @Cert.Kernel.main_part0 F _ Cert.Kernel.Gen.facts = @Cert.KernelIdeal.main_part0 F _ Cert.KernelIdeal.Gen.facts := rfl
set_option maxHeartbeats 4000000 in
theorem part1_eq : @Cert.Kernel.main_part1 F _ Cert.Kernel.Gen.facts = @Cert.KernelIdeal.main_part1 F _ Cert.KernelIdeal.Gen.facts := rfl
set_option maxHeartbeats 4000000 in
theorem part2_eq : @Cert.Kernel.main_part2 F _ Cert.Kernel.Gen.facts = @Cert.KernelIdeal.main_part2 F _ Cert.KernelIdeal.Gen.facts := rfl

/-- The two programs' `main` are one program. -/
theorem main_eq : @Cert.Kernel.main F _ Cert.Kernel.Gen.facts = @Cert.KernelIdeal.main F _ Cert.KernelIdeal.Gen.facts := by
  funext d
  unfold Cert.Kernel.main
  rw [part0_eq, part1_eq, part2_eq]
  rfl

/-- The two programs' kernels are one kernel. -/
theorem body_eq : @Cert.Kernel.cc0_diff_prompt F _ Cert.Kernel.Gen.facts = @Cert.KernelIdeal.cc0_diff_prompt F _ Cert.KernelIdeal.Gen.facts := rfl

/-- The label tables of the two programs' launches are one table. -/
theorem defs0_eq : @Cert.Kernel.defs₀ F _ Cert.Kernel.Gen.facts = @Cert.KernelIdeal.defs₀ F _ Cert.KernelIdeal.Gen.facts := by
  unfold Cert.Kernel.defs₀ Cert.KernelIdeal.defs₀
  refine congrArg _ ?_
  funext l a
  match l, a with
  | 0, (t, s) =>
    show @Cert.Kernel.cc0_diff_prompt F _ Cert.Kernel.Gen.facts _ _ _ _ _ _ _ _ _ _ _ _ _ _ _ _ _ _ _ _ _ _ _ _ _ = _
    rw [body_eq]
    rfl

/-- The two programs' label tables are one table. -/
theorem defs_eq : @Cert.Kernel.defs F _ Cert.Kernel.Gen.facts = @Cert.KernelIdeal.defs F _ Cert.KernelIdeal.Gen.facts := by
  unfold Cert.Kernel.defs
  rw [defs0_eq]
  rfl

/-- The same frame, from the same run at the machine's floats: the two programs have one text. -/
theorem frame_kernel : Cert.quiescent_Kernel := fun m ρ _ => by
  rw [main_eq, defs_eq]
  exact θ_run_with_sems (frame_of (F := Bits) m ρ (dats m) (A_eq m)) (run_main (F := Bits) m ρ)

/-- The reference runs, gives the arguments back unchanged, and declares no semaphore. -/
theorem frame_ref : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Proof.Diff

end
-- ==== Proof.Host.lean ====
module

public import proofs.«01_k».proof.Proof.Gen.KernelIdeal.Frame
public import Idealize.ShloMosaic.Lib.StableHlo.Run

@[expose] public section

set_option maxRecDepth 16384

noncomputable section

/-! The arrays that the call finds: what the host code before it makes of the arguments. -/

namespace Cert.Proof.Diff

open Cert.KernelIdeal Cert.KernelIdeal.Gen
open Idealize.ShloMosaic Idealize.ShloMosaic.TcCoe Idealize.ShloMosaic.StableHlo

variable {F : FTy → Type} [FloatOps F]

/-- The factor log2(e) = 1 / log 2. -/
def hScale : FVec F S_ .f32 := Host.divf (constant S_ .f32 0x3F800000#32) (Host.log (constant S_ .f32 0x40000000#32))

/-- Which lanes hold the first component of a head. -/
def hFirst : (⟨S4x4096x1024, .i1⟩ : BufTy).Contents (Elt F) :=
  (cmpi .eq ((andi : (⟨S4x4096x1024, .i32⟩ : BufTy).Contents (Elt F) → (⟨S4x4096x1024, .i32⟩ : BufTy).Contents (Elt F) → (⟨S4x4096x1024, .i32⟩ : BufTy).Contents (Elt F))
      (iotaInDim S4x4096x1024 32 2) (broadcastInDim S4x4096x1024 ![] bcast_S_S4x4096x1024 (constantI S_ 32 64#32)))
    (broadcastInDim S4x4096x1024 ![] bcast_S_S4x4096x1024 (constantI S_ 32 0#32)))

/-- The queries scaled to powers of two. -/
def hQl (x : Vec F S4x4096x8x2x64 .f32) : FVec F S4x4096x1024 .f32 :=
  mulf (shapeCast S4x4096x1024 x shapeCasts_S4x4096x8x2x64_S4x4096x1024) (broadcastInDim S4x4096x1024 ![] bcast_S_S4x4096x1024 hScale)

/-- Zeros in the queries' place. -/
def hZero : FVec F S4x4096x1024 .f32 := broadcastInDim S4x4096x1024 ![] bcast_S_S4x4096x1024 (id (constant S_ .f32 0x00000000#32))

/-- The queries of the first component, the second's lanes at zero. -/
def hQa (x : Vec F S4x4096x8x2x64 .f32) : FVec F S4x4096x1024 .bf16 := truncf .bf16 (select (hFirst (F := F)) (hQl x) hZero) bitsLt_bf16_f32

/-- The queries of the second component, the first's lanes at zero. -/
def hQb (x : Vec F S4x4096x8x2x64 .f32) : FVec F S4x4096x1024 .bf16 := truncf .bf16 (select (hFirst (F := F)) hZero (hQl x)) bitsLt_bf16_f32

/-- The keys, a head's two components side by side. -/
def hKb (x : Vec F S4x4096x8x2x64 .f32) : FVec F S4x4096x1024 .bf16 :=
  truncf .bf16 (shapeCast S4x4096x1024 x shapeCasts_S4x4096x8x2x64_S4x4096x1024) bitsLt_bf16_f32

/-- The values, transposed tile by tile, with sixteen rows of ones below. -/
def hVt (x : Vec F S4x4096x8x128 .f32) : FVec F S4x8x16x144x256 .bf16 :=
  truncf .bf16 (concatenate S4x8x16x144x256 3
    [⟨S4x8x16x128x256, transpose S4x8x16x128x256 [0, 3, 1, 4, 2] (shapeCast S4x16x256x8x128 x shapeCasts_S4x4096x8x128_S4x16x256x8x128) transposes_S4x16x256x8x128_S4x8x16x128x256_0_3_1_4_2⟩,
     ⟨S4x8x16x16x256, broadcastInDim S4x8x16x16x256 ![] bcast_S_S4x8x16x16x256 (constant S_ .f32 0x3F800000#32)⟩]
    concatenates_S4x8x16x128x256_S4x8x16x16x256_S4x8x16x144x256_d3) bitsLt_bf16_f32

/-- Query minus key inside a tile. -/
def hDist : Vec F S256x256 .i32 := subi (iotaInDim S256x256 32 1) (iotaInDim S256x256 32 0)

/-- One word at every place of a tile. -/
def hWord (w : BitVec 32) : Vec F S256x256 .i32 := broadcastInDim S256x256 ![] bcast_S_S256x256 (constantI S_ 32 w)

/-- One number at every place of a tile. -/
def hNum (w : BitVec 32) : FVec F S256x256 .f32 := broadcastInDim S256x256 ![] bcast_S_S256x256 (constant S_ .f32 w)

/-- A distance that counts: at least 0. -/
def hMax (d : Vec F S256x256 .i32) : Vec F S256x256 .i32 := maxsi d (hWord (F := F) 0#32)

/-- Whether a distance has a bucket of its own. -/
def hSmall (p : Vec F S256x256 .i32) : (⟨S256x256, .i1⟩ : BufTy).Contents (Elt F) := cmpi .slt p (hWord (F := F) 16#32)

/-- The bucket of a distance that has none of its own. -/
def hLarge (p : Vec F S256x256 .i32) : Vec F S256x256 .i32 :=
  minsi (addi (hWord (F := F) 16#32) (fptosi 32 (mulf (Host.divf (Host.log (Host.divf (sitofp .f32 (maxsi p (hWord (F := F) 1#32)))
      (hNum 0x41800000#32))) (hNum 0x40051592#32)) (hNum 0x41800000#32) : FVec F S256x256 .f32))) (hWord (F := F) 31#32)

/-- The relative-position bucket of each distance of a tile. -/
def hBucket (d : Vec F S256x256 .i32) : Vec F S256x256 .i32 := select (hSmall (F := F) (hMax (F := F) d)) (hMax (F := F) d) (hLarge (F := F) (hMax (F := F) d))

/-- The last bucket's bias of each head. -/
def hFar (x : Vec F S32x8 .f32) : FVec F S8x1x1 .f32 :=
  broadcastInDim S8x1x1 ![0] bcast_S8_S8x1x1_0 (shapeCast S8 (extractStridedSlice S1x8 ![31, 0] x slices_S32x8_S1x8_31_0) shapeCasts_S1x8_S8)

/-- The bias of each head at each bucket `b` of a tile, less `far`, times log2(e). -/
def hLook (x : Vec F S32x8 .f32) (far : FVec F S8x1x1 .f32) (b : Vec F S256x256 .i32) : FVec F S8x256x256 .f32 :=
  mulf (subf (transpose S8x256x256 [2, 0, 1] (Host.gather gather_S32x8_S256x256x1_S256x256x8_2_0_n_n_0_2_18 x
      (broadcastInDim S256x256x1 ![0, 1] bcast_S256x256_S256x256x1_0_1
        (select (cmpi .slt b (hWord (F := F) 0#32)) (addi b (hWord (F := F) 32#32)) b))) transposes_S256x256x8_S8x256x256_2_0_1)
      (broadcastInDim S8x256x256 ![0, 1, 2] bcast_S8x1x1_S8x256x256_0_1_2 far))
    (broadcastInDim S8x256x256 ![] bcast_S_S8x256x256 hScale)

/-- The places of the diagonal tile at which the key isn't behind the query. -/
def hSeen (d : Vec F S256x256 .i32) : (⟨S256x256, .i1⟩ : BufTy).Contents (Elt F) := cmpi .sge d (hWord (F := F) 0#32)

/-- A tile of biases with minus infinity where the key is behind the query. -/
def hMask (s : (⟨S256x256, .i1⟩ : BufTy).Contents (Elt F)) (y : FVec F S8x256x256 .f32) : FVec F S8x256x256 .f32 :=
  select (broadcastInDim S8x256x256 ![1, 2] bcast_S256x256_S8x256x256_1_2 s) y (broadcastInDim S8x256x256 ![] bcast_S_S8x256x256 (id (constant S_ .f32 0xFF800000#32)))

/-- Two bias tiles, one after the other. -/
def hPair (y z : FVec F S8x256x256 .f32) : FVec F S8x2x256x256 .f32 :=
  concatenate S8x2x256x256 1
    [⟨S8x1x256x256, broadcastInDim S8x1x256x256 ![0, 2, 3] bcast_S8x256x256_S8x1x256x256_0_2_3 y⟩,
     ⟨S8x1x256x256, broadcastInDim S8x1x256x256 ![0, 2, 3] bcast_S8x256x256_S8x1x256x256_0_2_3 z⟩]
    concatenates_S8x1x256x256_S8x1x256x256_S8x2x256x256_d1

/-- The two bias tiles of each head. -/
def hBias (x : Vec F S32x8 .f32) : FVec F S8x2x256x256 .f32 :=
  hPair (hMask (hSeen (hDist (F := F))) (hLook x (hFar x) (hBucket (F := F) (hDist (F := F)))))
    (hLook x (hFar x) (hBucket (F := F) (addi (hDist (F := F)) (hWord (F := F) 256#32))))

variable (m : (ℓ : Loc nD τ sig) → Buf (Elt F) ℓ)

set_option maxHeartbeats 4000000 in
/-- The first queries at the call. -/
theorem V_v11 (c : Dev nD) : V m c main_v11 = hQa (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

set_option maxHeartbeats 4000000 in
/-- The second queries at the call. -/
theorem V_v13 (c : Dev nD) : V m c main_v13 = hQb (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

set_option maxHeartbeats 4000000 in
/-- The keys at the call. -/
theorem V_v15 (c : Dev nD) : V m c main_v15 = hKb (m ((c : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

set_option maxHeartbeats 4000000 in
/-- The values at the call. -/
theorem V_v20 (c : Dev nD) : V m c main_v20 = hVt (m ((c : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

variable (W : Valuation τ sig (Elt F))

set_option maxHeartbeats 4000000 in
theorem w4_23 : after hostOps0_4 W main_v23 = hDist (F := F) := by
  simp only [hostOps0_4, List.append, List.cons_append, List.nil_append, TRef.ternary, TRef.unary, TRef.toBuf, TRef.ofBuf, cast_eq]
  after_results_simp
  all_goals rfl

set_option maxHeartbeats 4000000 in
theorem w4_26 : after hostOps0_4 W main_v26 = hFar (W main_arg3) := by
  simp only [hostOps0_4, List.append, List.cons_append, List.nil_append, TRef.ternary, TRef.unary, TRef.toBuf, TRef.ofBuf, cast_eq]
  after_results_simp
  all_goals rfl

set_option maxHeartbeats 4000000 in
theorem w4_28 : after hostOps0_4 W main_v28 = hMax (F := F) (hDist (F := F)) := by
  simp only [hostOps0_4, List.append, List.cons_append, List.nil_append, TRef.ternary, TRef.unary, TRef.toBuf, TRef.ofBuf, cast_eq]
  after_results_simp
  all_goals rfl

set_option maxHeartbeats 4000000 in
theorem w4_43 : after hostOps0_4 W main_v43 = hSmall (F := F) (hMax (F := F) (hDist (F := F))) := by
  simp only [hostOps0_4, List.append, List.cons_append, List.nil_append, TRef.ternary, TRef.unary, TRef.toBuf, TRef.ofBuf, cast_eq]
  after_results_simp
  all_goals rfl

set_option maxHeartbeats 4000000 in
theorem w4_45 : after hostOps0_4 W main_v45 = hLarge (F := F) (hMax (F := F) (hDist (F := F))) := by
  simp only [hostOps0_4, List.append, List.cons_append, List.nil_append, TRef.ternary, TRef.unary, TRef.toBuf, TRef.ofBuf, cast_eq]
  after_results_simp
  all_goals rfl

set_option maxHeartbeats 4000000 in
theorem w5_46 : after hostOps0_5 W main_v46 = select (W main_v43 : (⟨S256x256, .i1⟩ : BufTy).Contents (Elt F)) (W main_v28 : Vec F S256x256 .i32) (W main_v45 : Vec F S256x256 .i32) := by
  simp only [hostOps0_5, List.append, List.cons_append, List.nil_append, TRef.ternary, TRef.unary, TRef.toBuf, TRef.ofBuf, cast_eq]
  after_results_simp
  all_goals rfl

set_option maxHeartbeats 4000000 in
theorem w6_60 : after hostOps0_6 W main_v60 = hLook (W main_arg3) (W main_v26) (W main_v46) := by
  simp only [hostOps0_6, List.append, List.cons_append, List.nil_append, TRef.ternary, TRef.unary, TRef.toBuf, TRef.ofBuf, cast_eq]
  after_results_simp
  all_goals rfl

set_option maxHeartbeats 4000000 in
theorem w6_62 : after hostOps0_6 W main_v62 = hSeen (F := F) (W main_v23) := by
  simp only [hostOps0_6, List.append, List.cons_append, List.nil_append, TRef.ternary, TRef.unary, TRef.toBuf, TRef.ofBuf, cast_eq]
  after_results_simp
  all_goals rfl

set_option maxHeartbeats 4000000 in
theorem w67_63 : after (hostOps0_6 ++ hostOps0_7) W main_v63 = hMask (hSeen (F := F) (W main_v23)) (hLook (W main_arg3) (W main_v26) (W main_v46)) := by
  simp only [hostOps0_6, hostOps0_7, List.append, List.cons_append, List.nil_append, TRef.ternary, TRef.unary, TRef.toBuf, TRef.ofBuf, cast_eq]
  after_results_simp
  all_goals rfl

set_option maxHeartbeats 4000000 in
theorem w8_67 : after hostOps0_8 W main_v67 = hMax (F := F) (addi (W main_v23 : Vec F S256x256 .i32) (hWord (F := F) 256#32)) := by
  simp only [hostOps0_8, List.append, List.cons_append, List.nil_append, TRef.ternary, TRef.unary, TRef.toBuf, TRef.ofBuf, cast_eq]
  after_results_simp
  all_goals rfl

set_option maxHeartbeats 4000000 in
theorem w8_82 : after hostOps0_8 W main_v82 = hSmall (F := F) (hMax (F := F) (addi (W main_v23 : Vec F S256x256 .i32) (hWord (F := F) 256#32))) := by
  simp only [hostOps0_8, List.append, List.cons_append, List.nil_append, TRef.ternary, TRef.unary, TRef.toBuf, TRef.ofBuf, cast_eq]
  after_results_simp
  all_goals rfl

set_option maxHeartbeats 4000000 in
theorem w8_84 : after hostOps0_8 W main_v84 = hLarge (F := F) (hMax (F := F) (addi (W main_v23 : Vec F S256x256 .i32) (hWord (F := F) 256#32))) := by
  simp only [hostOps0_8, List.append, List.cons_append, List.nil_append, TRef.ternary, TRef.unary, TRef.toBuf, TRef.ofBuf, cast_eq]
  after_results_simp
  all_goals rfl

set_option maxHeartbeats 4000000 in
theorem w9_85 : after hostOps0_9 W main_v85 = select (W main_v82 : (⟨S256x256, .i1⟩ : BufTy).Contents (Elt F)) (W main_v67 : Vec F S256x256 .i32) (W main_v84 : Vec F S256x256 .i32) := by
  simp only [hostOps0_9, List.append, List.cons_append, List.nil_append, TRef.ternary, TRef.unary, TRef.toBuf, TRef.ofBuf, cast_eq]
  after_results_simp
  all_goals rfl

set_option maxHeartbeats 4000000 in
theorem w10_102 : after hostOps0_10 W main_v102 = hPair (W main_v63) (hLook (W main_arg3) (W main_v26) (W main_v85)) := by
  simp only [hostOps0_10, List.append, List.cons_append, List.nil_append, TRef.ternary, TRef.unary, TRef.toBuf, TRef.ofBuf, cast_eq]
  after_results_simp
  all_goals rfl

set_option maxHeartbeats 4000000 in
theorem k0_arg3 : after hostOps0 W main_arg3 = W main_arg3 := by
  simp only [hostOps0, List.append, List.cons_append, List.nil_append, TRef.ternary, TRef.unary, TRef.toBuf, TRef.ofBuf, cast_eq]
  after_results_simp

set_option maxHeartbeats 4000000 in
theorem k1_arg3 : after hostOps0_1 W main_arg3 = W main_arg3 := by
  simp only [hostOps0_1, List.append, List.cons_append, List.nil_append, TRef.ternary, TRef.unary, TRef.toBuf, TRef.ofBuf, cast_eq]
  after_results_simp

set_option maxHeartbeats 4000000 in
theorem k2_arg3 : after hostOps0_2 W main_arg3 = W main_arg3 := by
  simp only [hostOps0_2, List.append, List.cons_append, List.nil_append, TRef.ternary, TRef.unary, TRef.toBuf, TRef.ofBuf, cast_eq]
  after_results_simp

set_option maxHeartbeats 4000000 in
theorem k3_arg3 : after hostOps0_3 W main_arg3 = W main_arg3 := by
  simp only [hostOps0_3, List.append, List.cons_append, List.nil_append, TRef.ternary, TRef.unary, TRef.toBuf, TRef.ofBuf, cast_eq]
  after_results_simp

set_option maxHeartbeats 4000000 in
theorem k4_arg3 : after hostOps0_4 W main_arg3 = W main_arg3 := by
  simp only [hostOps0_4, List.append, List.cons_append, List.nil_append, TRef.ternary, TRef.unary, TRef.toBuf, TRef.ofBuf, cast_eq]
  after_results_simp

set_option maxHeartbeats 4000000 in
theorem k5_arg3 : after hostOps0_5 W main_arg3 = W main_arg3 := by
  simp only [hostOps0_5, List.append, List.cons_append, List.nil_append, TRef.ternary, TRef.unary, TRef.toBuf, TRef.ofBuf, cast_eq]
  after_results_simp

set_option maxHeartbeats 4000000 in
theorem k5_v23 : after hostOps0_5 W main_v23 = W main_v23 := by
  simp only [hostOps0_5, List.append, List.cons_append, List.nil_append, TRef.ternary, TRef.unary, TRef.toBuf, TRef.ofBuf, cast_eq]
  after_results_simp

set_option maxHeartbeats 4000000 in
theorem k5_v26 : after hostOps0_5 W main_v26 = W main_v26 := by
  simp only [hostOps0_5, List.append, List.cons_append, List.nil_append, TRef.ternary, TRef.unary, TRef.toBuf, TRef.ofBuf, cast_eq]
  after_results_simp

set_option maxHeartbeats 4000000 in
theorem k6_arg3 : after hostOps0_6 W main_arg3 = W main_arg3 := by
  simp only [hostOps0_6, List.append, List.cons_append, List.nil_append, TRef.ternary, TRef.unary, TRef.toBuf, TRef.ofBuf, cast_eq]
  after_results_simp

set_option maxHeartbeats 4000000 in
theorem k6_v23 : after hostOps0_6 W main_v23 = W main_v23 := by
  simp only [hostOps0_6, List.append, List.cons_append, List.nil_append, TRef.ternary, TRef.unary, TRef.toBuf, TRef.ofBuf, cast_eq]
  after_results_simp

set_option maxHeartbeats 4000000 in
theorem k6_v26 : after hostOps0_6 W main_v26 = W main_v26 := by
  simp only [hostOps0_6, List.append, List.cons_append, List.nil_append, TRef.ternary, TRef.unary, TRef.toBuf, TRef.ofBuf, cast_eq]
  after_results_simp

set_option maxHeartbeats 4000000 in
theorem k7_arg3 : after hostOps0_7 W main_arg3 = W main_arg3 := by
  simp only [hostOps0_7, List.append, List.cons_append, List.nil_append, TRef.ternary, TRef.unary, TRef.toBuf, TRef.ofBuf, cast_eq]
  after_results_simp

set_option maxHeartbeats 4000000 in
theorem k7_v23 : after hostOps0_7 W main_v23 = W main_v23 := by
  simp only [hostOps0_7, List.append, List.cons_append, List.nil_append, TRef.ternary, TRef.unary, TRef.toBuf, TRef.ofBuf, cast_eq]
  after_results_simp

set_option maxHeartbeats 4000000 in
theorem k7_v26 : after hostOps0_7 W main_v26 = W main_v26 := by
  simp only [hostOps0_7, List.append, List.cons_append, List.nil_append, TRef.ternary, TRef.unary, TRef.toBuf, TRef.ofBuf, cast_eq]
  after_results_simp

set_option maxHeartbeats 4000000 in
theorem k8_arg3 : after hostOps0_8 W main_arg3 = W main_arg3 := by
  simp only [hostOps0_8, List.append, List.cons_append, List.nil_append, TRef.ternary, TRef.unary, TRef.toBuf, TRef.ofBuf, cast_eq]
  after_results_simp

set_option maxHeartbeats 4000000 in
theorem k8_v26 : after hostOps0_8 W main_v26 = W main_v26 := by
  simp only [hostOps0_8, List.append, List.cons_append, List.nil_append, TRef.ternary, TRef.unary, TRef.toBuf, TRef.ofBuf, cast_eq]
  after_results_simp

set_option maxHeartbeats 4000000 in
theorem k8_v63 : after hostOps0_8 W main_v63 = W main_v63 := by
  simp only [hostOps0_8, List.append, List.cons_append, List.nil_append, TRef.ternary, TRef.unary, TRef.toBuf, TRef.ofBuf, cast_eq]
  after_results_simp

set_option maxHeartbeats 4000000 in
theorem k9_arg3 : after hostOps0_9 W main_arg3 = W main_arg3 := by
  simp only [hostOps0_9, List.append, List.cons_append, List.nil_append, TRef.ternary, TRef.unary, TRef.toBuf, TRef.ofBuf, cast_eq]
  after_results_simp

set_option maxHeartbeats 4000000 in
theorem k9_v26 : after hostOps0_9 W main_v26 = W main_v26 := by
  simp only [hostOps0_9, List.append, List.cons_append, List.nil_append, TRef.ternary, TRef.unary, TRef.toBuf, TRef.ofBuf, cast_eq]
  after_results_simp

set_option maxHeartbeats 4000000 in
theorem k9_v63 : after hostOps0_9 W main_v63 = W main_v63 := by
  simp only [hostOps0_9, List.append, List.cons_append, List.nil_append, TRef.ternary, TRef.unary, TRef.toBuf, TRef.ofBuf, cast_eq]
  after_results_simp

theorem after_two (l k : List (HloOp τ sig (Elt F))) : after (l ++ k) W = after k (after l W) := by
  induction l generalizing W with
  | nil => rfl
  | cons a l ih => exact ih _

/-- The bias tiles at the call. -/
theorem V_v102 (c : Dev nD) : V m c main_v102 = hBias (m ((c : Thread nD τ).loc main_arg3)) := by
  unfold V
  have e : List.flatten [hostOps0, hostOps0_1, hostOps0_2, hostOps0_3, hostOps0_4, hostOps0_5, hostOps0_6, hostOps0_7, hostOps0_8, hostOps0_9, hostOps0_10]
      = (hostOps0 ++ (hostOps0_1 ++ (hostOps0_2 ++ (hostOps0_3 ++ (hostOps0_4 ++ (hostOps0_5 ++ ((hostOps0_6 ++ hostOps0_7) ++ (hostOps0_8 ++ (hostOps0_9 ++ hostOps0_10))))))))
        : List (HloOp τ sig (Elt F))) := by simp only [List.flatten_cons, List.flatten_nil, List.append_nil, List.append_assoc]
  rw [e]
  have k67_arg3 (W : Valuation τ sig (Elt F)) : after (hostOps0_6 ++ hostOps0_7) W main_arg3 = W main_arg3 := by rw [after_two, k7_arg3, k6_arg3]
  have k67_v23 (W : Valuation τ sig (Elt F)) : after (hostOps0_6 ++ hostOps0_7) W main_v23 = W main_v23 := by rw [after_two, k7_v23, k6_v23]
  have k67_v26 (W : Valuation τ sig (Elt F)) : after (hostOps0_6 ++ hostOps0_7) W main_v26 = W main_v26 := by rw [after_two, k7_v26, k6_v26]
  rw [after_two, after_two, after_two, after_two, after_two, after_two, after_two, after_two, after_two]
  rw [w10_102, w9_85, k9_v63, k9_arg3, k9_v26, w8_84, w8_82, w8_67, k8_v63, k8_arg3, k8_v26, w67_63, k67_v23, k67_arg3, k67_v26,
    w5_46, k5_v23, k5_arg3, k5_v26, w4_45, w4_43, w4_28, w4_26, w4_23, k4_arg3, k3_arg3, k2_arg3, k1_arg3, k0_arg3]
  rfl

set_option maxHeartbeats 4000000 in
/-- A row array at the call. -/
theorem V_v103 (c : Dev nD) : V m c main_v103 = shapeCast S1x64 (m ((c : Thread nD τ).loc main_arg4)) shapeCasts_S64_S1x64 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

set_option maxHeartbeats 4000000 in
/-- A row array at the call. -/
theorem V_v104 (c : Dev nD) : V m c main_v104 = shapeCast S1x64 (m ((c : Thread nD τ).loc main_arg5)) shapeCasts_S64_S1x64 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

set_option maxHeartbeats 4000000 in
/-- A row array at the call. -/
theorem V_v105 (c : Dev nD) : V m c main_v105 = shapeCast S1x64 (m ((c : Thread nD τ).loc main_arg6)) shapeCasts_S64_S1x64 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

set_option maxHeartbeats 4000000 in
/-- A row array at the call. -/
theorem V_v106 (c : Dev nD) : V m c main_v106 = shapeCast S1x64 (m ((c : Thread nD τ).loc main_arg7)) shapeCasts_S64_S1x64 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

set_option maxHeartbeats 4000000 in
/-- A row array at the call. -/
theorem V_v107 (c : Dev nD) : V m c main_v107 = shapeCast S1x128 (m ((c : Thread nD τ).loc main_arg8)) shapeCasts_S128_S1x128 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, TRef.ternary, TRef.unary, TRef.toBuf, TRef.ofBuf, cast_eq]
  after_results_simp
  all_goals rfl

end Cert.Proof.Diff

end
-- ==== Proof.Group.lean ====
module

public import proofs.«01_k».proof.Proof.Spec
public import Idealize.ShloMosaic.Lib.Pointwise
public import Idealize.ShloMosaic.PureOps.Ideal

@[expose] public section

set_option maxRecDepth 16384

noncomputable section

/-! What the state of a query tile holds, over the reals: the running sums, scaled by the running maxima. -/

namespace Cert.Proof.Diff

open Cert.KernelIdeal Cert.KernelIdeal.Gen
open Idealize.ShloMosaic Idealize.ShloMosaic.TcCoe

/-- The weight of a score: 2 to its power, 0 for minus infinity. -/
def wt (x : EReal) : ℝ := if x = ⊥ then 0 else (2 : ℝ) ^ x.toReal

/-- A tile none of whose scores is plus infinity and all of whose values are real. -/
def TileOk (t : Tl Ideal) : Prop :=
  (∀ (k : Fin 256) (n : Fin 512), t.1 (ix2 k n) ≠ (⊤ : EReal)) ∧
    ∀ (d : Fin 144) (k : Fin 256), ∃ u : ℝ, t.2 (ix5 0 0 0 d k) = (u : EReal)

/-- One tile's sum of values by weights, over the reals. -/
def tsum (t : Tl Ideal) (d : Fin 144) (n : Fin 512) : ℝ :=
  ∑ k : Fin 256, EReal.toReal (t.2 (ix5 0 0 0 d k)) * wt (t.1 (ix2 k n))

/-- Two real numbers, one of which bounds from below: the larger is real. -/
theorem exists_real {x : EReal} (r : ℝ) (h : x ≠ ⊤) : ∃ M : ℝ, max x (r : EReal) = (M : EReal) := by
  induction x with
  | bot => exact ⟨r, by simp⟩
  | coe a => exact ⟨max a r, (EReal.coe_strictMono.monotone.map_max).symm⟩
  | top => exact absurd rfl h

/-- A running maximum of things below plus infinity is below plus infinity. -/
theorem fold_ne_top {ι : Type} (s : Finset ι) (f : ι → EReal) (h : ∀ i, f i ≠ ⊤) (b : EReal) (hb : b ≠ ⊤) : s.fold max b f ≠ ⊤ := by
  classical
  induction s using Finset.induction_on with
  | empty => simpa using hb
  | insert a s ha ih => rw [Finset.fold_insert ha]; exact (max_lt (lt_top_iff_ne_top.2 (h a)) (lt_top_iff_ne_top.2 ih)).ne

/-- The lower bound of the maxima is a real number. -/
theorem low_real : ∃ r : ℝ, (Ideal.ofBits .f32 0xF149F2CA#32 : EReal) = (r : EReal) := by
  refine ⟨-(13234890 * 2 ^ 76), ?_⟩
  simp [Ideal.ofBits, Ideal.ieee]

/-- A tile's maxima are real. -/
theorem tmax_real (s : FVec Ideal S256x512 .f32) (h : ∀ (k : Fin 256) (n : Fin 512), s (ix2 k n) ≠ (⊤ : EReal)) (n : Fin 512) :
    ∃ M : ℝ, tmax s (ix2 0 n) = (M : EReal) := by
  obtain ⟨r, hr⟩ := low_real
  pointwise [tmax]
  rw [hr]
  exact exists_real r (fold_ne_top _ _ (fun k => h k n) _ (by simp [Ideal.ofBits, Ideal.ieee]))

/-- A sum of real numbers among the extended ones. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- Two to a real power. -/
theorem exp2_real (r : ℝ) : Ideal.exp2 (r : EReal) = (((2 : ℝ) ^ r : ℝ) : EReal) := rfl

/-- The weight against a real maximum. -/
theorem exp2_sub {x : EReal} (h : x ≠ ⊤) (M : ℝ) : Ideal.exp2 (x - (M : EReal)) = (((2 : ℝ) ^ (-M) * wt x : ℝ) : EReal) := by
  induction x with
  | bot => simp [wt]
  | top => exact absurd rfl h
  | coe a =>
    rw [← EReal.coe_sub, exp2_real]
    refine congrArg (fun r : ℝ => (r : EReal)) ?_
    simp only [wt, EReal.coe_ne_bot, if_false, EReal.toReal_coe]
    rw [← Real.rpow_add (by norm_num)]
    congr 1
    ring

/-- One tile's sum of values by weights is the real one, scaled by the tile's maxima. -/
theorem part_real (t : Tl Ideal) (h : TileOk t) (d : Fin 144) (n : Fin 512) (M : ℝ) (hM : tmax t.1 (ix2 0 n) = (M : EReal)) :
    part t.1 t.2 (ix2 d n) = (((2 : ℝ) ^ (-M) * tsum t d n : ℝ) : EReal) := by
  pointwise [part, weights]
  rw [tsum, Finset.mul_sum, ← coe_sum]
  refine Finset.sum_congr rfl fun k _ => ?_
  obtain ⟨u, hu⟩ := h.2 d k
  rw [hu, hM, show ∀ x : EReal, (FloatOps.exp2 (F := Ideal) (φ := .f32) x : EReal) = Ideal.exp2 x from fun _ => rfl, exp2_sub (h.1 k n), ← EReal.coe_mul, EReal.toReal_coe]
  refine congrArg (fun r : ℝ => (r : EReal)) ?_
  ring

/-- A tile added. -/
theorem addTile_real (mn : FVec Ideal S1x512 .f32) (a : FVec Ideal S144x512 .f32) (t : Tl Ideal) (h : TileOk t) (n : Fin 512) (ν : ℝ)
    (hν : mn (ix2 0 n) = (ν : EReal)) (d : Fin 144) (A : ℝ) (ha : a (ix2 d n) = (((2 : ℝ) ^ (-ν) * A : ℝ) : EReal)) :
    addTile mn a t (ix2 d n) = (((2 : ℝ) ^ (-ν) * (A + tsum t d n) : ℝ) : EReal) := by
  obtain ⟨M, hM⟩ := tmax_real t.1 h.1 n
  have hp := part_real t h d n M hM
  have e : addTile mn a t (ix2 d n) = a (ix2 d n) + Ideal.exp2 (tmax t.1 (ix2 0 n) - mn (ix2 0 n)) * part t.1 t.2 (ix2 d n) := by
    pointwise [addTile]
    rfl
  rw [e, ha, hp, hM, hν, ← EReal.coe_sub, exp2_real, ← EReal.coe_mul, ← EReal.coe_add]
  refine congrArg (fun r : ℝ => (r : EReal)) ?_
  rw [← mul_assoc, ← Real.rpow_add (by norm_num), mul_add, show M - ν + -M = -ν by ring]

/-- A list of tiles added. -/
theorem foldl_real (mn : FVec Ideal S1x512 .f32) (n : Fin 512) (ν : ℝ) (hν : mn (ix2 0 n) = (ν : EReal)) (d : Fin 144) (l : List (Tl Ideal)) :
    ∀ (a : FVec Ideal S144x512 .f32) (A : ℝ), (∀ t ∈ l, TileOk t) → a (ix2 d n) = (((2 : ℝ) ^ (-ν) * A : ℝ) : EReal) →
      l.foldl (addTile mn) a (ix2 d n) = (((2 : ℝ) ^ (-ν) * (A + (l.map fun t => tsum t d n).sum) : ℝ) : EReal) := by
  induction l with
  | nil => intro a A _ ha; simpa using ha
  | cons t l ih =>
    intro a A hl ha
    have h := ih (addTile mn a t) (A + tsum t d n) (fun t ht => hl t (List.mem_cons_of_mem _ ht))
      (addTile_real mn a t (hl t List.mem_cons_self) n ν hν d A ha)
    rw [List.foldl_cons, h, List.map_cons, List.sum_cons, add_assoc]

/-- The maxima after a list of tiles are real. -/
theorem gmax_real (n : Fin 512) (l : List (Tl Ideal)) :
    ∀ (m : FVec Ideal S1x512 .f32), (∀ t ∈ l, TileOk t) → (∃ μ : ℝ, m (ix2 0 n) = (μ : EReal)) → ∃ ν : ℝ, gmax m l (ix2 0 n) = (ν : EReal) := by
  induction l with
  | nil => intro m _ h; exact h
  | cons t l ih =>
    rintro m hl ⟨μ, hμ⟩
    obtain ⟨M, hM⟩ := tmax_real t.1 (hl t List.mem_cons_self).1 n
    refine ih (maximumf m (tmax t.1)) (fun t ht => hl t (List.mem_cons_of_mem _ ht)) ⟨max μ M, ?_⟩
    show max (m (ix2 0 n)) (tmax t.1 (ix2 0 n)) = _
    rw [hμ, hM]
    exact (EReal.coe_strictMono.monotone.map_max).symm

/-- A state stands for the sums `A`: its maxima are real, and its sums are `A` scaled by them. -/
def Holds (st : St Ideal) (A : Fin 144 → Fin 512 → ℝ) : Prop :=
  ∀ n : Fin 512, ∃ μ : ℝ, st.m (ix2 0 n) = (μ : EReal) ∧ ∀ d : Fin 144, st.acc (ix2 d n) = (((2 : ℝ) ^ (-μ) * A d n : ℝ) : EReal)

/-- A list of tiles taken in adds their sums. -/
theorem group_holds (st : St Ideal) (A : Fin 144 → Fin 512 → ℝ) (hst : Holds st A) (l : List (Tl Ideal)) (hl : ∀ t ∈ l, TileOk t) :
    Holds (group st l) (fun d n => A d n + (l.map fun t => tsum t d n).sum) := by
  intro n
  obtain ⟨μ, hμ, ha⟩ := hst n
  obtain ⟨ν, hν⟩ := gmax_real n l st.m hl ⟨μ, hμ⟩
  refine ⟨ν, hν, fun d => foldl_real _ n ν hν d l _ _ hl ?_⟩
  have e : mulf (broadcastTo S144x512 (exp2 (subf st.m (gmax st.m l))) broadcasts_S1x512_S144x512) st.acc (ix2 d n)
      = Ideal.exp2 (st.m (ix2 0 n) - gmax st.m l (ix2 0 n)) * st.acc (ix2 d n) := by
    pointwise
    rfl
  refine e.trans ?_
  rw [hμ, hν, ha d, ← EReal.coe_sub, exp2_real, ← EReal.coe_mul]
  refine congrArg (fun r : ℝ => (r : EReal)) ?_
  rw [← mul_assoc, ← Real.rpow_add (by norm_num), show μ - ν + -μ = -ν by ring]

/-- The state before any tile stands for zero. -/
theorem st0_holds : Holds st0 (fun _ _ => 0) := by
  intro n
  obtain ⟨r, hr⟩ := low_real
  refine ⟨r, hr, fun d => ?_⟩
  rw [mul_zero]
  exact Ideal.ofBits_zero_f32

section Tiles

variable (q : FVec Ideal S512x128 .bf16) (x5 : Vec Ideal S1x4096x128 .bf16) (x6 : Vec Ideal S1x1x16x144x256 .bf16)

/-- Far tile `t`. -/
def farTile (t : ℕ) : Tl Ideal := (score q (ktile x5 t), vtile x6 t)

theorem mem_farTiles (base cnt : ℕ) : ∀ t ∈ farTiles q x5 x6 base cnt, ∃ i, t = farTile q x5 x6 i := by
  induction cnt with
  | zero => intro t ht; simp [farTiles] at ht
  | succ cnt ih =>
    intro t ht
    simp only [farTiles, List.mem_append, List.mem_singleton] at ht
    rcases ht with ht | ht
    · exact ih t ht
    · exact ⟨base + cnt, ht⟩

theorem sum_farTiles (base cnt : ℕ) (d : Fin 144) (n : Fin 512) :
    ((farTiles q x5 x6 base cnt).map fun t => tsum t d n).sum = ∑ i ∈ Finset.range cnt, tsum (farTile q x5 x6 (base + i)) d n := by
  induction cnt with
  | zero => simp [farTiles]
  | succ cnt ih => rw [Finset.sum_range_succ, ← ih]; simp [farTiles, farTile]

/-- After `Q` groups of four far tiles the state stands for the sum over the first `4 Q` tiles. -/
theorem quads_holds (hf : ∀ i, TileOk (farTile q x5 x6 i)) (Q : ℕ) :
    Holds (quads q x5 x6 Q) (fun d n => ∑ i ∈ Finset.range (4 * Q), tsum (farTile q x5 x6 i) d n) := by
  induction Q with
  | zero => simpa [quads] using st0_holds
  | succ Q ih =>
    have h := group_holds _ _ ih (farTiles q x5 x6 (4 * Q) 4) (fun t ht => by obtain ⟨i, rfl⟩ := mem_farTiles q x5 x6 _ _ t ht; exact hf i)
    refine cast (congrArg (Holds _) (funext fun d => funext fun n => ?_)) h
    rw [sum_farTiles, show 4 * (Q + 1) = 4 * Q + 4 by ring, Finset.sum_range_add]

/-- At the end of query tile `n` the state stands for the sum over its far tiles and its last two. -/
theorem tileState_holds (v4 : BitVec 32) (x7 : Vec Ideal S1x2x256x256 .f32) (N : ℕ) (hf : ∀ i, TileOk (farTile q x5 x6 i))
    (hl : ∀ t ∈ lastTiles v4 q x5 x6 x7 N, TileOk t) :
    Holds (tileState v4 q x5 x6 x7 N)
      (fun d n => (∑ i ∈ Finset.range (N - 1), tsum (farTile q x5 x6 i) d n) + ((lastTiles v4 q x5 x6 x7 N).map fun t => tsum t d n).sum) := by
  have h := group_holds _ _ (quads_holds q x5 x6 hf ((N - 1) / 4)) (farTiles q x5 x6 (4 * ((N - 1) / 4)) ((N - 1) % 4) ++ lastTiles v4 q x5 x6 x7 N)
    (fun t ht => by
      rcases List.mem_append.1 ht with ht | ht
      · obtain ⟨i, rfl⟩ := mem_farTiles q x5 x6 _ _ t ht; exact hf i
      · exact hl t ht)
  refine cast (congrArg (Holds _) (funext fun d => funext fun n => ?_)) h
  rw [List.map_append, List.sum_append, sum_farTiles, ← add_assoc, ← Finset.sum_range_add, Nat.div_add_mod]

end Tiles

end Cert.Proof.Diff

end
-- ==== Proof.Words.lean ====
module

public import proofs.«01_k».proof.Proof.Group

@[expose] public section

set_option maxRecDepth 16384

noncomputable section

/-! The relative-position bucket of a distance, as the words that both programs compute, and the row of the bias table it picks. -/

namespace Cert.Proof.Diff

open Idealize.ShloMosaic Idealize.ShloMosaic.TcCoe

/-- A small number's word, read signed. -/
theorem toInt_small (n : ℕ) (h : n < 2 ^ 31) : (BitVec.ofNat 32 n).toInt = (n : ℤ) := by
  have e : (BitVec.ofNat 32 n).toNat = n := by rw [BitVec.toNat_ofNat]; omega
  rw [BitVec.toInt_eq_toNat_cond, e, if_pos (by omega)]

/-- A distance that counts. -/
def distMax (w : BitVec 32) : BitVec 32 := IntOp.maxsi w 0#32

/-- The exact value of a far distance's bucket before truncation, less 16. -/
def logOf (p : BitVec 32) : EReal :=
  Ideal.div (Ideal.log (Ideal.div (((IntOp.maxsi p 1#32).toInt : ℝ) : EReal) (Ideal.ofBits .f32 0x41800000#32))) (Ideal.ofBits .f32 0x40051592#32)
    * Ideal.ofBits .f32 0x41800000#32

/-- The bucket of a distance that has none of its own. -/
def bktLarge (p : BitVec 32) : BitVec 32 := IntOp.minsi (IntOp.addi 16#32 (Ideal.fptosi 32 (logOf p))) 31#32

/-- The bucket of a distance. -/
def bkt (w : BitVec 32) : BitVec 32 := Scalar.select (IntOp.cmpi .slt (distMax w) 16#32) (distMax w) (bktLarge (distMax w))

/-- A table index counted from the end if negative. -/
def wrapped (b : BitVec 32) : BitVec 32 := Scalar.select (IntOp.cmpi .slt b 0#32) (IntOp.addi b 32#32) b

/-- The table row that an index picks. -/
def rowAt (b : BitVec 32) : Fin 32 := ⟨min (wrapped b).toInt.toNat 31, by omega⟩

/-- The row of the bias table for a distance. -/
def rowOf (w : BitVec 32) : Fin 32 := rowAt (bkt w)

/-- The constants of the bucket, as real numbers. -/
theorem sixteen : (Ideal.ofBits .f32 0x41800000#32 : EReal) = ((16 : ℝ) : EReal) := by
  simp [Ideal.ofBits, Ideal.ieee, -EReal.coe_mul]; norm_num

theorem logStep : ∃ c : ℝ, (Ideal.ofBits .f32 0x40051592#32 : EReal) = (c : EReal) ∧ 2 ≤ c ∧ c ≤ 2.08 := by
  refine ⟨8721810 / 2 ^ 22, ?_, by norm_num, by norm_num⟩
  simp [Ideal.ofBits, Ideal.ieee, -EReal.coe_mul]; norm_num

/-- The bucket of a distance of 257 and more (and below 4096) before truncation. -/
theorem logOf_far (n : ℕ) (h : 257 ≤ n) (h' : n ≤ 4095) : ∃ x : ℝ, logOf (BitVec.ofNat 32 n) = (x : EReal) ∧ 15 ≤ x ∧ x < 1000 := by
  obtain ⟨c, hc, c2, c3⟩ := logStep
  have e1 : IntOp.maxsi (BitVec.ofNat 32 n) 1#32 = BitVec.ofNat 32 n := by
    unfold IntOp.maxsi
    rw [if_pos]
    rw [BitVec.slt_iff_toInt_lt, toInt_small n (by omega), show (1#32 : BitVec 32).toInt = 1 by decide]
    omega
  have hn : (257 : ℝ) ≤ n := by exact_mod_cast h
  have hn' : (n : ℝ) ≤ 4095 := by exact_mod_cast h'
  have l2 : 1 - (2 : ℝ)⁻¹ ≤ Real.log 2 := Real.one_sub_inv_le_log_of_pos (by norm_num)
  have l2' : Real.log 2 ≤ 2 - 1 := Real.log_le_sub_one_of_pos (by norm_num)
  norm_num at l2 l2'
  have hl : 4 * Real.log 2 ≤ Real.log ((n : ℝ) * (1 / 16)) := by
    rw [show (4 : ℝ) * Real.log 2 = Real.log (2 ^ 4) by rw [Real.log_pow]; norm_num]
    exact Real.log_le_log (by norm_num) (by norm_num; linarith)
  have hu : Real.log ((n : ℝ) * (1 / 16)) ≤ 8 * Real.log 2 := by
    rw [show (8 : ℝ) * Real.log 2 = Real.log (2 ^ 8) by rw [Real.log_pow]; norm_num]
    exact Real.log_le_log (by linarith) (by norm_num; linarith)
  refine ⟨Real.log ((n : ℝ) * (1 / 16)) * (1 / c) * 16, ?_, ?_, ?_⟩
  · rw [logOf, e1, toInt_small n (by omega), sixteen, hc, Int.cast_natCast, Ideal.div_coe (show (16 : ℝ) ≠ 0 by norm_num), ← EReal.coe_mul, Ideal.log_coe,
      if_neg (by intro h0; linarith), Ideal.div_coe (show c ≠ 0 by intro h0; linarith), ← EReal.coe_mul, ← EReal.coe_mul]
  · rw [mul_one_div, div_mul_eq_mul_div, le_div_iff₀ (by linarith)]
    nlinarith
  · rw [mul_one_div, div_mul_eq_mul_div, div_lt_iff₀ (by linarith)]
    nlinarith

/-- Distances of 257 and more fall in the last bucket. -/
theorem bkt_far (n : ℕ) (h : 257 ≤ n) (h' : n ≤ 4095) : bkt (BitVec.ofNat 32 n) = 31#32 := by
  have e1 : distMax (BitVec.ofNat 32 n) = BitVec.ofNat 32 n := by
    unfold distMax IntOp.maxsi
    rw [if_pos]
    rw [BitVec.slt_iff_toInt_lt, toInt_small n (by omega), show (0#32 : BitVec 32).toInt = 0 by decide]
    omega
  obtain ⟨x, hx, hx1, hx2⟩ := logOf_far n h h'
  have f1 : (15 : ℤ) ≤ ⌊x⌋ := by rw [Int.le_floor]; exact_mod_cast hx1
  have f2 : ⌊x⌋ < 1000 := by rw [Int.floor_lt]; exact_mod_cast hx2
  obtain ⟨f, hf⟩ : ∃ f : ℕ, ⌊x⌋ = (f : ℤ) := ⟨⌊x⌋.toNat, by omega⟩
  have e2 : Ideal.fptosi 32 (logOf (BitVec.ofNat 32 n)) = BitVec.ofNat 32 f := by
    rw [hx, Ideal.fptosi, Ideal.toIntClamped_coe, if_pos (by linarith), hf]
    rw [show max (-((2 ^ (32 - 1) : ℕ) : ℤ)) (min (((2 ^ (32 - 1) : ℕ) : ℤ) - 1) (f : ℤ)) = (f : ℤ) by
      rw [min_eq_right (by omega), max_eq_right (by omega)]]
    exact BitVec.ofInt_natCast 32 f
  have e3 : IntOp.addi 16#32 (BitVec.ofNat 32 f) = BitVec.ofNat 32 (16 + f) := by
    unfold IntOp.addi
    rw [BitVec.ofNat_add]
  rw [bkt, e1]
  have e4 : IntOp.cmpi .slt (BitVec.ofNat 32 n) 16#32 = 0#1 := by
    have : (BitVec.ofNat 32 n).slt 16#32 = false := by
      rw [Bool.eq_false_iff, Ne, BitVec.slt_iff_toInt_lt, toInt_small n (by omega), show (16#32 : BitVec 32).toInt = 16 by decide]
      omega
    show BitVec.ofBool ((BitVec.ofNat 32 n).slt 16#32) = 0#1
    rw [this]
    rfl
  rw [e4, bktLarge, e2, e3]
  show IntOp.minsi _ _ = _
  unfold IntOp.minsi
  split_ifs with h0
  · rw [BitVec.slt_iff_toInt_lt, toInt_small _ (by omega), show (31#32 : BitVec 32).toInt = 31 by decide] at h0
    omega
  · rfl

/-- Distances of 257 and more pick the table's last row. -/
theorem rowOf_far (n : ℕ) (h : 257 ≤ n) (h' : n ≤ 4095) : rowOf (BitVec.ofNat 32 n) = 31 := by
  rw [rowOf, bkt_far n h h']
  decide

/-- The distance of a key from a query, as a word. -/
def dist (i j : ℕ) : BitVec 32 := BitVec.ofNat 32 i - BitVec.ofNat 32 j

/-- A key that isn't behind its query: the distance is a number. -/
theorem dist_of_le (i j : ℕ) (h : j ≤ i) : dist i j = BitVec.ofNat 32 (i - j) := by
  refine BitVec.eq_of_toNat_eq ?_
  rw [dist, BitVec.toNat_sub, BitVec.toNat_ofNat, BitVec.toNat_ofNat, BitVec.toNat_ofNat]
  omega

/-- Distances within a tile are those within the array. -/
theorem dist_add (c i j : ℕ) : dist (c + i) (c + j) = dist i j := by
  refine BitVec.eq_of_toNat_eq ?_
  rw [dist, dist, BitVec.toNat_sub, BitVec.toNat_sub]
  simp only [BitVec.toNat_ofNat]
  omega

/-- Distances to the tile before. -/
theorem dist_near (c i j : ℕ) : dist (c + 256 + i) (c + j) = dist i j + 256#32 := by
  refine BitVec.eq_of_toNat_eq ?_
  rw [dist, dist, BitVec.toNat_add, BitVec.toNat_sub, BitVec.toNat_sub]
  simp only [BitVec.toNat_ofNat]
  omega

/-- The test for a key that isn't behind its query. -/
theorem seen_iff (i j : ℕ) (hi : i < 4096) (hj : j < 4096) : IntOp.cmpi .sge (dist i j) 0#32 = if j ≤ i then 1#1 else 0#1 := by
  show BitVec.ofBool ((0#32 : BitVec 32).sle (dist i j)) = _
  have e : (0#32 : BitVec 32).sle (dist i j) = decide (j ≤ i) := by
    rw [Bool.eq_iff_iff, BitVec.sle_iff_toInt_le, decide_eq_true_iff, show (0#32 : BitVec 32).toInt = 0 by decide]
    by_cases h : j ≤ i
    · rw [dist_of_le i j h, toInt_small _ (by omega)]
      omega
    · have : (dist i j).toNat = 2 ^ 32 - (j - i) := by
        rw [dist, BitVec.toNat_sub, BitVec.toNat_ofNat, BitVec.toNat_ofNat]
        omega
      rw [BitVec.toInt_eq_toNat_cond, this, if_neg (by omega)]
      omega
  rw [e]
  by_cases h : j ≤ i <;> simp [h]

section Rows
variable {α : Type}

/-- The dimension numbers of picking a row of a 32 × 8 table at each place of an n × n array. -/
abbrev rowsDims (n : ℕ) (wf : GatherDims.WF ⟨2, ![32, 8]⟩ ⟨3, ![n, n, 1]⟩ ⟨3, ![n, n, 8]⟩ [2] [0] [] [0] [] 2 ![1, 8]) :
    GatherDims ⟨2, ![32, 8]⟩ ⟨3, ![n, n, 1]⟩ ⟨3, ![n, n, 8]⟩ where
  offsetDims := [2]
  collapsedSliceDims := [0]
  operandBatchingDims := []
  startIndicesBatchingDims := []
  startIndexMap := [0]
  indexVectorDim := 2
  sliceSizes := ![1, 8]
  wf := wf

/-- The rows picked, at a place: the table at the index there, between 0 and 31. -/
theorem rows_apply (n : ℕ) (wf : GatherDims.WF ⟨2, ![32, 8]⟩ ⟨3, ![n, n, 1]⟩ ⟨3, ![n, n, 8]⟩ [2] [0] [] [0] [] 2 ![1, 8])
    (x : (⟨2, ![32, 8]⟩ : Shape).Idx → α) (idx : IVec ⟨3, ![n, n, 1]⟩ 32) (i j : Fin n) (h : Fin 8) :
    Host.gather (rowsDims n wf) x idx (ix3 i j h) = x (ix2 (⟨min (idx (ix3 i j 0)).toInt.toNat 31, by omega⟩ : Fin 32) h) := by
  unfold Host.gather
  refine congrArg x (funext fun a => Fin.ext ?_)
  show (rowsDims n wf).start (ix3 i j h) idx a + (rowsDims n wf).batchCoord (ix3 i j h) a + (rowsDims n wf).offCoord (ix3 i j h) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims n wf).startIndexMap from List.mem_singleton.mpr rfl)]
    have e : (rowsDims n wf).siIdx (ix3 i j h) ⟨List.idxOf (0 : Fin 2) (rowsDims n wf).startIndexMap,
        List.idxOf_lt_length_iff.2 (List.mem_singleton.mpr rfl)⟩ = ix3 i j (0 : Fin 1) := by
      funext b
      refine Fin.ext ?_
      match b with
      | ⟨0, _⟩ => rfl
      | ⟨1, _⟩ => rfl
      | ⟨2, _⟩ => rfl
    exact congrArg (fun z => min (idx z).toInt.toNat 31) e
  · unfold GatherDims.start GatherDims.offCoord
    rw [dif_neg (by simp), dif_pos ((GatherDims.mem_sKept _ _).2 ⟨by simp, by simp⟩), Nat.zero_add]
    rfl

end Rows

end Cert.Proof.Diff

end
-- ==== Proof.HostAt.lean ====
module

public import proofs.«01_k».proof.Proof.Host
public import proofs.«01_k».proof.Proof.Words

@[expose] public section

set_option maxRecDepth 16384

noncomputable section

/-! The arrays that the call finds, element by element. -/

namespace Cert.Proof.Diff

open Cert.KernelIdeal Cert.KernelIdeal.Gen
open Idealize.ShloMosaic Idealize.ShloMosaic.TcCoe Idealize.ShloMosaic.StableHlo

/-- log2(e). -/
def lg : ℝ := 1 / Real.log 2

/-- The host's log2(e). -/
theorem scale_real : Ideal.div 1 (Ideal.log (Ideal.ofBits .f32 0x40000000#32)) = (lg : EReal) := by
  have e : (Ideal.ofBits .f32 0x40000000#32 : EReal) = ((2 : ℝ) : EReal) := by
    simp [Ideal.ofBits, Ideal.ieee, -EReal.coe_mul]
    norm_num
  rw [e, Ideal.log_coe, if_neg (by norm_num), Ideal.div_coe (Real.log_pos (by norm_num)).ne', one_mul]
  rfl

/-- The lanes of a head's first component. -/
theorem first_lane (l : Fin 1024) : IntOp.cmpi .eq (IntOp.andi (BitVec.ofNat 32 l.val) 64#32) 0#32 = if l.val / 64 % 2 = 0 then 1#1 else 0#1 := by
  revert l
  decide

/-- The first queries: the first component's lanes times log2(e), 0 elsewhere. -/
theorem hQa_apply (x : Vec Ideal S4x4096x8x2x64 .f32) (b : Fin 4) (i : Fin 4096) (l : Fin 1024) :
    hQa x (ix3 b i l) = if l.val / 64 % 2 = 0 then
      x (ix5 b i (⟨l.val / 128, by omega⟩ : Fin 8) (⟨l.val / 64 % 2, by omega⟩ : Fin 2) (⟨l.val % 64, by omega⟩ : Fin 64)) * (lg : EReal) else 0 := by
  pointwise [hQa, hFirst, hQl, hZero, hScale]
  rw [first_lane, ← scale_real]
  split_ifs
  · rfl
  · exact Ideal.ofBits_zero_f32

/-- The second queries: the second component's lanes times log2(e), 0 elsewhere. -/
theorem hQb_apply (x : Vec Ideal S4x4096x8x2x64 .f32) (b : Fin 4) (i : Fin 4096) (l : Fin 1024) :
    hQb x (ix3 b i l) = if l.val / 64 % 2 = 0 then 0 else
      x (ix5 b i (⟨l.val / 128, by omega⟩ : Fin 8) (⟨l.val / 64 % 2, by omega⟩ : Fin 2) (⟨l.val % 64, by omega⟩ : Fin 64)) * (lg : EReal) := by
  pointwise [hQb, hFirst, hQl, hZero, hScale]
  rw [first_lane, ← scale_real]
  split_ifs
  · exact Ideal.ofBits_zero_f32
  · rfl

/-- The keys, side by side. -/
theorem hKb_apply (x : Vec Ideal S4x4096x8x2x64 .f32) (b : Fin 4) (i : Fin 4096) (l : Fin 1024) :
    hKb x (ix3 b i l) = x (ix5 b i (⟨l.val / 128, by omega⟩ : Fin 8) (⟨l.val / 64 % 2, by omega⟩ : Fin 2) (⟨l.val % 64, by omega⟩ : Fin 64)) := by
  pointwise [hKb]

/-- The values in tiles of keys, over rows of ones. -/
theorem hVt_apply (x : Vec Ideal S4x4096x8x128 .f32) (b : Fin 4) (h : Fin 8) (t : Fin 16) (d : Fin 144) (k : Fin 256) :
    hVt x (ix5 b h t d k) = if hd : d.val < 128 then x (ix4 b (⟨t.val * 256 + k.val, by omega⟩ : Fin 4096) h (⟨d.val, hd⟩ : Fin 128)) else 1 := by
  pointwise [hVt]

/-- The bucket tile at a place. -/
theorem hBucket_apply (w : Vec Ideal S256x256 .i32) (k r : Fin 256) : hBucket (F := Ideal) w (ix2 k r) = bkt (w (ix2 k r)) := by
  pointwise [hBucket, hMax, hSmall, hLarge, hWord, hNum]
  rfl

/-- The table's rows of a tile at a place. -/
theorem hLook_apply (x : Vec Ideal S32x8 .f32) (w : Vec Ideal S256x256 .i32) (h : Fin 8) (k r : Fin 256) :
    hLook x (hFar x) w (ix3 h k r) = (x (ix2 (rowAt (w (ix2 k r))) h) - x (ix2 (31 : Fin 32) h)) * (lg : EReal) := by
  pointwise [hLook, hFar, hWord, hScale]
  rw [← scale_real]
  refine congrArg (fun z => (z - x (ix2 (31 : Fin 32) h)) * Ideal.div 1 (Ideal.log (Ideal.ofBits .f32 0x40000000#32))) ?_
  refine (rows_apply 256 gather_S32x8_S256x256x1_S256x256x8_2_0_n_n_0_2_18_wf x _ k r h).trans ?_
  refine congrArg (fun z => x (ix2 z h)) (Fin.ext ?_)
  refine congrArg (fun z : BitVec 32 => min z.toInt.toNat 31) ?_
  pointwise
  rfl

/-- The distances of the diagonal tile. -/
theorem hDist_apply (k r : Fin 256) : hDist (F := Ideal) (ix2 k r) = dist r.val k.val := by
  pointwise [hDist]
  rfl

/-- The bias tiles: the diagonal tile's, with minus infinity where the key is behind the query, and the tile's before it. -/
theorem hBias_apply (x : Vec Ideal S32x8 .f32) (h : Fin 8) (p : Fin 2) (k r : Fin 256) :
    hBias x (ix4 h p k r) = if p.val < 1 then
        (if k.val ≤ r.val then (x (ix2 (rowOf (dist r.val k.val)) h) - x (ix2 (31 : Fin 32) h)) * (lg : EReal) else ⊥)
      else (x (ix2 (rowOf (dist r.val k.val + 256#32)) h) - x (ix2 (31 : Fin 32) h)) * (lg : EReal) := by
  pointwise [hBias, hPair, hMask, hSeen, hWord]
  have e1 : hLook x (hFar x) (hBucket (F := Ideal) (hDist (F := Ideal))) (ix3 h k r) = (x (ix2 (rowOf (dist r.val k.val)) h) - x (ix2 (31 : Fin 32) h)) * (lg : EReal) := by
    rw [hLook_apply, hBucket_apply, hDist_apply, rowOf]
  have e2 : hLook x (hFar x) (hBucket (F := Ideal) (addi (hDist (F := Ideal)) (hWord (F := Ideal) 256#32))) (ix3 h k r)
      = (x (ix2 (rowOf (dist r.val k.val + 256#32)) h) - x (ix2 (31 : Fin 32) h)) * (lg : EReal) := by
    rw [hLook_apply, hBucket_apply, rowOf]
    refine congrArg (fun z => (x (ix2 (rowAt (bkt z)) h) - x (ix2 (31 : Fin 32) h)) * (lg : EReal)) ?_
    show hDist (F := Ideal) (ix2 k r) + 256#32 = _
    rw [hDist_apply]
  rw [hDist_apply, seen_iff _ _ (by omega) (by omega), e1]
  unfold hWord at e2
  rw [e2]
  refine if_congr Iff.rfl ?_ rfl
  split_ifs
  · rfl
  · show Ideal.ofBits .f32 0xFF800000#32 = ⊥
    simp [Ideal.ofBits, Ideal.ieee]

end Cert.Proof.Diff

end
-- ==== Proof.Out.lean ====
module

public import proofs.«01_k».proof.Proof.Group
public import proofs.«01_k».proof.Proof.Body

@[expose] public section

set_option maxRecDepth 16384

noncomputable section

/-! One query tile's output block, element by element. -/

namespace Cert.Proof.Diff

open Cert.KernelIdeal Cert.KernelIdeal.Gen
open Idealize.ShloMosaic Idealize.ShloMosaic.TcCoe

/-- The weight of the second component. -/
def lamOf (a b c d : Fin 64 → EReal) : EReal :=
  Ideal.exp (∑ k : Fin 64, a k * b k) - Ideal.exp (∑ k : Fin 64, c k * d k) + Ideal.ofBits .f32 0x3EB60549#32

/-- A head's output normalised: `y` by its root mean square, times the gain `g`. -/
def normed (y : Fin 128 → EReal) (g : EReal) (d : Fin 128) : EReal :=
  y d * Ideal.rsqrt (Ideal.div (∑ e : Fin 128, y e * y e) (Ideal.ofBits .f32 0x43000000#32) + Ideal.ofBits .f32 0x358637BD#32) * g
    * Ideal.ofBits .f32 0x3F24FD5C#32

/-- What the last operations of a query tile make of the sums. -/
theorem pay98_apply (u : FVec Ideal S128x512 .f32) (w : FVec Ideal S1x512 .f32) (x8 x9 x10 x11 : Vec Ideal S1x64 .f32) (x12 : Vec Ideal S1x128 .f32)
    (r : Fin 256) (d : Fin 128) :
    k0_pay98 u w x8 x9 x10 x11 x12 (ix2 r d)
      = normed (fun e => Ideal.div (u (ix2 e (⟨r.val, by omega⟩ : Fin 512))) (w (ix2 0 (⟨r.val, by omega⟩ : Fin 512)))
          - lamOf (fun k => x8 (ix2 0 k)) (fun k => x9 (ix2 0 k)) (fun k => x10 (ix2 0 k)) (fun k => x11 (ix2 0 k))
            * Ideal.div (u (ix2 e (⟨256 + r.val, by omega⟩ : Fin 512))) (w (ix2 0 (⟨256 + r.val, by omega⟩ : Fin 512)))) (x12 (ix2 0 d)) d := by
  pointwise [k0_pay98, normed, lamOf]

/-- The state's rows 0..127. -/
theorem acc_rows (acc : FVec Ideal S144x512 .f32) (e : Fin 128) (n : Fin 512) :
    VecWindow.window acc ![0, 0] S128x512.size (by decide) (ix2 e n) = acc (ix2 (⟨e.val, by omega⟩ : Fin 144) n) := by
  refine congrArg acc (funext fun a => Fin.ext ?_)
  fin_cases a <;> simp [Rect.emb, Rect.unit, ix2]

/-- The state's row 128. -/
theorem acc_row (acc : FVec Ideal S144x512 .f32) (n : Fin 512) :
    VecWindow.window acc ![128, 0] S1x512.size (by decide) (ix2 0 n) = acc (ix2 (⟨128, by omega⟩ : Fin 144) n) := by
  refine congrArg acc (funext fun a => Fin.ext ?_)
  fin_cases a <;> simp [Rect.emb, Rect.unit, ix2]

/-- A quotient of two sums under one scale. -/
theorem div_scaled (μ C X Y : ℝ) (hC : C ≠ 0) (hY : Y ≠ 0) :
    Ideal.div (((2 : ℝ) ^ (-μ) * (C * X) : ℝ) : EReal) (((2 : ℝ) ^ (-μ) * (C * Y) : ℝ) : EReal) = ((X / Y : ℝ) : EReal) := by
  have h2 : (2 : ℝ) ^ (-μ) ≠ 0 := (Real.rpow_pos_of_pos (by norm_num) _).ne'
  rw [Ideal.div_coe (mul_ne_zero h2 (mul_ne_zero hC hY)), ← EReal.coe_mul]
  refine congrArg (fun r : ℝ => (r : EReal)) ?_
  field_simp

section Value

variable (v4 : BitVec 32) (q : FVec Ideal S512x128 .bf16) (x5 : Vec Ideal S1x4096x128 .bf16) (x6 : Vec Ideal S1x1x16x144x256 .bf16)
  (x7 : Vec Ideal S1x2x256x256 .f32) (N : ℕ)
  (sr : ℕ → Fin 256 → Fin 512 → ℝ) (vr : ℕ → Fin 144 → Fin 256 → ℝ) (bn bd : Fin 256 → Fin 512 → ℝ) (w : ℕ → Fin 256 → Fin 512 → ℝ) (C : ℝ)

/-- At the end of query tile `N` the state stands for `C` times the sums of the values by the weights `w`, if each tile's powers of two
    are `C` times these weights. -/
theorem tileState_value
    (hs : ∀ t k n, score q (ktile x5 t) (ix2 k n) = (sr t k n : EReal))
    (hv : ∀ t d k, vtile x6 t (ix5 0 0 0 d k) = (vr t d k : EReal))
    (hn : ∀ k n, biasNear v4 (btile x7 1) (ix2 k n) = if N = 0 then (⊥ : EReal) else (bn k n : EReal))
    (hd : ∀ (k : Fin 256) (n : Fin 512), biasTwice (btile x7 0) (ix2 k n) = if n.val % 256 < k.val then (⊥ : EReal) else (bd k n : EReal))
    (wf : ∀ t k n, t + 1 < N → (2 : ℝ) ^ sr t k n = C * w t k n)
    (wn : ∀ k n, N ≠ 0 → (2 : ℝ) ^ (sr (N - 1) k n + bn k n) = C * w (N - 1) k n)
    (wd0 : ∀ (k : Fin 256) (n : Fin 512), n.val % 256 < k.val → w N k n = 0)
    (wd : ∀ (k : Fin 256) (n : Fin 512), ¬ n.val % 256 < k.val → (2 : ℝ) ^ (sr N k n + bd k n) = C * w N k n) :
    Holds (tileState v4 q x5 x6 x7 N) (fun d n => C * ∑ t ∈ Finset.range (N + 1), ∑ k : Fin 256, vr t d k * w t k n) := by
  have en : ∀ k n, addf (score q (ktile x5 (N - 1))) (biasNear v4 (btile x7 1)) (ix2 k n)
      = if N = 0 then (⊥ : EReal) else ((sr (N - 1) k n + bn k n : ℝ) : EReal) := by
    intro k n
    show score q (ktile x5 (N - 1)) (ix2 k n) + biasNear v4 (btile x7 1) (ix2 k n) = _
    rw [hs, hn]
    split_ifs
    · exact EReal.add_bot _
    · exact (EReal.coe_add _ _).symm
  have ed : ∀ (k : Fin 256) (n : Fin 512), addf (score q (ktile x5 N)) (biasTwice (btile x7 0)) (ix2 k n)
      = if n.val % 256 < k.val then (⊥ : EReal) else ((sr N k n + bd k n : ℝ) : EReal) := by
    intro k n
    show score q (ktile x5 N) (ix2 k n) + biasTwice (btile x7 0) (ix2 k n) = _
    rw [hs, hd]
    split_ifs
    · exact EReal.add_bot _
    · exact (EReal.coe_add _ _).symm
  have hf : ∀ i, TileOk (farTile q x5 x6 i) := fun i => ⟨fun k n => by rw [farTile]; dsimp only; rw [hs]; exact EReal.coe_ne_top _, fun d k => ⟨_, hv i d k⟩⟩
  have hl : ∀ t ∈ lastTiles v4 q x5 x6 x7 N, TileOk t := by
    intro t ht
    simp only [lastTiles, List.mem_cons, List.not_mem_nil, or_false] at ht
    rcases ht with rfl | rfl
    · exact ⟨fun k n => by dsimp only; rw [en]; split_ifs <;> first | exact bot_ne_top | exact EReal.coe_ne_top _, fun d k => ⟨_, hv _ d k⟩⟩
    · exact ⟨fun k n => by dsimp only; rw [ed]; split_ifs <;> first | exact bot_ne_top | exact EReal.coe_ne_top _, fun d k => ⟨_, hv _ d k⟩⟩
  refine cast (congrArg (Holds _) (funext fun d => funext fun n => ?_)) (tileState_holds q x5 x6 v4 x7 N hf hl)
  have sf : ∀ t, t + 1 < N → tsum (farTile q x5 x6 t) d n = C * ∑ k : Fin 256, vr t d k * w t k n := by
    intro t ht
    rw [tsum, Finset.mul_sum]
    refine Finset.sum_congr rfl fun k _ => ?_
    rw [farTile]
    dsimp only
    rw [hs, hv, EReal.toReal_coe, wt, if_neg (EReal.coe_ne_bot _), EReal.toReal_coe, wf t k n ht]
    ring
  have sn : tsum (addf (score q (ktile x5 (N - 1))) (biasNear v4 (btile x7 1)), vtile x6 (N - 1)) d n
      = if N = 0 then 0 else C * ∑ k : Fin 256, vr (N - 1) d k * w (N - 1) k n := by
    rw [tsum]
    by_cases h0 : N = 0
    · rw [if_pos h0]
      refine Finset.sum_eq_zero fun k _ => ?_
      dsimp only
      rw [en, if_pos h0, wt, if_pos rfl, mul_zero]
    · rw [if_neg h0, Finset.mul_sum]
      refine Finset.sum_congr rfl fun k _ => ?_
      dsimp only
      rw [en, if_neg h0, hv, EReal.toReal_coe, wt, if_neg (EReal.coe_ne_bot _), EReal.toReal_coe, wn k n h0]
      ring
  have sd : tsum (addf (score q (ktile x5 N)) (biasTwice (btile x7 0)), vtile x6 N) d n = C * ∑ k : Fin 256, vr N d k * w N k n := by
    rw [tsum, Finset.mul_sum]
    refine Finset.sum_congr rfl fun k _ => ?_
    dsimp only
    rw [ed, hv, EReal.toReal_coe]
    by_cases h0 : n.val % 256 < k.val
    · rw [if_pos h0, wt, if_pos rfl, wd0 k n h0, mul_zero, mul_zero]
    · rw [if_neg h0, wt, if_neg (EReal.coe_ne_bot _), EReal.toReal_coe, wd k n h0]
      ring
  have e : ((lastTiles v4 q x5 x6 x7 N).map fun t => tsum t d n).sum
      = (if N = 0 then 0 else C * ∑ k : Fin 256, vr (N - 1) d k * w (N - 1) k n) + C * ∑ k : Fin 256, vr N d k * w N k n := by
    rw [← sn, ← sd]
    simp [lastTiles]
  rw [e, Finset.sum_congr rfl fun t ht => sf t (by have := Finset.mem_range.1 ht; omega), ← Finset.mul_sum]
  rcases Nat.eq_zero_or_pos N with rfl | hN
  · simp
  · obtain ⟨M, rfl⟩ : ∃ M, N = M + 1 := ⟨N - 1, by omega⟩
    rw [if_neg (by omega), Finset.sum_range_succ _ (M + 1), show M + 1 - 1 = M by omega, Finset.sum_range_succ _ M]
    ring

/-- The last operations on a state that stands for `C` times sums of values by weights: the quotients of the sums, combined. -/
theorem combine_value (st : St Ideal) (B : Fin 144 → Fin 512 → ℝ) (hC : C ≠ 0) (h : Holds st (fun d n => C * B d n))
    (hB : ∀ n, B (⟨128, by omega⟩ : Fin 144) n ≠ 0) (x8 x9 x10 x11 : Vec Ideal S1x64 .f32) (x12 : Vec Ideal S1x128 .f32) (r : Fin 256) (d : Fin 128) :
    combine st.acc x8 x9 x10 x11 x12 (ix2 r d)
      = normed (fun e => ((B (⟨e.val, by omega⟩ : Fin 144) (⟨r.val, by omega⟩ : Fin 512) / B (⟨128, by omega⟩ : Fin 144) (⟨r.val, by omega⟩ : Fin 512) : ℝ) : EReal)
          - lamOf (fun k => x8 (ix2 0 k)) (fun k => x9 (ix2 0 k)) (fun k => x10 (ix2 0 k)) (fun k => x11 (ix2 0 k))
            * ((B (⟨e.val, by omega⟩ : Fin 144) (⟨256 + r.val, by omega⟩ : Fin 512) / B (⟨128, by omega⟩ : Fin 144) (⟨256 + r.val, by omega⟩ : Fin 512) : ℝ) : EReal))
          (x12 (ix2 0 d)) d := by
  have hq : ∀ (e : Fin 128) (n : Fin 512), Ideal.div (st.acc (ix2 (⟨e.val, by omega⟩ : Fin 144) n)) (st.acc (ix2 (⟨128, by omega⟩ : Fin 144) n))
      = ((B (⟨e.val, by omega⟩ : Fin 144) n / B (⟨128, by omega⟩ : Fin 144) n : ℝ) : EReal) := by
    intro e n
    obtain ⟨μ, -, ha⟩ := h n
    rw [ha, ha]
    exact div_scaled μ C _ _ hC (hB n)
  rw [combine, pay98_apply]
  refine congrArg (fun y : Fin 128 → EReal => normed y (x12 (ix2 0 d)) d) (funext fun e => ?_)
  rw [acc_rows, acc_row, acc_rows, acc_row, hq, hq]

/-- One element of a query tile's output block is its tile's. -/
theorem tileOut_apply (x3 x4 : Vec Ideal S1x1024x128 .bf16) (x8 x9 x10 x11 : Vec Ideal S1x64 .f32) (x12 : Vec Ideal S1x128 .f32) (r : ℕ)
    (a : ℕ) (ha : a < 256) (d : Fin 128) :
    tileOut v4 x3 x4 x5 x6 x7 x8 x9 x10 x11 x12 N r (tix a ha d)
      = combine (tileState v4 (queries (qtile x3 r) (qtile x4 r)) x5 x6 x7 N).acc x8 x9 x10 x11 x12 (ix2 (⟨a, ha⟩ : Fin 256) d) := by
  have e : tix a ha d = ix3 (0 : Fin 1) (⟨a, ha⟩ : Fin 256) d := by
    funext i
    refine Fin.ext ?_
    fin_cases i <;> rfl
  rw [e, tileOut]
  generalize combine (tileState v4 (queries (qtile x3 r) (qtile x4 r)) x5 x6 x7 N).acc x8 x9 x10 x11 x12 = z
  pointwise

end Value

section Reads

variable (x3 x4 : Vec Ideal S1x1024x128 .bf16) (x5 : Vec Ideal S1x4096x128 .bf16) (x6 : Vec Ideal S1x1x16x144x256 .bf16) (x7 : Vec Ideal S1x2x256x256 .f32)

theorem ktile_apply (t : ℕ) (k : Fin 256) (e : Fin 128) :
    ktile x5 t (ix3 0 k e) = x5 (ix3 0 (⟨256 * (t % 16) + k.val, by omega⟩ : Fin 4096) e) := by
  refine congrArg x5 (funext fun a => Fin.ext ?_)
  fin_cases a <;> simp [Rect.emb, Rect.unit, ix3]

theorem vtile_apply (t : ℕ) (d : Fin 144) (k : Fin 256) :
    vtile x6 t (ix5 0 0 0 d k) = x6 (ix5 0 0 (⟨t % 16, by omega⟩ : Fin 16) d k) := by
  refine congrArg x6 (funext fun a => Fin.ext ?_)
  fin_cases a <;> simp [Rect.emb, Rect.unit, ix5]

theorem qtile_apply (x : Vec Ideal S1x1024x128 .bf16) (t : ℕ) (k : Fin 256) (e : Fin 128) :
    qtile x t (ix3 0 k e) = x (ix3 0 (⟨256 * (t % 4) + k.val, by omega⟩ : Fin 1024) e) := by
  refine congrArg x (funext fun a => Fin.ext ?_)
  fin_cases a <;> simp [Rect.emb, Rect.unit, ix3]

theorem btile_apply (t : ℕ) (k r : Fin 256) :
    btile x7 t (ix4 0 0 k r) = x7 (ix4 0 (⟨t % 2, by omega⟩ : Fin 2) k r) := by
  refine congrArg x7 (funext fun a => Fin.ext ?_)
  fin_cases a <;> simp [Rect.emb, Rect.unit, ix4]

/-- A score of the first component's queries. -/
theorem score_first (t r : ℕ) (k : Fin 256) (n : Fin 512) (h : n.val < 256) :
    score (queries (qtile x3 r) (qtile x4 r)) (ktile x5 t) (ix2 k n)
      = ∑ e : Fin 128, x5 (ix3 0 (⟨256 * (t % 16) + k.val, by omega⟩ : Fin 4096) e) * x3 (ix3 0 (⟨256 * (r % 4) + n.val, by omega⟩ : Fin 1024) e) := by
  pointwise [score, queries]
  refine Finset.sum_congr rfl fun e _ => ?_
  simp only [h, dif_pos, if_pos, ktile_apply, qtile_apply]

/-- A score of the second component's queries. -/
theorem score_second (t r : ℕ) (k : Fin 256) (n : Fin 512) (h : ¬ n.val < 256) :
    score (queries (qtile x3 r) (qtile x4 r)) (ktile x5 t) (ix2 k n)
      = ∑ e : Fin 128, x5 (ix3 0 (⟨256 * (t % 16) + k.val, by omega⟩ : Fin 4096) e) * x4 (ix3 0 (⟨256 * (r % 4) + (n.val - 256), by omega⟩ : Fin 1024) e) := by
  pointwise [score, queries]
  refine Finset.sum_congr rfl fun e _ => ?_
  simp only [h, dif_neg, if_neg, ktile_apply, qtile_apply, not_false_eq_true]

/-- A bias tile beside itself. -/
theorem biasTwice_apply (t : ℕ) (k : Fin 256) (n : Fin 512) :
    biasTwice (btile x7 t) (ix2 k n) = x7 (ix4 0 (⟨t % 2, by omega⟩ : Fin 2) k (⟨n.val % 256, by omega⟩ : Fin 256)) := by
  have e : biasTwice (btile x7 t) (ix2 k n) = btile x7 t (ix4 0 0 k (⟨n.val % 256, by omega⟩ : Fin 256)) := by
    pointwise [biasTwice]
    split_ifs with h
    · have e : n.val % 256 = n.val := by omega
      simp only [e]
    all_goals
      have e : n.val % 256 = n.val - 256 := by omega
      simp only [e]
  rw [e, btile_apply]

end Reads

end Cert.Proof.Diff

end
-- ==== Proof.Finite.lean ====
module

public import proofs.«01_k».proof.Proof.Gen.Pre_finite
public import Idealize.ShloMosaic.Lib.ReduceAll
public import Idealize.ShloMosaic.Lib.Pointwise
public import Idealize.ShloMosaic.PureOps.Ideal

@[expose] public section

set_option maxRecDepth 16384

noncomputable section

/-! What the precondition says: the numbers are real. -/

namespace Cert.Proof.Diff

open Cert.Pre_finite Cert.Pre_finite.Gen
open Idealize.ShloMosaic

/-- An array of real numbers. -/
def AllReal {s : Shape} (x : s.Idx → EReal) : Prop := ∀ i, x i = ((x i).toReal : EReal)

/-- A number whose absolute value is below infinity is real. -/
theorem real_of_abs_lt (x : EReal) (h : Ideal.cmp .olt (max x (-x)) (Ideal.ofBits .f32 0x7F800000#32) = 1#1) : x = (x.toReal : EReal) := by
  induction x with
  | coe a => rfl
  | bot => exact absurd h (by simp [Ideal.cmp, Ideal.ofBits, Ideal.ieee])
  | top => exact absurd h (by simp [Ideal.cmp, Ideal.ofBits, Ideal.ieee])

variable (x0 x1 : (⟨5, ![4, 4096, 8, 2, 64]⟩ : Shape).Idx → EReal) (x2 : (⟨4, ![4, 4096, 8, 128]⟩ : Shape).Idx → EReal) (x3 : (⟨2, ![32, 8]⟩ : Shape).Idx → EReal)
  (x4 x5 x6 x7 : (⟨1, ![64]⟩ : Shape).Idx → EReal) (x8 : (⟨1, ![128]⟩ : Shape).Idx → EReal)

/-- The precondition, read: every argument but the gain is an array of real numbers. -/
theorem finite_real (h : Cert.Pre_finite.fn (F := Ideal) x0 x1 x2 x3 x4 x5 x6 x7 x8 = fun _ => 1#1) :
    AllReal x0 ∧ AllReal x1 ∧ AllReal x2 ∧ AllReal x3 ∧ AllReal x4 ∧ AllReal x5 ∧ AllReal x6 ∧ AllReal x7 := by
  have e := congrFun h (fun a => a.elim0)
  unfold Cert.Pre_finite.fn fn_part1 fn_part2 at e
  haveI : Subsingleton S_.Idx := ⟨fun a b => funext fun z => z.elim0⟩
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => real_of_abs_lt _ (Host.reduce_andi_all _ _ _ _ _ e4 i), fun i => real_of_abs_lt _ (Host.reduce_andi_all _ _ _ _ _ e5 i),
    fun i => real_of_abs_lt _ (Host.reduce_andi_all _ _ _ _ _ e6 i), fun i => real_of_abs_lt _ (Host.reduce_andi_all _ _ _ _ _ e7 i)⟩

end Cert.Proof.Diff

end
-- ==== Proof.Math.lean ====
module

public import proofs.«01_k».proof.Proof.Words
public import proofs.«01_k».proof.Proof.Out
public import proofs.«01_k».proof.Proof.Finite

@[expose] public section

set_option maxRecDepth 16384

noncomputable section

/-! The attention over the real numbers: what both programs compute. -/

namespace Cert.Proof.Diff

open Idealize.ShloMosaic

/-- Queries and keys. -/
abbrev QK := (⟨5, ![4, 4096, 8, 2, 64]⟩ : Shape).Idx → EReal
/-- Values. -/
abbrev Vals := (⟨4, ![4, 4096, 8, 128]⟩ : Shape).Idx → EReal
/-- The bias table. -/
abbrev Tab := (⟨2, ![32, 8]⟩ : Shape).Idx → EReal

variable (q k : QK) (v : Vals) (tab : Tab)

/-- A query's product with a key. -/
def dotr (b : Fin 4) (h : Fin 8) (c : Fin 2) (i j : Fin 4096) : ℝ :=
  ∑ d : Fin 64, (q (ix5 b i h c d)).toReal * (k (ix5 b j h c d)).toReal

/-- The bias of a distance. -/
def biasr (h : Fin 8) (w : BitVec 32) : ℝ := (tab (ix2 (rowOf w) h)).toReal

/-- A query's score at a key. -/
def scr (b : Fin 4) (h : Fin 8) (c : Fin 2) (i j : Fin 4096) : ℝ := dotr q k b h c i j + biasr tab h (dist i.val j.val)

/-- A query's weight at a key: 0 behind the query. -/
def wgt (b : Fin 4) (h : Fin 8) (c : Fin 2) (i j : Fin 4096) : ℝ := if j.val ≤ i.val then Real.exp (scr q k tab b h c i j) else 0

theorem wgt_nonneg (b : Fin 4) (h : Fin 8) (c : Fin 2) (i j : Fin 4096) : 0 ≤ wgt q k tab b h c i j := by
  unfold wgt
  split_ifs
  · exact (Real.exp_pos _).le
  · exact le_rfl

/-- A query weighs itself: the weights' sum is positive. -/
theorem wsum_pos (b : Fin 4) (h : Fin 8) (c : Fin 2) (i : Fin 4096) : 0 < ∑ j : Fin 4096, wgt q k tab b h c i j := by
  refine Finset.sum_pos' (fun j _ => wgt_nonneg q k tab b h c i j) ⟨i, Finset.mem_univ _, ?_⟩
  unfold wgt
  rw [if_pos le_rfl]
  exact Real.exp_pos _

/-- A component's attention. -/
def att (b : Fin 4) (h : Fin 8) (c : Fin 2) (i : Fin 4096) (e : Fin 128) : ℝ :=
  (∑ j : Fin 4096, (v (ix4 b j h e)).toReal * wgt q k tab b h c i j) / ∑ j : Fin 4096, wgt q k tab b h c i j

variable (l1 l2 l3 l4 : Fin 64 → EReal) (g : Fin 128 → EReal)

/-- One element of the result: the first component's attention less the second's, normalised. -/
def resAt (b : Fin 4) (i : Fin 4096) (h : Fin 8) (d : Fin 128) : EReal :=
  normed (fun e => (att q k v tab b h 0 i e : EReal) - lamOf l1 l2 l3 l4 * (att q k v tab b h 1 i e : EReal)) (g d) d

/-- The weight of the second component is a real number. -/
theorem lamOf_real (h1 : ∀ d, l1 d = ((l1 d).toReal : EReal)) (h2 : ∀ d, l2 d = ((l2 d).toReal : EReal))
    (h3 : ∀ d, l3 d = ((l3 d).toReal : EReal)) (h4 : ∀ d, l4 d = ((l4 d).toReal : EReal)) : ∃ r : ℝ, lamOf l1 l2 l3 l4 = (r : EReal) := by
  have e : (Ideal.ofBits .f32 0x3EB60549#32 : EReal) = ((11928905 / 2 ^ 25 : ℝ) : EReal) := by
    simp [Ideal.ofBits, Ideal.ieee, -EReal.coe_mul]
    norm_num
  have s : ∀ a b : Fin 64 → EReal, (∀ d, a d = ((a d).toReal : EReal)) → (∀ d, b d = ((b d).toReal : EReal)) →
      ∑ d, a d * b d = ((∑ d, (a d).toReal * (b d).toReal : ℝ) : EReal) := by
    intro a b ha hb
    rw [← coe_sum]
    refine Finset.sum_congr rfl fun d _ => ?_
    rw [EReal.coe_mul, ← ha, ← hb]
  rw [lamOf, s l1 l2 h1 h2, s l3 l4 h3 h4, Ideal.exp_coe, Ideal.exp_coe, e, ← EReal.coe_sub, ← EReal.coe_add]
  exact ⟨_, rfl⟩

end Cert.Proof.Diff

end
-- ==== Proof.Lanes.lean ====
module

public import proofs.«01_k».proof.Proof.HostAt
public import proofs.«01_k».proof.Proof.Math

@[expose] public section

set_option maxRecDepth 16384

noncomputable section

/-! The host's lanes of one head, the products of queries and keys over them, and a sum over key tiles. -/

namespace Cert.Proof.Diff

open Cert.KernelIdeal Cert.KernelIdeal.Gen
open Idealize.ShloMosaic Idealize.ShloMosaic.TcCoe

/-- The queries' and keys' lanes: head, then component. -/
theorem lane_first (x : QK) (b : Fin 4) (i : Fin 4096) (h : Fin 8) (l : Fin 1024) (d : Fin 64) (e : l.val = h.val * 128 + d.val) :
    x (ix5 b i (⟨l.val / 128, by omega⟩ : Fin 8) (⟨l.val / 64 % 2, by omega⟩ : Fin 2) (⟨l.val % 64, by omega⟩ : Fin 64)) = x (ix5 b i h 0 d) := by
  have e1 : (⟨l.val / 128, by omega⟩ : Fin 8) = h := Fin.ext (by dsimp only; omega)
  have e2 : (⟨l.val / 64 % 2, by omega⟩ : Fin 2) = 0 := Fin.ext (by show l.val / 64 % 2 = 0; omega)
  have e3 : (⟨l.val % 64, by omega⟩ : Fin 64) = d := Fin.ext (by dsimp only; omega)
  rw [e1, e2, e3]

theorem lane_second (x : QK) (b : Fin 4) (i : Fin 4096) (h : Fin 8) (l : Fin 1024) (d : Fin 64) (e : l.val = h.val * 128 + (64 + d.val)) :
    x (ix5 b i (⟨l.val / 128, by omega⟩ : Fin 8) (⟨l.val / 64 % 2, by omega⟩ : Fin 2) (⟨l.val % 64, by omega⟩ : Fin 64)) = x (ix5 b i h 1 d) := by
  have e1 : (⟨l.val / 128, by omega⟩ : Fin 8) = h := Fin.ext (by dsimp only; omega)
  have e2 : (⟨l.val / 64 % 2, by omega⟩ : Fin 2) = 1 := Fin.ext (by show l.val / 64 % 2 = 1; omega)
  have e3 : (⟨l.val % 64, by omega⟩ : Fin 64) = d := Fin.ext (by dsimp only; omega)
  rw [e1, e2, e3]

/-- Lane `e` of head `h`. -/
abbrev lane (h : Fin 8) (e : Fin 128) : Fin 1024 := ⟨h.val * 128 + e.val, by omega⟩

/-- Query `y` of a grid point's block. -/
abbrev qat (g : Fin 4) (y : Fin 1024) : Fin 4096 := ⟨g.val * 1024 + y.val, by omega⟩

/-- A sum over a head's lanes is one over each component's. -/
theorem sum_lanes (f : Fin 128 → EReal) : ∑ e, f e = (∑ d : Fin 64, f ⟨d.val, by omega⟩) + ∑ d : Fin 64, f ⟨64 + d.val, by omega⟩ :=
  Fin.sum_univ_add (a := 64) (b := 64) f

/-- A sum of products of real numbers, one factor scaled. -/
theorem scaled_dot (q k : QK) (hq : AllReal q) (hk : AllReal k) (b : Fin 4) (h : Fin 8) (c : Fin 2) (i j : Fin 4096) :
    ∑ d : Fin 64, k (ix5 b j h c d) * (q (ix5 b i h c d) * (lg : EReal)) = ((lg * dotr q k b h c i j : ℝ) : EReal) := by
  rw [dotr, Finset.mul_sum, ← coe_sum]
  refine Finset.sum_congr rfl fun d _ => ?_
  rw [hk, hq, ← EReal.coe_mul, ← EReal.coe_mul]
  refine congrArg (fun r : ℝ => (r : EReal)) ?_
  rw [EReal.toReal_coe, EReal.toReal_coe]
  ring

/-- The first queries times the keys: the first component's product. -/
theorem dot_first (q k : QK) (hq : AllReal q) (hk : AllReal k) (b : Fin 4) (h : Fin 8) (i j : Fin 4096) :
    ∑ e : Fin 128, (hKb (F := Ideal) k (ix3 b j (lane h e)) : EReal) * hQa (F := Ideal) q (ix3 b i (lane h e)) = ((lg * dotr q k b h 0 i j : ℝ) : EReal) := by
  rw [sum_lanes, ← scaled_dot q k hq hk]
  have z : ∑ d : Fin 64, (hKb (F := Ideal) k (ix3 b j (lane h ⟨64 + d.val, by omega⟩)) : EReal) * hQa (F := Ideal) q (ix3 b i (lane h ⟨64 + d.val, by omega⟩)) = 0 := by
    refine Finset.sum_eq_zero fun d _ => ?_
    rw [hQa_apply, if_neg (by show ¬ (h.val * 128 + (64 + d.val)) / 64 % 2 = 0; omega), mul_zero]
  rw [z, add_zero]
  refine Finset.sum_congr rfl fun d _ => ?_
  rw [hQa_apply, if_pos (by show (h.val * 128 + d.val) / 64 % 2 = 0; omega), hKb_apply, lane_first k b j h _ d rfl, lane_first q b i h _ d rfl]

/-- The second queries times the keys: the second component's product. -/
theorem dot_second (q k : QK) (hq : AllReal q) (hk : AllReal k) (b : Fin 4) (h : Fin 8) (i j : Fin 4096) :
    ∑ e : Fin 128, (hKb (F := Ideal) k (ix3 b j (lane h e)) : EReal) * hQb (F := Ideal) q (ix3 b i (lane h e)) = ((lg * dotr q k b h 1 i j : ℝ) : EReal) := by
  rw [sum_lanes, ← scaled_dot q k hq hk]
  have z : ∑ d : Fin 64, (hKb (F := Ideal) k (ix3 b j (lane h ⟨d.val, by omega⟩)) : EReal) * hQb (F := Ideal) q (ix3 b i (lane h ⟨d.val, by omega⟩)) = 0 := by
    refine Finset.sum_eq_zero fun d _ => ?_
    rw [hQb_apply, if_pos (by show (h.val * 128 + d.val) / 64 % 2 = 0; omega), mul_zero]
  rw [z, zero_add]
  refine Finset.sum_congr rfl fun d _ => ?_
  rw [hQb_apply, if_neg (by show ¬ (h.val * 128 + (64 + d.val)) / 64 % 2 = 0; omega), hKb_apply, lane_second k b j h _ d rfl, lane_second q b i h _ d rfl]

/-- Key `k` of key tile `t`. -/
abbrev key (t : ℕ) (k : Fin 256) : Fin 4096 := ⟨256 * (t % 16) + k.val, by omega⟩

/-- A sum over all the keys, tile by tile. -/
theorem sum_keys (f : Fin 4096 → ℝ) : ∑ t ∈ Finset.range 16, ∑ k : Fin 256, f (key t k) = ∑ j, f j := by
  rw [Finset.sum_range, ← Fintype.sum_prod_type' (f := fun (t : Fin 16) (k : Fin 256) => f (key t.val k))]
  refine Fintype.sum_equiv (finProdFinEquiv (m := 16) (n := 256)) _ _ fun x => congrArg f (Fin.ext ?_)
  show 256 * (x.1.val % 16) + x.2.val = x.2.val + 256 * x.1.val
  omega

/-- The key tiles up to `N` hold every key up to a query of tile `N`. -/
theorem sum_tiles (N : ℕ) (hN : N < 16) (f : Fin 4096 → ℝ) (h : ∀ j, 256 * (N + 1) ≤ j.val → f j = 0) :
    ∑ t ∈ Finset.range (N + 1), ∑ k : Fin 256, f (key t k) = ∑ j, f j := by
  rw [← sum_keys]
  refine Finset.sum_subset (fun t ht => ?_) fun t ht hn => Finset.sum_eq_zero fun k _ => h _ ?_
  · rw [Finset.mem_range] at ht ⊢
    omega
  · rw [Finset.mem_range] at ht hn
    show 256 * (N + 1) ≤ 256 * (t % 16) + k.val
    omega

/-- A power of two of a scaled exponent is an exponential. -/
theorem two_rpow_lg (x : ℝ) : (2 : ℝ) ^ (lg * x) = Real.exp x := by
  have h : Real.log 2 ≠ 0 := (Real.log_pos (by norm_num)).ne'
  rw [Real.rpow_def_of_pos (by norm_num), lg]
  refine congrArg Real.exp ?_
  field_simp

end Cert.Proof.Diff

end
-- ==== Proof.KernelVal.lean ====
module

public import proofs.«01_k».proof.Proof.Lanes

@[expose] public section

set_option maxRecDepth 16384

noncomputable section

/-! The value of one query tile: what its state stands for, and its output. -/

namespace Cert.Proof.Diff

open Cert.KernelIdeal Cert.KernelIdeal.Gen
open Idealize.ShloMosaic Idealize.ShloMosaic.TcCoe

section Tile

variable (q k : QK) (v : Vals) (tab : Tab) (b : Fin 4) (h : Fin 8)

/-- The component that a column of the scores belongs to. -/
def comp (n : Fin 512) : Fin 2 := if n.val < 256 then 0 else 1

/-- The query that a column of the scores belongs to. -/
abbrev qry (N : ℕ) (n : Fin 512) : Fin 4096 := ⟨256 * (N % 16) + n.val % 256, by omega⟩

/-- The values' tiles over ones. -/
def vrow (t : ℕ) (d : Fin 144) (z : Fin 256) : ℝ := if hd : d.val < 128 then (v (ix4 b (key t z) h (⟨d.val, hd⟩ : Fin 128))).toReal else 1

/-- A tile's weights. -/
def wtile (N t : ℕ) (z : Fin 256) (n : Fin 512) : ℝ := wgt q k tab b h (comp n) (qry N n) (key t z)

/-- The bias of the far tiles. -/
def farBias : ℝ := (tab (ix2 (31 : Fin 32) h)).toReal

/-- A far tile: its distances share one bias. -/
theorem tile_far (N t : ℕ) (hN : N < 16) (ht : t + 1 < N) (z : Fin 256) (n : Fin 512) :
    (2 : ℝ) ^ (lg * dotr q k b h (comp n) (qry N n) (key t z)) = Real.exp (-farBias tab h) * wtile q k tab b h N t z n := by
  have e : biasr tab h (dist (qry N n).val (key t z).val) = farBias tab h := by
    have l : (key t z).val ≤ (qry N n).val := by
      show 256 * (t % 16) + z.val ≤ 256 * (N % 16) + n.val % 256
      omega
    rw [biasr, dist_of_le _ _ l, rowOf_far]
    · rfl
    · show 257 ≤ 256 * (N % 16) + n.val % 256 - (256 * (t % 16) + z.val)
      omega
    · show 256 * (N % 16) + n.val % 256 - (256 * (t % 16) + z.val) ≤ 4095
      omega
  rw [two_rpow_lg, wtile, wgt, if_pos (by show 256 * (t % 16) + z.val ≤ 256 * (N % 16) + n.val % 256; omega), ← Real.exp_add, scr, e]
  refine congrArg Real.exp ?_
  ring

/-- The tile before the diagonal. -/
theorem tile_near (N : ℕ) (hN : N < 16) (h0 : N ≠ 0) (z : Fin 256) (n : Fin 512) :
    (2 : ℝ) ^ (lg * dotr q k b h (comp n) (qry N n) (key (N - 1) z) + (biasr tab h (dist (n.val % 256) z.val + 256#32) - farBias tab h) * lg)
      = Real.exp (-farBias tab h) * wtile q k tab b h N (N - 1) z n := by
  have e : dist (qry N n).val (key (N - 1) z).val = dist (n.val % 256) z.val + 256#32 := by
    have a : (qry N n).val = 256 * (N - 1) + 256 + n.val % 256 := by
      show 256 * (N % 16) + n.val % 256 = _
      omega
    have a' : (key (N - 1) z).val = 256 * (N - 1) + z.val := by
      show 256 * ((N - 1) % 16) + z.val = _
      omega
    rw [a, a', dist_near]
  rw [show ∀ x y : ℝ, lg * x + y * lg = lg * (x + y) from fun x y => by ring, two_rpow_lg, wtile, wgt,
    if_pos (by show 256 * ((N - 1) % 16) + z.val ≤ 256 * (N % 16) + n.val % 256; omega), ← Real.exp_add, scr, e]
  refine congrArg Real.exp ?_
  ring

/-- The diagonal tile. -/
theorem tile_diag (N : ℕ) (hN : N < 16) (z : Fin 256) (n : Fin 512) (hz : ¬ n.val % 256 < z.val) :
    (2 : ℝ) ^ (lg * dotr q k b h (comp n) (qry N n) (key N z) + (biasr tab h (dist (n.val % 256) z.val) - farBias tab h) * lg)
      = Real.exp (-farBias tab h) * wtile q k tab b h N N z n := by
  have e : dist (qry N n).val (key N z).val = dist (n.val % 256) z.val := dist_add _ _ _
  rw [show ∀ x y : ℝ, lg * x + y * lg = lg * (x + y) from fun x y => by ring, two_rpow_lg, wtile, wgt,
    if_pos (by show 256 * (N % 16) + z.val ≤ 256 * (N % 16) + n.val % 256; omega), ← Real.exp_add, scr, e]
  refine congrArg Real.exp ?_
  ring

/-- Behind the query the weights are 0. -/
theorem tile_behind (N : ℕ) (z : Fin 256) (n : Fin 512) (hz : n.val % 256 < z.val) : wtile q k tab b h N N z n = 0 := by
  rw [wtile, wgt, if_neg]
  show ¬ 256 * (N % 16) + z.val ≤ 256 * (N % 16) + n.val % 256
  omega

/-- What a query tile's state stands for, summed over the keys: the values by the weights. -/
theorem rows_value (N : ℕ) (hN : N < 16) (d : Fin 144) (hd : d.val < 128) (n : Fin 512) :
    ∑ t ∈ Finset.range (N + 1), ∑ z : Fin 256, vrow v b h t d z * wtile q k tab b h N t z n
      = ∑ j : Fin 4096, (v (ix4 b j h (⟨d.val, hd⟩ : Fin 128))).toReal * wgt q k tab b h (comp n) (qry N n) j := by
  rw [← sum_tiles N hN (fun j => (v (ix4 b j h (⟨d.val, hd⟩ : Fin 128))).toReal * wgt q k tab b h (comp n) (qry N n) j)]
  · refine Finset.sum_congr rfl fun t _ => Finset.sum_congr rfl fun z _ => ?_
    rw [vrow, dif_pos hd, wtile]
  · intro j hj
    rw [wgt, if_neg (by show ¬ j.val ≤ 256 * (N % 16) + n.val % 256; omega), mul_zero]

/-- Row 128: the weights alone. -/
theorem row_value (N : ℕ) (hN : N < 16) (n : Fin 512) :
    ∑ t ∈ Finset.range (N + 1), ∑ z : Fin 256, vrow v b h t (⟨128, by omega⟩ : Fin 144) z * wtile q k tab b h N t z n
      = ∑ j : Fin 4096, wgt q k tab b h (comp n) (qry N n) j := by
  rw [← sum_tiles N hN (fun j => wgt q k tab b h (comp n) (qry N n) j)]
  · refine Finset.sum_congr rfl fun t _ => Finset.sum_congr rfl fun z _ => ?_
    rw [vrow, dif_neg (by show ¬ 128 < 128; omega), one_mul, wtile]
  · intro j hj
    rw [wgt, if_neg (by show ¬ j.val ≤ 256 * (N % 16) + n.val % 256; omega)]

end Tile

section Block

variable (q k : QK) (v : Vals) (tab : Tab) (hq : AllReal q) (hk : AllReal k) (hv : AllReal v) (ht : AllReal tab) (b : Fin 4) (h : Fin 8) (g : Fin 4)
  (x3 x4 : Vec Ideal S1x1024x128 .bf16) (x5 : Vec Ideal S1x4096x128 .bf16) (x6 : Vec Ideal S1x1x16x144x256 .bf16) (x7 : Vec Ideal S1x2x256x256 .f32)
  (h3 : ∀ (y : Fin 1024) (e : Fin 128), x3 (ix3 0 y e) = hQa (F := Ideal) q (ix3 b (qat g y) (lane h e)))
  (h4 : ∀ (y : Fin 1024) (e : Fin 128), x4 (ix3 0 y e) = hQb (F := Ideal) q (ix3 b (qat g y) (lane h e)))
  (h5 : ∀ (j : Fin 4096) (e : Fin 128), x5 (ix3 0 j e) = hKb (F := Ideal) k (ix3 b j (lane h e)))
  (h6 : ∀ (t : Fin 16) (d : Fin 144) (z : Fin 256), x6 (ix5 0 0 t d z) = hVt (F := Ideal) v (ix5 b h t d z))
  (h7 : ∀ (p : Fin 2) (z r : Fin 256), x7 (ix4 0 p z r) = hBias (F := Ideal) tab (ix4 h p z r))

include hq hk h3 h4 h5 in
/-- A score: the product of a query and a key, times log2(e). -/
theorem score_value (r : ℕ) (hr : r < 4) (t : ℕ) (z : Fin 256) (n : Fin 512) :
    score (queries (qtile x3 r) (qtile x4 r)) (ktile x5 t) (ix2 z n)
      = ((lg * dotr q k b h (comp n) (qry (4 * g.val + r) n) (key t z) : ℝ) : EReal) := by
  by_cases hn : n.val < 256
  · have e : comp n = 0 := if_pos hn
    rw [score_first _ _ _ _ _ _ _ hn, e, ← dot_first q k hq hk]
    refine Finset.sum_congr rfl fun e _ => ?_
    rw [h5, h3]
    refine congrArg (fun i : Fin 4096 => (hKb (F := Ideal) k (ix3 b (key t z) (lane h e)) : EReal) * hQa (F := Ideal) q (ix3 b i (lane h e))) (Fin.ext ?_)
    show g.val * 1024 + (256 * (r % 4) + n.val) = 256 * ((4 * g.val + r) % 16) + n.val % 256
    omega
  · have e : comp n = 1 := if_neg hn
    rw [score_second _ _ _ _ _ _ _ hn, e, ← dot_second q k hq hk]
    refine Finset.sum_congr rfl fun e _ => ?_
    rw [h5, h4]
    refine congrArg (fun i : Fin 4096 => (hKb (F := Ideal) k (ix3 b (key t z) (lane h e)) : EReal) * hQb (F := Ideal) q (ix3 b i (lane h e))) (Fin.ext ?_)
    show g.val * 1024 + (256 * (r % 4) + (n.val - 256)) = 256 * ((4 * g.val + r) % 16) + n.val % 256
    omega

include hv h6 in
/-- The values' tiles. -/
theorem vtile_value (t : ℕ) (d : Fin 144) (z : Fin 256) : vtile x6 t (ix5 0 0 0 d z) = (vrow v b h t d z : EReal) := by
  rw [vtile_apply, h6, hVt_apply, vrow]
  split_ifs with hd
  · rw [← hv]
    refine congrArg (fun j : Fin 4096 => v (ix4 b j h (⟨d.val, hd⟩ : Fin 128))) (Fin.ext ?_)
    show t % 16 * 256 + z.val = 256 * (t % 16) + z.val
    omega
  · rfl

include ht in
/-- A bias less the far one, times log2(e), is real. -/
theorem bias_real (w : BitVec 32) :
    (tab (ix2 (rowOf w) h) - tab (ix2 (31 : Fin 32) h)) * (lg : EReal) = (((biasr tab h w - farBias tab h) * lg : ℝ) : EReal) := by
  rw [EReal.coe_mul, EReal.coe_sub, biasr, farBias, ← ht, ← ht]

include ht h7 in
/-- The diagonal tile's bias. -/
theorem twice_value (z : Fin 256) (n : Fin 512) : biasTwice (btile x7 0) (ix2 z n)
    = if n.val % 256 < z.val then (⊥ : EReal) else (((biasr tab h (dist (n.val % 256) z.val) - farBias tab h) * lg : ℝ) : EReal) := by
  rw [biasTwice_apply, h7, hBias_apply, if_pos (by show 0 % 2 < 1; omega), bias_real tab ht]
  by_cases hz : n.val % 256 < z.val
  · rw [if_pos hz, if_neg (by show ¬ z.val ≤ n.val % 256; omega)]
  · rw [if_neg hz, if_pos (by show z.val ≤ n.val % 256; omega)]

include ht h7 in
/-- The bias of the tile before the diagonal: none for the first query tile. -/
theorem near_value (v4 : BitVec 32) (N : ℕ) (h8 : Scalar.cmpi .sge v4 1#32 = if N = 0 then 0#1 else 1#1) (z : Fin 256) (n : Fin 512) :
    biasNear v4 (btile x7 1) (ix2 z n)
      = if N = 0 then (⊥ : EReal) else (((biasr tab h (dist (n.val % 256) z.val + 256#32) - farBias tab h) * lg : ℝ) : EReal) := by
  show (biasTwice (btile x7 1) (ix2 z n) : EReal)
    + Scalar.select (Scalar.cmpi .sge v4 1#32) (Ideal.ofBits .f32 0x00000000#32) (Ideal.ofBits .f32 0xFF800000#32) = _
  rw [biasTwice_apply, h7, hBias_apply, if_neg (by show ¬ 1 % 2 < 1; omega), bias_real tab ht, h8]
  by_cases h0 : N = 0
  · rw [if_pos h0, if_pos h0]
    show _ + Ideal.ofBits .f32 0xFF800000#32 = _
    have e : (Ideal.ofBits .f32 0xFF800000#32 : EReal) = ⊥ := by simp [Ideal.ofBits, Ideal.ieee]
    rw [e, EReal.add_bot]
  · rw [if_neg h0, if_neg h0]
    show _ + Ideal.ofBits .f32 0x00000000#32 = _
    rw [Ideal.ofBits_zero_f32, add_zero]

include hq hk hv ht h3 h4 h5 h6 h7 in
/-- A query tile's output is the attention's. -/
theorem tile_value (v4 : BitVec 32) (r : ℕ) (hr : r < 4) (h8 : Scalar.cmpi .sge v4 1#32 = if 4 * g.val + r = 0 then 0#1 else 1#1)
    (x8 x9 x10 x11 : Vec Ideal S1x64 .f32) (x12 : Vec Ideal S1x128 .f32) (a : ℕ) (ha : a < 256) (d : Fin 128) (i : Fin 4096)
    (hi : i.val = 256 * (4 * g.val + r) + a) :
    tileOut v4 x3 x4 x5 x6 x7 x8 x9 x10 x11 x12 (4 * g.val + r) r (tix a ha d)
      = resAt q k v tab (fun z => x8 (ix2 0 z)) (fun z => x9 (ix2 0 z)) (fun z => x10 (ix2 0 z)) (fun z => x11 (ix2 0 z)) (fun z => x12 (ix2 0 z)) b i h d := by
  have hN : 4 * g.val + r < 16 := by omega
  have hold := tileState_value v4 (queries (qtile x3 r) (qtile x4 r)) x5 x6 x7 (4 * g.val + r) _ _ _ _ (wtile q k tab b h (4 * g.val + r)) (Real.exp (-farBias tab h))
    (score_value q k hq hk b h g x3 x4 x5 h3 h4 h5 r hr) (vtile_value v hv b h x6 h6) (near_value tab ht h x7 h7 v4 _ h8) (twice_value tab ht h x7 h7)
    (fun t z n hlt => tile_far q k tab b h _ t hN hlt z n) (fun z n h0 => tile_near q k tab b h _ hN h0 z n)
    (fun z n hz => tile_behind q k tab b h _ z n hz) (fun z n hz => tile_diag q k tab b h _ hN z n hz)
  rw [tileOut_apply, combine_value _ _ _ (Real.exp_pos _).ne' hold (fun n => by rw [row_value q k v tab b h _ hN]; exact (wsum_pos q k tab b h _ _).ne')]
  refine congrArg (fun y : Fin 128 → EReal => normed y (x12 (ix2 0 d)) d) (funext fun e => ?_)
  have c0 : comp (⟨a, by omega⟩ : Fin 512) = 0 := if_pos ha
  have c1 : comp (⟨256 + a, by omega⟩ : Fin 512) = 1 := if_neg (by show ¬ 256 + a < 256; omega)
  have i0 : qry (4 * g.val + r) (⟨a, by omega⟩ : Fin 512) = i := Fin.ext (by rw [hi]; show 256 * ((4 * g.val + r) % 16) + a % 256 = _; omega)
  have i1 : qry (4 * g.val + r) (⟨256 + a, by omega⟩ : Fin 512) = i := Fin.ext (by rw [hi]; show 256 * ((4 * g.val + r) % 16) + (256 + a) % 256 = _; omega)
  rw [row_value q k v tab b h _ hN, row_value q k v tab b h _ hN, rows_value q k v tab b h _ hN _ e.isLt, rows_value q k v tab b h _ hN _ e.isLt, c0, c1, i0, i1]
  rfl

end Block

end Cert.Proof.Diff

end
-- ==== Proof.Blocks.lean ====
module

public import proofs.«01_k».proof.Proof.Run
public import Idealize.ShloMosaic.Lib.Pointwise
public import Idealize.ShloMosaic.Lib.Pipeline.Value

@[expose] public section

set_option maxRecDepth 16384

noncomputable section

/-! The blocks of a grid point, element by element, and the array that the output blocks make. -/

namespace Cert.Proof.Diff

open Cert.KernelIdeal Cert.KernelIdeal.Gen
open Idealize.ShloMosaic Idealize.ShloMosaic.TcCoe
open Idealize.ShloMosaic.Pipeline (Dat Cfg Window BodyObligation cellOf)

variable {F : FTy → Type} [FloatOps F] (m : (ℓ : Loc nD τ sig) → Buf (Elt F) ℓ)

/-- A coordinate of the grid as a word, read back. -/
theorem word_toNat (x : ℕ) (h : x < 8) : (BitVec.ofNat 32 x).toNat = x := by
  rw [BitVec.toNat_ofNat]; omega

theorem coord0 (i : grid0.Coords) : (i 0).val < 4 := (i 0).isLt
theorem coord1 (i : grid0.Coords) : (i 1).val < 8 := (i 1).isLt
theorem coord2 (i : grid0.Coords) : (i 2).val < 4 := (i 2).isLt

/-- Window 0's block. -/
theorem blk0 (c : Dev nD) (t : Fin cfg0.N) (y1 : Fin 1024) (y2 : Fin 128) :
    iblk m c 0 t (ix3 0 y1 y2) = V m c main_v11 (ix3 (⟨(grid0.coords t 0).val, (grid0.coords t 0).isLt⟩ : Fin 4) (⟨(grid0.coords t 2).val * 1024 + y1.val, by have := coord2 (grid0.coords t); omega⟩ : Fin 4096) (⟨(grid0.coords t 1).val * 128 + y2.val, by have := coord1 (grid0.coords t); omega⟩ : Fin 1024)) := by
  refine congrArg (V m c main_v11) (funext fun a => Fin.ext ?_)
  fin_cases a
  · show (BitVec.ofNat 32 (grid0.coords t 0).val).toNat * 1 + 1 * 0 = _
    rw [word_toNat _ (by have := coord0 (grid0.coords t); omega)]
    simp [ix3]
  · show (BitVec.ofNat 32 (grid0.coords t 2).val).toNat * 1024 + 1 * y1.val = _
    rw [word_toNat _ (by have := coord2 (grid0.coords t); omega)]
    simp [ix3]
  · show (BitVec.ofNat 32 (grid0.coords t 1).val).toNat * 128 + 1 * y2.val = _
    rw [word_toNat _ (by have := coord1 (grid0.coords t); omega)]
    simp [ix3]

/-- Window 1's block. -/
theorem blk1 (c : Dev nD) (t : Fin cfg0.N) (y1 : Fin 1024) (y2 : Fin 128) :
    iblk m c 1 t (ix3 0 y1 y2) = V m c main_v13 (ix3 (⟨(grid0.coords t 0).val, (grid0.coords t 0).isLt⟩ : Fin 4) (⟨(grid0.coords t 2).val * 1024 + y1.val, by have := coord2 (grid0.coords t); omega⟩ : Fin 4096) (⟨(grid0.coords t 1).val * 128 + y2.val, by have := coord1 (grid0.coords t); omega⟩ : Fin 1024)) := by
  refine congrArg (V m c main_v13) (funext fun a => Fin.ext ?_)
  fin_cases a
  · show (BitVec.ofNat 32 (grid0.coords t 0).val).toNat * 1 + 1 * 0 = _
    rw [word_toNat _ (by have := coord0 (grid0.coords t); omega)]
    simp [ix3]
  · show (BitVec.ofNat 32 (grid0.coords t 2).val).toNat * 1024 + 1 * y1.val = _
    rw [word_toNat _ (by have := coord2 (grid0.coords t); omega)]
    simp [ix3]
  · show (BitVec.ofNat 32 (grid0.coords t 1).val).toNat * 128 + 1 * y2.val = _
    rw [word_toNat _ (by have := coord1 (grid0.coords t); omega)]
    simp [ix3]

/-- Window 2's block. -/
theorem blk2 (c : Dev nD) (t : Fin cfg0.N) (y1 : Fin 4096) (y2 : Fin 128) :
    iblk m c 2 t (ix3 0 y1 y2) = V m c main_v15 (ix3 (⟨(grid0.coords t 0).val, (grid0.coords t 0).isLt⟩ : Fin 4) y1 (⟨(grid0.coords t 1).val * 128 + y2.val, by have := coord1 (grid0.coords t); omega⟩ : Fin 1024)) := by
  refine congrArg (V m c main_v15) (funext fun a => Fin.ext ?_)
  fin_cases a
  · show (BitVec.ofNat 32 (grid0.coords t 0).val).toNat * 1 + 1 * 0 = _
    rw [word_toNat _ (by have := coord0 (grid0.coords t); omega)]
    simp [ix3]
  · show 0 * 4096 + 1 * y1.val = _
    simp [ix3]
  · show (BitVec.ofNat 32 (grid0.coords t 1).val).toNat * 128 + 1 * y2.val = _
    rw [word_toNat _ (by have := coord1 (grid0.coords t); omega)]
    simp [ix3]

/-- Window 3's block. -/
theorem blk3 (c : Dev nD) (t : Fin cfg0.N) (y2 : Fin 16) (y3 : Fin 144) (y4 : Fin 256) :
    iblk m c 3 t (ix5 0 0 y2 y3 y4) = V m c main_v20 (ix5 (⟨(grid0.coords t 0).val, (grid0.coords t 0).isLt⟩ : Fin 4) (⟨(grid0.coords t 1).val, (grid0.coords t 1).isLt⟩ : Fin 8) y2 y3 y4) := by
  refine congrArg (V m c main_v20) (funext fun a => Fin.ext ?_)
  fin_cases a
  · show (BitVec.ofNat 32 (grid0.coords t 0).val).toNat * 1 + 1 * 0 = _
    rw [word_toNat _ (by have := coord0 (grid0.coords t); omega)]
    simp [ix5]
  · show (BitVec.ofNat 32 (grid0.coords t 1).val).toNat * 1 + 1 * 0 = _
    rw [word_toNat _ (by have := coord1 (grid0.coords t); omega)]
    simp [ix5]
  · show 0 * 16 + 1 * y2.val = _
    simp [ix5]
  · show 0 * 144 + 1 * y3.val = _
    simp [ix5]
  · show 0 * 256 + 1 * y4.val = _
    simp [ix5]

/-- Window 4's block. -/
theorem blk4 (c : Dev nD) (t : Fin cfg0.N) (y1 : Fin 2) (y2 : Fin 256) (y3 : Fin 256) :
    iblk m c 4 t (ix4 0 y1 y2 y3) = V m c main_v102 (ix4 (⟨(grid0.coords t 1).val, (grid0.coords t 1).isLt⟩ : Fin 8) y1 y2 y3) := by
  refine congrArg (V m c main_v102) (funext fun a => Fin.ext ?_)
  fin_cases a
  · show (BitVec.ofNat 32 (grid0.coords t 1).val).toNat * 1 + 1 * 0 = _
    rw [word_toNat _ (by have := coord1 (grid0.coords t); omega)]
    simp [ix4]
  · show 0 * 2 + 1 * y1.val = _
    simp [ix4]
  · show 0 * 256 + 1 * y2.val = _
    simp [ix4]
  · show 0 * 256 + 1 * y3.val = _
    simp [ix4]

/-- Window 5's block. -/
theorem blk5 (c : Dev nD) (t : Fin cfg0.N) (y1 : Fin 64) :
    iblk m c 5 t (ix2 0 y1) = V m c main_v103 (ix2 0 y1) := by
  refine congrArg (V m c main_v103) (funext fun a => Fin.ext ?_)
  fin_cases a
  · show 0 * 1 + 1 * 0 = _
    simp [ix2]
  · show 0 * 64 + 1 * y1.val = _
    simp [ix2]

/-- Window 6's block. -/
theorem blk6 (c : Dev nD) (t : Fin cfg0.N) (y1 : Fin 64) :
    iblk m c 6 t (ix2 0 y1) = V m c main_v104 (ix2 0 y1) := by
  refine congrArg (V m c main_v104) (funext fun a => Fin.ext ?_)
  fin_cases a
  · show 0 * 1 + 1 * 0 = _
    simp [ix2]
  · show 0 * 64 + 1 * y1.val = _
    simp [ix2]

/-- Window 7's block. -/
theorem blk7 (c : Dev nD) (t : Fin cfg0.N) (y1 : Fin 64) :
    iblk m c 7 t (ix2 0 y1) = V m c main_v105 (ix2 0 y1) := by
  refine congrArg (V m c main_v105) (funext fun a => Fin.ext ?_)
  fin_cases a
  · show 0 * 1 + 1 * 0 = _
    simp [ix2]
  · show 0 * 64 + 1 * y1.val = _
    simp [ix2]

/-- Window 8's block. -/
theorem blk8 (c : Dev nD) (t : Fin cfg0.N) (y1 : Fin 64) :
    iblk m c 8 t (ix2 0 y1) = V m c main_v106 (ix2 0 y1) := by
  refine congrArg (V m c main_v106) (funext fun a => Fin.ext ?_)
  fin_cases a
  · show 0 * 1 + 1 * 0 = _
    simp [ix2]
  · show 0 * 64 + 1 * y1.val = _
    simp [ix2]

/-- Window 9's block. -/
theorem blk9 (c : Dev nD) (t : Fin cfg0.N) (y1 : Fin 128) :
    iblk m c 9 t (ix2 0 y1) = V m c main_v107 (ix2 0 y1) := by
  refine congrArg (V m c main_v107) (funext fun a => Fin.ext ?_)
  fin_cases a
  · show 0 * 1 + 1 * 0 = _
    simp [ix2]
  · show 0 * 128 + 1 * y1.val = _
    simp [ix2]

end Cert.Proof.Diff

end
-- ==== Proof.OutArr.lean ====
module

public import proofs.«01_k».proof.Proof.KernelVal
public import proofs.«01_k».proof.Proof.Blocks
public import Idealize.ShloMosaic.Lib.Pipeline.Covers

@[expose] public section

set_option maxRecDepth 16384

noncomputable section

/-! The array that the call leaves: the attention, everywhere. -/

namespace Cert.Proof.Diff

open Cert.KernelIdeal Cert.KernelIdeal.Gen
open Idealize.ShloMosaic Idealize.ShloMosaic.TcCoe
open Idealize.ShloMosaic.Pipeline (Dat Cfg Window BodyObligation cellOf)
open Idealize.SL.Sem

/-- A row of numbers. -/
abbrev Row (n : ℕ) := (⟨1, ![n]⟩ : Shape).Idx → EReal

/-- The result: every head of every query, the heads side by side. -/
def resArr (q k : QK) (v : Vals) (tab : Tab) (l1 l2 l3 l4 : Row 64) (g : Row 128) : (⟨3, ![4, 4096, 1024]⟩ : Shape).Idx → EReal := fun i =>
  resAt q k v tab (fun z => l1 (ix1 z)) (fun z => l2 (ix1 z)) (fun z => l3 (ix1 z)) (fun z => l4 (ix1 z)) (fun z => g (ix1 z))
    (i 0) (i 1) (⟨(i 2).val / 128, by have : (i 2).val < 1024 := (i 2).isLt; omega⟩ : Fin 8) (⟨(i 2).val % 128, by omega⟩ : Fin 128)

variable (m : (ℓ : Loc nD τ sig) → Buf (Elt Ideal) ℓ)

/-- The arguments of the launch. -/
abbrev aq (c : Dev nD) : QK := m ((c : Thread nD τ).loc main_arg0)
abbrev ak (c : Dev nD) : QK := m ((c : Thread nD τ).loc main_arg1)
abbrev av (c : Dev nD) : Vals := m ((c : Thread nD τ).loc main_arg2)
abbrev atab (c : Dev nD) : Tab := m ((c : Thread nD τ).loc main_arg3)
abbrev al1 (c : Dev nD) : Row 64 := m ((c : Thread nD τ).loc main_arg4)
abbrev al2 (c : Dev nD) : Row 64 := m ((c : Thread nD τ).loc main_arg5)
abbrev al3 (c : Dev nD) : Row 64 := m ((c : Thread nD τ).loc main_arg6)
abbrev al4 (c : Dev nD) : Row 64 := m ((c : Thread nD τ).loc main_arg7)
abbrev ag (c : Dev nD) : Row 128 := m ((c : Thread nD τ).loc main_arg8)

/-- A row beside its one unit axis. -/
theorem row64 (x : Vec Ideal S64 .f32) (z : Fin 64) : shapeCast S1x64 x shapeCasts_S64_S1x64 (ix2 0 z) = x (ix1 z) := by pointwise

theorem row128 (x : Vec Ideal S128 .f32) (z : Fin 128) : shapeCast S1x128 x shapeCasts_S128_S1x128 (ix2 0 z) = x (ix1 z) := by pointwise

/-- The word that counts the query tiles: 0 only at the first. -/
theorem first_tile (g r : Fin 4) : Scalar.cmpi .sge (Scalar.addi (Scalar.muli (BitVec.ofNat 32 g.val) 4#32) (Scf.iv 0#32 1#32 r.val)) 1#32
    = if 4 * g.val + r.val = 0 then 0#1 else 1#1 := by
  revert g r
  decide

section Point

variable (c : Dev nD) (hq : AllReal (aq m c)) (hk : AllReal (ak m c)) (hv : AllReal (av m c)) (ht : AllReal (atab m c))

include hq hk hv ht in
/-- A grid point's output block is the attention of its queries and its head. -/
theorem point_value (t : Fin cfg0.N) (y1 : Fin 1024) (y2 : Fin 128) (i : (⟨3, ![4, 4096, 1024]⟩ : Shape).Idx)
    (e0 : (i 0).val = (grid0.coords t 0).val) (e1 : (i 1).val = (grid0.coords t 2).val * 1024 + y1.val)
    (e2 : (i 2).val = (grid0.coords t 1).val * 128 + y2.val) :
    outsAt m c t (ix3 0 y1 y2) = resArr (aq m c) (ak m c) (av m c) (atab m c) (al1 m c) (al2 m c) (al3 m c) (al4 m c) (ag m c) i := by
  have v := tile_value (aq m c) (ak m c) (av m c) (atab m c) hq hk hv ht
    (⟨(grid0.coords t 0).val, (grid0.coords t 0).isLt⟩ : Fin 4) (⟨(grid0.coords t 1).val, (grid0.coords t 1).isLt⟩ : Fin 8) (⟨(grid0.coords t 2).val, (grid0.coords t 2).isLt⟩ : Fin 4)
    (iblk m c 0 t) (iblk m c 1 t) (iblk m c 2 t) (iblk m c 3 t) (iblk m c 4 t)
    (fun y e => (blk0 m c t y e).trans (congrFun (V_v11 m c) _)) (fun y e => (blk1 m c t y e).trans (congrFun (V_v13 m c) _))
    (fun y e => (blk2 m c t y e).trans (congrFun (V_v15 m c) _)) (fun y d z => (blk3 m c t y d z).trans (congrFun (V_v20 m c) _))
    (fun p z r => (blk4 m c t p z r).trans (congrFun (V_v102 m c) _))
    _ (y1.val / 256) (by omega) (first_tile (⟨(grid0.coords t 2).val, (grid0.coords t 2).isLt⟩ : Fin 4) (⟨y1.val / 256, by omega⟩ : Fin 4))
    (iblk m c 5 t) (iblk m c 6 t) (iblk m c 7 t) (iblk m c 8 t) (iblk m c 9 t) (y1.val % 256) (by omega) y2 (i 1)
    (by rw [e1]; show _ = 256 * (4 * (grid0.coords t 2).val + y1.val / 256) + y1.val % 256; omega)
  refine Eq.trans v ?_
  have l5 : (fun z : Fin 64 => (iblk m c 5 t (ix2 0 z) : EReal)) = fun z => al1 m c (ix1 z) :=
    funext fun z => (blk5 m c t z).trans ((congrFun (V_v103 m c) _).trans (row64 _ z))
  have l6 : (fun z : Fin 64 => (iblk m c 6 t (ix2 0 z) : EReal)) = fun z => al2 m c (ix1 z) :=
    funext fun z => (blk6 m c t z).trans ((congrFun (V_v104 m c) _).trans (row64 _ z))
  have l7 : (fun z : Fin 64 => (iblk m c 7 t (ix2 0 z) : EReal)) = fun z => al3 m c (ix1 z) :=
    funext fun z => (blk7 m c t z).trans ((congrFun (V_v105 m c) _).trans (row64 _ z))
  have l8 : (fun z : Fin 64 => (iblk m c 8 t (ix2 0 z) : EReal)) = fun z => al4 m c (ix1 z) :=
    funext fun z => (blk8 m c t z).trans ((congrFun (V_v106 m c) _).trans (row64 _ z))
  have l9 : (fun z : Fin 128 => (iblk m c 9 t (ix2 0 z) : EReal)) = fun z => ag m c (ix1 z) :=
    funext fun z => (blk9 m c t z).trans ((congrFun (V_v107 m c) _).trans (row128 _ z))
  refine (congrArg (fun l => resAt _ _ _ _ l _ _ _ _ _ _ _ _) l5).trans ?_
  refine (congrArg (fun l => resAt _ _ _ _ _ l _ _ _ _ _ _ _) l6).trans ?_
  refine (congrArg (fun l => resAt _ _ _ _ _ _ l _ _ _ _ _ _) l7).trans ?_
  refine (congrArg (fun l => resAt _ _ _ _ _ _ _ l _ _ _ _ _) l8).trans ?_
  refine (congrArg (fun l => resAt _ _ _ _ _ _ _ _ l _ _ _ _) l9).trans ?_
  have b0 : (⟨(grid0.coords t 0).val, (grid0.coords t 0).isLt⟩ : Fin 4) = i 0 := Fin.ext e0.symm
  have b1 : (⟨(grid0.coords t 1).val, (grid0.coords t 1).isLt⟩ : Fin 8) = (⟨(i 2).val / 128, by have : (i 2).val < 1024 := (i 2).isLt; omega⟩ : Fin 8) :=
    Fin.ext (by show (grid0.coords t 1).val = (i 2).val / 128; omega)
  have b2 : y2 = (⟨(i 2).val % 128, by omega⟩ : Fin 128) := Fin.ext (by show y2.val = (i 2).val % 128; omega)
  rw [resArr, ← b0, ← b1, ← b2]

/-- Where a grid point's output block lies. -/
theorem out_emb (t : Fin cfg0.N) (y1 : Fin 1024) (y2 : Fin 128) :
    ((cfg0.win 10).blk t).view.emb (ix3 0 y1 y2)
      = ix3 (⟨(grid0.coords t 0).val, (grid0.coords t 0).isLt⟩ : Fin 4) (⟨(grid0.coords t 2).val * 1024 + y1.val, by have := coord2 (grid0.coords t); omega⟩ : Fin 4096)
          (⟨(grid0.coords t 1).val * 128 + y2.val, by have := coord1 (grid0.coords t); omega⟩ : Fin 1024) := by
  refine funext fun a => Fin.ext ?_
  fin_cases a
  · show (BitVec.ofNat 32 (grid0.coords t 0).val).toNat * 1 + 1 * 0 = _
    rw [word_toNat _ (by have := coord0 (grid0.coords t); omega)]
    simp [ix3]
  · show (BitVec.ofNat 32 (grid0.coords t 2).val).toNat * 1024 + 1 * y1.val = _
    rw [word_toNat _ (by have := coord2 (grid0.coords t); omega)]
    simp [ix3]
  · show (BitVec.ofNat 32 (grid0.coords t 1).val).toNat * 128 + 1 * y2.val = _
    rw [word_toNat _ (by have := coord1 (grid0.coords t); omega)]
    simp [ix3]

include hq hk hv ht in
/-- A grid point writes its part of the result back. -/
theorem flushed_value (t : Fin cfg0.N) : (dats m 0 c).flushed 10 t
    = ((cfg0.win 10).blk t).view.read (Elt Ideal) (resArr (aq m c) (ak m c) (av m c) (atab m c) (al1 m c) (al2 m c) (al3 m c) (al4 m c) (ag m c)) := by
  funext y
  obtain ⟨y1, y2, rfl⟩ : ∃ (y1 : Fin 1024) (y2 : Fin 128), y = ix3 (0 : Fin 1) y1 y2 := by
    refine ⟨y 1, y 2, funext fun a => ?_⟩
    fin_cases a
    · exact Subsingleton.elim (α := Fin 1) _ _
    · rfl
    · rfl
  refine (congrFun (after0_10 m c t) _).trans ?_
  rw [View.read_apply]
  refine (point_value m c hq hk hv ht t y1 y2 _ rfl rfl rfl).trans (congrArg _ (out_emb t y1 y2).symm)

/-- The blocks cover the result. -/
theorem out_cover (i : (⟨3, ![4, 4096, 1024]⟩ : Shape).Idx) : ∃ t : Fin cfg0.N, (cfg0.win 10).flush t = true ∧ i ∈ ((cfg0.win 10).blk t).view.set := by
  have h0 : (i 0).val < 4 := (i 0).isLt
  have h1 : (i 1).val < 4096 := (i 1).isLt
  have h2 : (i 2).val < 1024 := (i 2).isLt
  obtain ⟨t, ht⟩ := Pipeline.Grid.coords_surjective grid0 (fun a => match a with
    | ⟨0, _⟩ => (⟨(i 0).val, h0⟩ : Fin 4)
    | ⟨1, _⟩ => (⟨(i 2).val / 128, by omega⟩ : Fin 8)
    | ⟨2, _⟩ => (⟨(i 1).val / 1024, by omega⟩ : Fin 4))
  have e0 : (grid0.coords t 0).val = (i 0).val := by rw [ht]
  have e1 : (grid0.coords t 1).val = (i 2).val / 128 := by rw [ht]
  have e2 : (grid0.coords t 2).val = (i 1).val / 1024 := by rw [ht]
  refine ⟨t, flush0_10 t, ?_⟩
  have e : i = ((cfg0.win 10).blk t).view.emb (ix3 0 (⟨(i 1).val % 1024, by omega⟩ : Fin 1024) (⟨(i 2).val % 128, by omega⟩ : Fin 128)) := by
    rw [out_emb]
    refine funext fun a => Fin.ext ?_
    fin_cases a
    · exact e0.symm
    · show (i 1).val = (grid0.coords t 2).val * 1024 + (i 1).val % 1024
      omega
    · show (i 2).val = (grid0.coords t 1).val * 128 + (i 2).val % 128
      omega
  rw [e]
  exact View.emb_mem_set _ _

include hq hk hv ht in
/-- The array that the call leaves is the attention. -/
theorem out_value : (dats m 0 c).arrAt 10 cfg0.N = resArr (aq m c) (ak m c) (av m c) (atab m c) (al1 m c) (al2 m c) (al3 m c) (al4 m c) (ag m c) :=
  (dats m 0 c).arrAt_eq_of_cover 10 _ (fun t _ => flushed_value m c hq hk hv ht t) out_cover

end Point

end Cert.Proof.Diff

end
-- ==== Proof.RefAt.lean ====
module

public import proofs.«01_k».proof.Proof.Gen.ReferenceIdeal.Run
public import proofs.«01_k».proof.Proof.Math

@[expose] public section

set_option maxRecDepth 16384

noncomputable section

/-! The reference's arrays, element by element. -/

namespace Cert.Proof.Diff

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-- The reference's queries. -/
abbrev rq : QK := V0 (Proc.devRef .tc main_arg0)
/-- The reference's keys. -/
abbrev rk : QK := V0 (Proc.devRef .tc main_arg1)
/-- The reference's values. -/
abbrev rv : Vals := V0 (Proc.devRef .tc main_arg2)
/-- The reference's bias table. -/
abbrev rt : Tab := V0 (Proc.devRef .tc main_arg3)
/-- The reference's four vectors of the second component's weight. -/
abbrev rl1 : (⟨1, ![64]⟩ : Shape).Idx → EReal := V0 (Proc.devRef .tc main_arg4)
abbrev rl2 : (⟨1, ![64]⟩ : Shape).Idx → EReal := V0 (Proc.devRef .tc main_arg5)
abbrev rl3 : (⟨1, ![64]⟩ : Shape).Idx → EReal := V0 (Proc.devRef .tc main_arg6)
abbrev rl4 : (⟨1, ![64]⟩ : Shape).Idx → EReal := V0 (Proc.devRef .tc main_arg7)
/-- The reference's gain. -/
abbrev rg : (⟨1, ![128]⟩ : Shape).Idx → EReal := V0 (Proc.devRef .tc main_arg8)

/-- The distances. -/
theorem ref13 (i j : Fin 4096) : res_main_v13 V0 (ix2 i j) = dist i.val j.val := by
  pointwise [res_main_v13, res_main_v8]
  rfl

/-- The buckets. -/
theorem ref34 (i j : Fin 4096) : res_main_v34 V0 (ix2 i j) = bkt (dist i.val j.val) := by
  rw [← ref13 V0]
  pointwise [res_main_v34, res_main_v16]
  rfl

/-- The bias at a query and a key. -/
theorem ref_bias (i j : Fin 4096) (h : Fin 8) :
    Host.gather gather_S32x8_S4096x4096x1_S4096x4096x8_2_0_n_n_0_2_18 (V0 (Proc.devRef .tc main_arg3) : Vec Ideal S32x8 .f32)
      (broadcastInDim S4096x4096x1 ![0, 1] bcast_S4096x4096_S4096x4096x1_0_1
        (select (cmpi .slt (res_main_v34 V0) (broadcastInDim S4096x4096 ![] bcast_S_S4096x4096 (constantI S_ 32 0#32)))
          (addi (res_main_v34 V0) (broadcastInDim S4096x4096 ![] bcast_S_S4096x4096 (constantI S_ 32 32#32))) (res_main_v34 V0)))
      (ix3 i j h) = rt V0 (ix2 (rowOf (dist i.val j.val)) h) := by
  refine (rows_apply 4096 gather_S32x8_S4096x4096x1_S4096x4096x8_2_0_n_n_0_2_18_wf (rt V0) _ i j h).trans ?_
  refine congrArg (fun z => rt V0 (ix2 z h)) (Fin.ext ?_)
  refine congrArg (fun z : BitVec 32 => min z.toInt.toNat 31) ?_
  rw [← ref34 V0]
  pointwise
  rfl

/-- The scores. -/
def r49 : (⟨5, ![4, 8, 2, 4096, 4096]⟩ : Shape).Idx → EReal := res_main_v49 V0
/-- The scores' exponentials. -/
def r56 : (⟨5, ![4, 8, 2, 4096, 4096]⟩ : Shape).Idx → EReal := res_main_v56 V0
/-- The probabilities. -/
def r60 : (⟨5, ![4, 8, 2, 4096, 4096]⟩ : Shape).Idx → EReal := res_main_v60 V0
/-- The heads. -/
def r69 : (⟨4, ![4, 4096, 8, 128]⟩ : Shape).Idx → EReal := res_main_v69 V0

theorem r49_read (b : Fin 4) (h : Fin 8) (c : Fin 2) (i j : Fin 4096) : r49 V0 (ix5 b h c i j)
    = if j.val ≤ i.val then (∑ d : Fin 64, rq V0 (ix5 b i h c d) * rk V0 (ix5 b j h c d)) + rt V0 (ix2 (rowOf (dist i.val j.val)) h) else ⊥ := by
  unfold r49
  pointwise [res_main_v49]
  rw [ref_bias, ref13, seen_iff _ _ i.isLt j.isLt]
  split_ifs
  · rfl
  · show Ideal.ofBits .f32 0xFF800000#32 = ⊥
    simp [Ideal.ofBits, Ideal.ieee]

/-- Exponentials of numbers less a row's number. -/
theorem exp_less (s : FVec Ideal S4x8x2x4096x4096 .f32) (m : FVec Ideal S4x8x2x4096 .f32) (b : Fin 4) (h : Fin 8) (c : Fin 2) (i j : Fin 4096) :
    (Host.exp (subf s (broadcastInDim S4x8x2x4096x4096 ![0, 1, 2, 3, 4] bcast_S4x8x2x4096x1_S4x8x2x4096x4096_0_1_2_3_4
      (broadcastInDim S4x8x2x4096x1 ![0, 1, 2, 3] bcast_S4x8x2x4096_S4x8x2x4096x1_0_1_2_3 m))) (ix5 b h c i j) : EReal)
      = Ideal.exp (s (ix5 b h c i j) - m (ix4 b h c i)) := by
  pointwise

/-- The larger of minus infinity and a row's running maximum. -/
theorem row_max (s : FVec Ideal S4x8x2x4096x4096 .f32) (b : Fin 4) (h : Fin 8) (c : Fin 2) (i : Fin 4096) :
    (Host.reduce (FloatOps.maximumf (F := Ideal) (φ := .f32)) s (constant (F := Ideal) S_ .f32 0xFF800000#32)
      reducesTo_S4x8x2x4096x4096_S4x8x2x4096_d4 h_S_ (ix4 b h c i) : EReal)
      = Finset.fold max (Ideal.ofBits .f32 0xFF800000#32) s {z | reducesTo_S4x8x2x4096x4096_S4x8x2x4096_d4.drop z = ix4 b h c i} := by
  pointwise

/-- The larger of minus infinity and a number. -/
theorem max_read (m : FVec Ideal S4x8x2x4096 .f32) (b : Fin 4) (h : Fin 8) (c : Fin 2) (i : Fin 4096) :
    (maximumf (broadcastInDim S4x8x2x4096 ![] bcast_S_S4x8x2x4096 (constant (F := Ideal) S_ .f32 0xFF800000#32)) m (ix4 b h c i) : EReal)
      = max (Ideal.ofBits .f32 0xFF800000#32) (m (ix4 b h c i)) := by
  pointwise

/-- The largest scores, as the reference takes them. -/
def r52 : FVec Ideal S4x8x2x4096 .f32 :=
  maximumf (broadcastInDim S4x8x2x4096 ![] bcast_S_S4x8x2x4096 (constant (F := Ideal) S_ .f32 0xFF800000#32))
    (Host.reduce (FloatOps.maximumf (F := Ideal) (φ := .f32)) (r49 V0) (constant (F := Ideal) S_ .f32 0xFF800000#32)
      reducesTo_S4x8x2x4096x4096_S4x8x2x4096_d4 h_S_)

/-- The largest score of a query, as the reference takes it. -/
def rmax (b : Fin 4) (h : Fin 8) (c : Fin 2) (i : Fin 4096) : EReal := r52 V0 (ix4 b h c i)

theorem rmax_read (b : Fin 4) (h : Fin 8) (c : Fin 2) (i : Fin 4096) : rmax V0 b h c i
    = max (Ideal.ofBits .f32 0xFF800000#32) (Finset.fold max (Ideal.ofBits .f32 0xFF800000#32) (r49 V0)
        {z | reducesTo_S4x8x2x4096x4096_S4x8x2x4096_d4.drop z = ix4 b h c i}) := by
  rw [← row_max]
  exact max_read _ b h c i

theorem r56_read (b : Fin 4) (h : Fin 8) (c : Fin 2) (i j : Fin 4096) :
    r56 V0 (ix5 b h c i j) = Ideal.exp (r49 V0 (ix5 b h c i j) - rmax V0 b h c i) := by
  unfold r56 res_main_v56
  exact exp_less (r49 V0) (r52 V0) b h c i j

theorem r60_read (b : Fin 4) (h : Fin 8) (c : Fin 2) (i j : Fin 4096) :
    r60 V0 (ix5 b h c i j) = Ideal.div (r56 V0 (ix5 b h c i j)) (∑ z : Fin 4096, r56 V0 (ix5 b h c i z)) := by
  unfold r60
  pointwise [res_main_v60]
  rfl

/-- The product of the values and the probabilities, heads inside. -/
theorem values_read (v : FVec Ideal S4x4096x8x128 .f32) (p : FVec Ideal S4x8x4096x4096 .f32) (b : Fin 4) (h : Fin 8) (i : Fin 4096) (d : Fin 128) :
    ((transpose S4x4096x8x128 [0, 3, 1, 2] (Host.dotGeneral dot_S4x4096x8x128_S4x8x4096x4096_S4x8x128x4096_1_3_3_2_02_01 none v p)
      transposes_S4x8x128x4096_S4x4096x8x128_0_3_1_2) (ix4 b i h d) : EReal) = ∑ j : Fin 4096, (v (ix4 b j h d) : EReal) * (p (ix4 b h i j) : EReal) := by
  pointwise

/-- The exponential of a product of two vectors. -/
theorem exp_read (a b : FVec Ideal S64 .f32) :
    (Host.exp (Host.reduceAdd (mulf a b) (constant S_ .f32 0x00000000#32) reducesTo_S64_S_d0 h_S_) ix0 : EReal)
      = Ideal.exp (∑ z : Fin 64, (a (ix1 z) : EReal) * b (ix1 z)) := by
  pointwise

/-- The reference's weight of the second component. -/
def r7 : FVec Ideal S_ .f32 :=
  addf (subf (Host.exp (Host.reduceAdd (mulf (V0 (Proc.devRef .tc main_arg4)) (V0 (Proc.devRef .tc main_arg5))) (constant S_ .f32 0x00000000#32) reducesTo_S64_S_d0 h_S_))
    (Host.exp (Host.reduceAdd (mulf (V0 (Proc.devRef .tc main_arg6)) (V0 (Proc.devRef .tc main_arg7))) (constant S_ .f32 0x00000000#32) reducesTo_S64_S_d0 h_S_)))
    (constant S_ .f32 0x3EB60549#32)

/-- The weight of the second component. -/
def rlam : EReal := lamOf (fun z => rl1 V0 (ix1 z)) (fun z => rl2 V0 (ix1 z)) (fun z => rl3 V0 (ix1 z)) (fun z => rl4 V0 (ix1 z))

theorem r7_read : (r7 V0 ix0 : EReal) = rlam V0 :=
  congrArg₂ (fun x y : EReal => x - y + Ideal.ofBits .f32 0x3EB60549#32) (exp_read (rl1 V0) (rl2 V0)) (exp_read (rl3 V0) (rl4 V0))

/-- One component less the other, weighed. -/
theorem diff_read (l : FVec Ideal S_ .f32) (p : FVec Ideal S4x8x2x4096x4096 .f32) (b : Fin 4) (h : Fin 8) (i j : Fin 4096) :
    (subf (shapeCast S4x8x4096x4096 (extractStridedSlice S4x8x1x4096x4096 ![0, 0, 0, 0, 0] p slices_S4x8x2x4096x4096_S4x8x1x4096x4096_0_0_0_0_0)
        shapeCasts_S4x8x1x4096x4096_S4x8x4096x4096)
      (mulf (broadcastInDim S4x8x4096x4096 ![] bcast_S_S4x8x4096x4096 l)
        (shapeCast S4x8x4096x4096 (extractStridedSlice S4x8x1x4096x4096 ![0, 0, 1, 0, 0] p slices_S4x8x2x4096x4096_S4x8x1x4096x4096_0_0_1_0_0)
          shapeCasts_S4x8x1x4096x4096_S4x8x4096x4096)) (ix4 b h i j) : EReal)
      = p (ix5 b h 0 i j) - l ix0 * p (ix5 b h 1 i j) := by
  pointwise

/-- The heads, from values, probabilities and the weight of the second component. -/
theorem heads_read (v : FVec Ideal S4x4096x8x128 .f32) (l : FVec Ideal S_ .f32) (p : FVec Ideal S4x8x2x4096x4096 .f32)
    (b : Fin 4) (h : Fin 8) (i : Fin 4096) (d : Fin 128) :
    ((transpose S4x4096x8x128 [0, 3, 1, 2] (Host.dotGeneral dot_S4x4096x8x128_S4x8x4096x4096_S4x8x128x4096_1_3_3_2_02_01 none v
      (subf (shapeCast S4x8x4096x4096 (extractStridedSlice S4x8x1x4096x4096 ![0, 0, 0, 0, 0] p slices_S4x8x2x4096x4096_S4x8x1x4096x4096_0_0_0_0_0)
        shapeCasts_S4x8x1x4096x4096_S4x8x4096x4096)
      (mulf (broadcastInDim S4x8x4096x4096 ![] bcast_S_S4x8x4096x4096 l)
        (shapeCast S4x8x4096x4096 (extractStridedSlice S4x8x1x4096x4096 ![0, 0, 1, 0, 0] p slices_S4x8x2x4096x4096_S4x8x1x4096x4096_0_0_1_0_0)
          shapeCasts_S4x8x1x4096x4096_S4x8x4096x4096))))
      transposes_S4x8x128x4096_S4x4096x8x128_0_3_1_2) (ix4 b i h d) : EReal)
      = ∑ j : Fin 4096, (v (ix4 b j h d) : EReal) * (p (ix5 b h 0 i j) - l ix0 * p (ix5 b h 1 i j)) := by
  rw [values_read]
  refine Finset.sum_congr rfl fun j _ => ?_
  rw [diff_read]

theorem r69_read (b : Fin 4) (h : Fin 8) (i : Fin 4096) (d : Fin 128) :
    r69 V0 (ix4 b i h d) = ∑ j : Fin 4096, rv V0 (ix4 b j h d) * (r60 V0 (ix5 b h 0 i j) - rlam V0 * r60 V0 (ix5 b h 1 i j)) := by
  rw [← r7_read]
  exact heads_read (rv V0) (r7 V0) (r60 V0) b h i d

/-- The heads normalised. -/
theorem norm_read (y : FVec Ideal S4x4096x8x128 .f32) (g : FVec Ideal S128 .f32) (b : Fin 4) (i : Fin 4096) (l : Fin 1024) :
    (shapeCast S4x4096x1024 (mulf (mulf (mulf y (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf y y) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 g))) (broadcastInDim S4x4096x8x128 ![] bcast_S_S4x4096x8x128 (constant S_ .f32 0x3F24FD5C#32))) shapeCasts_S4x4096x8x128_S4x4096x1024 (ix3 b i l) : EReal)
      = normed (fun e => y (ix4 b i (⟨l.val / 128, by omega⟩ : Fin 8) e)) (g (ix1 (⟨l.val % 128, by omega⟩ : Fin 128))) ⟨l.val % 128, by omega⟩ := by
  unfold normed
  pointwise

end Cert.Proof.Diff

end
-- ==== Proof.RefVal.lean ====
module

public import proofs.«01_k».proof.Proof.RefAt

@[expose] public section

set_option maxRecDepth 16384

noncomputable section

/-! The reference's arrays over the real numbers. -/

namespace Cert.Proof.Diff

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-- A running maximum over things none of which is plus infinity and one of which is real is real. -/
theorem fold_real {ι : Type} (s : Finset ι) (f : ι → EReal) (b : EReal) (hb : b ≠ ⊤) (h : ∀ i, f i ≠ ⊤) (i : ι) (hi : i ∈ s) (r : ℝ)
    (hr : f i = (r : EReal)) : ∃ M : ℝ, max b (s.fold max b f) = (M : EReal) := by
  have h1 : max b (s.fold max b f) ≠ ⊤ := (max_lt (lt_top_iff_ne_top.2 hb) (lt_top_iff_ne_top.2 (fold_ne_top s f h b hb))).ne
  have h2 : (r : EReal) ≤ max b (s.fold max b f) := le_max_of_le_right ((Finset.le_fold_max _).2 (Or.inr ⟨i, hi, hr.ge⟩))
  have h3 : max b (s.fold max b f) ≠ ⊥ := fun e => EReal.coe_ne_bot r (le_bot_iff.1 (e ▸ h2))
  exact ⟨_, (EReal.coe_toReal h1 h3).symm⟩

/-- Real products, summed. -/
theorem dot_real (q k : QK) (hq : AllReal q) (hk : AllReal k) (b : Fin 4) (h : Fin 8) (c : Fin 2) (i j : Fin 4096) :
    ∑ d : Fin 64, q (ix5 b i h c d) * k (ix5 b j h c d) = (dotr q k b h c i j : EReal) := by
  rw [dotr, ← coe_sum]
  refine Finset.sum_congr rfl fun d _ => ?_
  rw [EReal.coe_mul, ← hq, ← hk]

section Real
variable (hq : AllReal (rq V0)) (hk : AllReal (rk V0)) (hv : AllReal (rv V0)) (ht : AllReal (rt V0))

include hq hk ht in
/-- The scores: minus infinity behind the query. -/
theorem ref49 (b : Fin 4) (h : Fin 8) (c : Fin 2) (i j : Fin 4096) :
    r49 V0 (ix5 b h c i j) = if j.val ≤ i.val then (scr (rq V0) (rk V0) (rt V0) b h c i j : EReal) else ⊥ := by
  rw [r49_read]
  refine if_congr Iff.rfl ?_ rfl
  rw [dot_real _ _ hq hk, ht, ← EReal.coe_add]
  rfl

/-- A query's own score is among those whose maximum is taken. -/
theorem drop_own (b : Fin 4) (h : Fin 8) (c : Fin 2) (i j : Fin 4096) :
    reducesTo_S4x8x2x4096x4096_S4x8x2x4096_d4.drop (ix5 b h c i j) = ix4 b h c i := by
  funext a
  refine Fin.ext ?_
  fin_cases a
  · exact Shape.ReducesTo.drop_apply_val_of_eq _ (ix5 b h c i j) 0 0
  · exact Shape.ReducesTo.drop_apply_val_of_eq _ (ix5 b h c i j) 1 1
  · exact Shape.ReducesTo.drop_apply_val_of_eq _ (ix5 b h c i j) 2 2
  · exact Shape.ReducesTo.drop_apply_val_of_eq _ (ix5 b h c i j) 3 3

include hq hk ht in
/-- The largest score is real. -/
theorem rmax_real (b : Fin 4) (h : Fin 8) (c : Fin 2) (i : Fin 4096) : ∃ M : ℝ, rmax V0 b h c i = (M : EReal) := by
  rw [rmax_read]
  refine fold_real _ _ _ (by simp [Ideal.ofBits, Ideal.ieee]) (fun z => ?_) (ix5 b h c i i) ?_ _ ((ref49 V0 hq hk ht b h c i i).trans (if_pos le_rfl))
  · obtain ⟨b', h', c', i', j', rfl⟩ : ∃ (b' : Fin 4) (h' : Fin 8) (c' : Fin 2) (i' j' : Fin 4096), z = ix5 b' h' c' i' j' :=
      ⟨z 0, z 1, z 2, z 3, z 4, by funext a; fin_cases a <;> rfl⟩
    rw [ref49 V0 hq hk ht]
    split_ifs
    · exact EReal.coe_ne_top _
    · exact bot_ne_top
  · rw [Finset.mem_filter]
    exact ⟨Finset.mem_univ _, drop_own b h c i i⟩

include hq hk ht in
/-- The scores' exponentials: the weights, up to one factor for each query. -/
theorem ref56 (b : Fin 4) (h : Fin 8) (c : Fin 2) (i : Fin 4096) : ∃ M : ℝ, ∀ j : Fin 4096,
    r56 V0 (ix5 b h c i j) = ((Real.exp (-M) * wgt (rq V0) (rk V0) (rt V0) b h c i j : ℝ) : EReal) := by
  obtain ⟨M, hM⟩ := rmax_real V0 hq hk ht b h c i
  refine ⟨M, fun j => ?_⟩
  rw [r56_read, hM, ref49 V0 hq hk ht, wgt]
  split_ifs
  · rw [← EReal.coe_sub, Ideal.exp_coe, ← Real.exp_add]
    refine congrArg (fun r : ℝ => (Real.exp r : EReal)) ?_
    ring
  · rw [EReal.bot_sub, Ideal.exp_bot, mul_zero]
    rfl

include hq hk ht in
/-- The probabilities. -/
theorem ref60 (b : Fin 4) (h : Fin 8) (c : Fin 2) (i j : Fin 4096) :
    r60 V0 (ix5 b h c i j)
      = ((wgt (rq V0) (rk V0) (rt V0) b h c i j / ∑ z : Fin 4096, wgt (rq V0) (rk V0) (rt V0) b h c i z : ℝ) : EReal) := by
  obtain ⟨M, hM⟩ := ref56 V0 hq hk ht b h c i
  have hs := wsum_pos (rq V0) (rk V0) (rt V0) b h c i
  rw [r60_read, hM, Finset.sum_congr rfl fun z _ => hM z, coe_sum, ← Finset.mul_sum, Ideal.div_coe (mul_pos (Real.exp_pos _) hs).ne', ← EReal.coe_mul]
  refine congrArg (fun r : ℝ => (r : EReal)) ?_
  have h1 := (Real.exp_pos (-M)).ne'
  have h2 := hs.ne'
  generalize ∑ z : Fin 4096, wgt (rq V0) (rk V0) (rt V0) b h c i z = s at h2 ⊢
  generalize Real.exp (-M) = t at h1 ⊢
  field_simp

include hq hk hv ht in
/-- The heads before the normalisation. -/
theorem ref69 (hl1 : AllReal (rl1 V0)) (hl2 : AllReal (rl2 V0)) (hl3 : AllReal (rl3 V0)) (hl4 : AllReal (rl4 V0))
    (b : Fin 4) (h : Fin 8) (i : Fin 4096) (d : Fin 128) :
    r69 V0 (ix4 b i h d) = (att (rq V0) (rk V0) (rv V0) (rt V0) b h 0 i d : EReal)
      - rlam V0 * (att (rq V0) (rk V0) (rv V0) (rt V0) b h 1 i d : EReal) := by
  obtain ⟨l, hl⟩ := lamOf_real (fun z => rl1 V0 (ix1 z)) (fun z => rl2 V0 (ix1 z)) (fun z => rl3 V0 (ix1 z)) (fun z => rl4 V0 (ix1 z))
    (fun z => hl1 _) (fun z => hl2 _) (fun z => hl3 _) (fun z => hl4 _)
  rw [r69_read, rlam, hl, ← EReal.coe_mul, ← EReal.coe_sub, att, att, Finset.sum_div, Finset.sum_div, Finset.mul_sum, ← Finset.sum_sub_distrib, ← coe_sum]
  refine Finset.sum_congr rfl fun j _ => ?_
  rw [ref60 V0 hq hk ht, ref60 V0 hq hk ht, hv, ← EReal.coe_mul, ← EReal.coe_sub, ← EReal.coe_mul]
  refine congrArg (fun r : ℝ => (r : EReal)) ?_
  rw [EReal.toReal_coe]
  ring

end Real

end Cert.Proof.Diff

end
-- ==== Proof.Equal.lean ====
module

public import proofs.«01_k».proof.Defs
public import proofs.«01_k».proof.Proof.OutArr
public import proofs.«01_k».proof.Proof.RefVal
public import proofs.«01_k».proof.Proof.Gen.Pre_finite

@[expose] public section

set_option maxRecDepth 16384

noncomputable section

/-! The equation: at real arguments both programs leave the attention. -/

namespace Cert.Proof.Diff

open Idealize.ShloMosaic Idealize.ShloMosaic.TcCoe
open Idealize.SL.Sem

section Reference

open Cert.ReferenceIdeal Cert.ReferenceIdeal.Gen Cert.ReferenceIdeal.Value
open Idealize.ShloMosaic.StableHlo

/-- The reference's normalised heads are the attention. -/
theorem ref_value (V0 : Valuation τ sig (Elt Ideal)) (hq : AllReal (rq V0)) (hk : AllReal (rk V0)) (hv : AllReal (rv V0)) (ht : AllReal (rt V0))
    (hl1 : AllReal (rl1 V0)) (hl2 : AllReal (rl2 V0)) (hl3 : AllReal (rl3 V0)) (hl4 : AllReal (rl4 V0)) (b : Fin 4) (i : Fin 4096) (l : Fin 1024) :
    normed (fun e => r69 V0 (ix4 b i (⟨l.val / 128, by omega⟩ : Fin 8) e)) (rg V0 (ix1 (⟨l.val % 128, by omega⟩ : Fin 128))) ⟨l.val % 128, by omega⟩
      = resArr (rq V0) (rk V0) (rv V0) (rt V0) (rl1 V0) (rl2 V0) (rl3 V0) (rl4 V0) (rg V0) (ix3 b i l) :=
  congrArg (fun y : Fin 128 → EReal => normed y (rg V0 (ix1 (⟨l.val % 128, by omega⟩ : Fin 128))) ⟨l.val % 128, by omega⟩)
    (funext fun e => ref69 V0 hq hk hv ht hl1 hl2 hl3 hl4 b _ i e)

/-- The reference runs and leaves the attention, its arguments unchanged. -/
theorem ref_run (m : (ℓ : Loc nD τ sig) → Buf (Elt Ideal) ℓ) (ρ : Dev nD → PrngReg)
    (q k : Dev nD → QK) (v : Dev nD → Vals) (tab : Dev nD → Tab) (l1 l2 l3 l4 : Dev nD → Row 64) (g : Dev nD → Row 128)
    (hm : ∀ c : Dev nD, m ((c.tc : Thread nD τ).loc main_arg0) = q c ∧ m ((c.tc : Thread nD τ).loc main_arg1) = k c
      ∧ m ((c.tc : Thread nD τ).loc main_arg2) = v c ∧ m ((c.tc : Thread nD τ).loc main_arg3) = tab c
      ∧ m ((c.tc : Thread nD τ).loc main_arg4) = l1 c ∧ m ((c.tc : Thread nD τ).loc main_arg5) = l2 c
      ∧ m ((c.tc : Thread nD τ).loc main_arg6) = l3 c ∧ m ((c.tc : Thread nD τ).loc main_arg7) = l4 c
      ∧ m ((c.tc : Thread nD τ).loc main_arg8) = g c)
    (hr : ∀ c, AllReal (q c) ∧ AllReal (k c) ∧ AllReal (v c) ∧ AllReal (tab c) ∧ AllReal (l1 c) ∧ AllReal (l2 c) ∧ AllReal (l3 c) ∧ AllReal (l4 c)) :
    θ_run (defs (F := Ideal)) (onTc (τ := τ) (main (F := Ideal))) ⟨m, fun _ => 0, ρ⟩ fun r => ∀ c : Dev nD,
      r.2.mem ((c.tc : Thread nD τ).loc main_v85) = resArr (q c) (k c) (v c) (tab c) (l1 c) (l2 c) (l3 c) (l4 c) (g c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run (defs (F := Ideal)) _ _).mono (fun r h c => ⟨(h c).1.trans ?_, (h c).2⟩) (Cert.ReferenceIdeal.Value.run (F := Ideal) m ρ)
  obtain ⟨e0, e1, e2, e3, e4, e5, e6, e7, e8⟩ := hm c
  obtain ⟨a0, a1, a2, a3, a4, a5, a6, a7⟩ := hr c
  rw [← e0] at a0 ⊢
  rw [← e1] at a1 ⊢
  rw [← e2] at a2 ⊢
  rw [← e3] at a3 ⊢
  rw [← e4] at a4 ⊢
  rw [← e5] at a5 ⊢
  rw [← e6] at a6 ⊢
  rw [← e7] at a7 ⊢
  rw [← e8]
  funext z
  obtain ⟨b, i, l, rfl⟩ : ∃ (b : Fin 4) (i : Fin 4096) (l : Fin 1024), z = ix3 b i l :=
    ⟨z 0, z 1, z 2, by funext a; fin_cases a <;> rfl⟩
  exact (norm_read (r69 (launchContents m c)) (rg (launchContents m c)) b i l).trans
    (ref_value (launchContents m c) a0 a1 a2 a3 a4 a5 a6 a7 b i l)

end Reference

section Kernel

open Cert.KernelIdeal Cert.KernelIdeal.Gen

/-- The kernel runs and leaves the attention, its arguments unchanged. -/
theorem kernel_value (m : (ℓ : Loc nD τ sig) → Buf (Elt Ideal) ℓ) (ρ : Dev nD → PrngReg)
    (hr : ∀ c, AllReal (aq m c) ∧ AllReal (ak m c) ∧ AllReal (av m c) ∧ AllReal (atab m c)) :
    θ_run (defs (F := Ideal)) (onTc (τ := τ) (main (F := Ideal))) ⟨m, fun _ => 0, ρ⟩ fun r => ∀ c : Dev nD,
      r.2.mem ((c.tc : Thread nD τ).loc main_v108)
        = resArr (aq m c) (ak m c) (av m c) (atab m c) (al1 m c) (al2 m c) (al3 m c) (al4 m c) (ag m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run (defs (F := Ideal)) _ _).mono (fun r h c => ⟨?_,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩) (run_main m ρ)
  obtain ⟨hq, hk, hv, ht⟩ := hr c
  exact ((h.1 c).1 10).trans (out_value m c hq hk hv ht)

end Kernel

/-- At finite arguments the two programs' results are equal. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hf := fun c => finite_real _ _ _ _ _ _ _ _ _ (hpre c)
  refine ⟨fun c => resArr (aq m c) (ak m c) (av m c) (atab m c) (al1 m c) (al2 m c) (al3 m c) (al4 m c) (ag m c), ?_, ?_⟩
  · exact kernel_value m g fun c => ⟨(hf c).1, (hf c).2.1, (hf c).2.2.1, (hf c).2.2.2.1⟩
  · exact ref_run m' g' (aq m) (ak m) (av m) (atab m) (al1 m) (al2 m) (al3 m) (al4 m) (ag m) hargs fun c => hf c

end Cert.Proof.Diff

end
-- ==== Proof.FfnTrips.lean ====
module

public import proofs.«01_k».proof.Proof.Gen.Kernel2Ideal.Frame
public import proofs.«01_k».proof.Proof.Gen.Kernel2Ideal.Skeleton
public import Idealize.ShloMosaic.Lib.Claim

@[expose] public section

set_option maxRecDepth 16384

noncomputable section

/-! The body of the feed-forward kernel, run once for each of its three kinds of grid point: the first chunk of a row tile,
    a middle chunk, the last chunk. -/

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S1x1024x1024 .f32) (harg3 : arg3.IsWhole) (arg4 : Memref sig .tc .vmem S1x1024 .f32) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S8x256 .f32) (harg7 : arg7.IsWhole) (arg8 : Memref sig .tc .vmem S256x1024 .bf16) (harg8 : arg8.IsWhole)
  (arg9 : Memref sig .tc .vmem S1x1024x1024 .f32) (harg9 : arg9.IsWhole) (arg10 : Memref sig .tc .vmem S1x1x8x256 .f32) (harg10 : arg10.IsWhole)
  (arg11 : Memref sig .tc .vmem S1024x1024 .bf16) (harg11 : arg11.IsWhole) (arg12 : Memref sig .tc .vmem S1024x1024 .f32) (harg12 : arg12.IsWhole)
  (arg13 : Memref sig .tc .vmem S11x8x256 .f32) (harg13 : arg13.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (X8 : BufTy.Contents (Elt F) arg8.view.ty)

/-- The six blocks a grid point reads, each held whole at its contents. -/
abbrev ins : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8))

variable (f11 : BufTy.Contents (Elt F) arg11.view.ty) (f12 : BufTy.Contents (Elt F) arg12.view.ty) (f13 : BufTy.Contents (Elt F) arg13.view.ty)

/-- What a run of the body leaves in the buffers that it writes, each from what it found there. -/
abbrev Leaves (Q9 : BufTy.Contents (Elt F) arg9.view.ty → BufTy.Contents (Elt F) arg9.view.ty) (Q10 : BufTy.Contents (Elt F) arg10.view.ty → BufTy.Contents (Elt F) arg10.view.ty)
    (f11' : BufTy.Contents (Elt F) arg11.view.ty) (f12' : BufTy.Contents (Elt F) arg12.view.ty) (f13' : BufTy.Contents (Elt F) arg13.view.ty) : Prop :=
  ∀ (E : Set ℕ) (f9 : BufTy.Contents (Elt F) arg9.view.ty) (f10 : BufTy.Contents (Elt F) arg10.view.ty),
    iprop(ins (F := F) c arg3 arg4 arg5 arg6 arg7 arg8 X3 X4 X5 X6 X7 X8 ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
    ⊢ wp frame (wpE (defs₀ (F := F)) Variants.none (c : Thread nD τ) none) E (cc0_ffn_prompt_skel (F := F) i arg3 harg3 arg4 harg4 arg5 harg5 arg6 harg6 arg7 harg7 arg8 harg8 arg9 harg9 arg10 harg10 arg11 harg11 arg12 harg12 arg13 harg13)
        (fun _ => iprop(ins (F := F) c arg3 arg4 arg5 arg6 arg7 arg8 X3 X4 X5 X6 X7 X8 ∗ (arg9.view.loc (c : Thread nD τ) ↦[arg9.view.set]{fullShare} Q9 f9) ∗ (arg10.view.loc (c : Thread nD τ) ↦[arg10.view.set]{fullShare} Q10 f10)
          ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13')))

/-- Whether a grid point is the first chunk of its row tile, as the body asks it. -/
abbrev isFirst : Prop := Scalar.cmpi .ne (Scalar.extui (Scalar.cmpi .eq (BitVec.ofNat 32 (i 2).val) 0#32) : BitVec 32) 0#32 = 1#1

/-- A middle chunk of a row tile. -/
@[irreducible] def tripMid (h1 : ¬ isFirst i) (h2 : ¬ k0_cond2 i = 1#1) :
    Σ' (L10 : List (View.Piece (Elt F) S1x1x8x256 .f32)) (L12 : List (View.Piece (Elt F) S1024x1024 .f32)),
      { L13 : List (View.Piece (Elt F) S11x8x256 .f32) // Leaves c i arg3 harg3 arg4 harg4 arg5 harg5 arg6 harg6 arg7 harg7 arg8 harg8 arg9 harg9 arg10 harg10 arg11 harg11 arg12 harg12 arg13 harg13 X3 X4 X5 X6 X7 X8 f11 f12 f13
          id (fun f => arg10.view.writes (Elt F) f L10) f11 (arg12.view.writes (Elt F) f12 L12) (arg13.view.writes (Elt F) f13 L13) } := by
  refine ⟨?_, ?_, ?_, fun E f9 f10 => ?run⟩
  case run =>
    unfold cc0_ffn_prompt_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    iintro ⟨⟨H3, H4, H5, H6, H7, H8⟩, H9, H10, H11, H12, H13⟩
    sl_exec
    sl_step
    sl_close

/-- The first chunk of a row tile: the normed rows and the residual are set, then the chunk is added. -/
@[irreducible] def tripFirst (h1 : isFirst i) (h2 : ¬ k0_cond2 i = 1#1) :
    Σ' (L11 : List (View.Piece (Elt F) S1024x1024 .bf16)) (L10 : List (View.Piece (Elt F) S1x1x8x256 .f32)) (L12 : List (View.Piece (Elt F) S1024x1024 .f32)),
      { L13 : List (View.Piece (Elt F) S11x8x256 .f32) // Leaves c i arg3 harg3 arg4 harg4 arg5 harg5 arg6 harg6 arg7 harg7 arg8 harg8 arg9 harg9 arg10 harg10 arg11 harg11 arg12 harg12 arg13 harg13 X3 X4 X5 X6 X7 X8 f11 f12 f13
          id (fun f => arg10.view.writes (Elt F) f L10) (arg11.view.writes (Elt F) f11 L11) (arg12.view.writes (Elt F) f12 L12) (arg13.view.writes (Elt F) f13 L13) } := by
  refine ⟨?_, ?_, ?_, ?_, fun E f9 f10 => ?run⟩
  case run =>
    unfold cc0_ffn_prompt_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    iintro ⟨⟨H3, H4, H5, H6, H7, H8⟩, H9, H10, H11, H12, H13⟩
    sl_exec
    sl_step
    sl_close

/-- The last chunk of a row tile: after it the accumulator is handed over. -/
@[irreducible] def tripLast (h1 : ¬ isFirst i) (h2 : k0_cond2 i = 1#1) :
    Σ' (L9 : List (View.Piece (Elt F) S1x1024x1024 .f32)) (L10 : List (View.Piece (Elt F) S1x1x8x256 .f32)) (L12 : List (View.Piece (Elt F) S1024x1024 .f32)),
      { L13 : List (View.Piece (Elt F) S11x8x256 .f32) // Leaves c i arg3 harg3 arg4 harg4 arg5 harg5 arg6 harg6 arg7 harg7 arg8 harg8 arg9 harg9 arg10 harg10 arg11 harg11 arg12 harg12 arg13 harg13 X3 X4 X5 X6 X7 X8 f11 f12 f13
          (fun f => arg9.view.writes (Elt F) f L9) (fun f => arg10.view.writes (Elt F) f L10) f11 (arg12.view.writes (Elt F) f12 L12) (arg13.view.writes (Elt F) f13 L13) } := by
  refine ⟨?_, ?_, ?_, ?_, fun E f9 f10 => ?run⟩
  case run =>
    unfold cc0_ffn_prompt_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    iintro ⟨⟨H3, H4, H5, H6, H7, H8⟩, H9, H10, H11, H12, H13⟩
    sl_exec
    sl_step
    sl_close

end Cert.Proof.Ffn

end
-- ==== Proof.FfnStep.lean ====
module

public import proofs.«01_k».proof.Proof.FfnTrips
public import Idealize.ShloMosaic.Lib.VecWindow
public import Idealize.ShloMosaic.Lib.WritesUnit

@[expose] public section

set_option maxRecDepth 16384

noncomputable section

/-! What one run of the feed-forward kernel's body leaves, as functions of the arrays that it finds. -/

namespace Cert.Proof.Ffn

open Cert.Kernel2Ideal Cert.Kernel2Ideal.Gen
open Idealize.ShloMosaic Idealize.ShloMosaic.TcCoe Idealize.ShloMosaic.Tactic

variable {F : FTy → Type} [FloatOps F]

theorem rowBlk_inb (k : Fin 4) : ∀ a : Fin S1024x1024.rank, (![256 * k.val, 0] : Fin 2 → ℕ) a + (![256, 1024] : Fin 2 → ℕ) a ≤ S1024x1024.size a := by
  intro a
  have := k.isLt
  fin_cases a
  · show 256 * k.val + 256 ≤ 1024; omega
  · show 0 + 1024 ≤ 1024; omega

/-- The `k`-th 256 rows of an array of 1024. -/
def rowBlk {α : Type} (k : Fin 4) (x : S1024x1024.Idx → α) : S256x1024.Idx → α :=
  VecWindow.window x ![256 * k.val, 0] ![256, 1024] (rowBlk_inb k)

/-- A block of 256 rows times a matrix of 256 columns. -/
def gate (k : Fin 4) (h : Vec F S1024x1024 .bf16) (w : Vec F S1024x256 .bf16) : FVec F S256x256 .f32 := k0_pay8 (rowBlk k h) w

/-- The last eight of 256 rows. -/
def lastRows (g : FVec F S256x256 .f32) : FVec F S8x256 .f32 := k0_pay36 g

/-- The eight gate rows before the `k`-th block of a row tile: those carried over from the tile above, or the block above's. -/
def prevRows (arg1 : BitVec 32) (hal : Vec F S1x8x256 .f32) (h : Vec F S1024x1024 .bf16) (wg : Vec F S1024x256 .bf16) (k : Fin 4) : FVec F S8x256 .f32 :=
  if k = 0 then k0_pay17 arg1 hal else lastRows (gate (k - 1) h wg)

/-- A block of rows after one chunk: what it holds, and the chunk's share of the product with the down weights. -/
def blk (prev : FVec F S8x256 .f32) (g u : FVec F S256x256 .f32) (cw : Vec F S8x256 .f32) (a : S256x1024.Idx → F .f32) (wd : Vec F S256x1024 .bf16) : FVec F S256x1024 .f32 :=
  k0_pay1 a (k0_pay37 g u (k0_pay16 cw) (iota .tc S256x256 32 [0] iota_S256x256_d0_w32) prev) wd

/-- The `k`-th block of the accumulator after one chunk. -/
def accBlk (arg1 : BitVec 32) (hal : Vec F S1x8x256 .f32) (h : Vec F S1024x1024 .bf16) (wg wu : Vec F S1024x256 .bf16) (cw : Vec F S8x256 .f32) (wd : Vec F S256x1024 .bf16)
    (a : Vec F S1024x1024 .f32) (k : Fin 4) : FVec F S256x1024 .f32 :=
  blk (prevRows arg1 hal h wg k) (gate k h wg) (gate k h wu) cw (rowBlk k a) wd

/-- Four blocks of 256 rows, one below the other. -/
def stack {α : Type} (w : Fin 4 → S256x1024.Idx → α) : S1024x1024.Idx → α := fun z =>
  w ⟨(z 0).val / 256, by have : (z 0).val < 1024 := (z 0).isLt; omega⟩
    (fun a => ⟨(![(z 0).val % 256, (z 1).val] : Fin 2 → ℕ) a, by
      have h1 : (z 1).val < 1024 := (z 1).isLt
      fin_cases a
      · exact Nat.mod_lt _ (by decide)
      · exact h1⟩)

/-- The accumulator after one chunk. -/
def accStep (arg1 : BitVec 32) (hal : Vec F S1x8x256 .f32) (h : Vec F S1024x1024 .bf16) (wg wu : Vec F S1024x256 .bf16) (cw : Vec F S8x256 .f32) (wd : Vec F S256x1024 .bf16)
    (a : Vec F S1024x1024 .f32) : Vec F S1024x1024 .f32 := stack (accBlk arg1 hal h wg wu cw wd a)

/-- The store of one block of rows, read at a row of it or above it. -/
theorem stack_cons {Val : EltTy → Type} (v : View sig .tc .vmem S1024x1024 .f32) (f : v.ty.Contents Val) (w : Fin 4 → S256x1024.Idx → Val .f32) (L : List (View.Piece Val S1024x1024 .f32))
    {off : Fin 2 → ℕ} (k : Fin 4) (hoff : off = ![256 * k.val, 0]) (inb : ∀ a : Fin S1024x1024.rank, off a + (![256, 1024] : Fin 2 → ℕ) a ≤ S1024x1024.size a) (z : S1024x1024.Idx)
    (hz : (z 0).val < 256 * (k.val + 1)) (hL : (z 0).val < 256 * k.val → v.read Val (v.writes Val f L) z = stack w z) :
    v.read Val (v.writes Val f (⟨Rect.unit (s := S1024x1024) off ![256, 1024] inb, w k⟩ :: L)) z = stack w z := by
  by_cases h : (z 0).val < 256 * k.val
  · exact (View.read_writes_cons_unit_of_not_mem v f inb _ L z hoff 0 (Or.inl h)).trans (hL h)
  · have hk : k = ⟨(z 0).val / 256, by have : (z 0).val < 1024 := (z 0).isLt; omega⟩ := Fin.ext (by show k.val = (z 0).val / 256; omega)
    refine (View.read_writes_cons_unit_of_mem v f inb (w k) L z (fun a => ⟨(![(z 0).val % 256, (z 1).val] : Fin 2 → ℕ) a, by
      have h1 : (z 1).val < 1024 := (z 1).isLt
      fin_cases a
      · exact Nat.mod_lt _ (by decide)
      · exact h1⟩) hoff ?_).trans ?_
    · intro a
      fin_cases a
      · show (z 0).val = 256 * k.val + (z 0).val % 256; omega
      · show (z 1).val = 0 + (z 1).val; omega
    · unfold stack
      rw [← hk]

/-- The stores of the four blocks, read back. -/
theorem stack_read {Val : EltTy → Type} (v : View sig .tc .vmem S1024x1024 .f32) (f : v.ty.Contents Val) (w : Fin 4 → S256x1024.Idx → Val .f32) (L : List (View.Piece Val S1024x1024 .f32)) :
    v.read Val (v.writes Val f (⟨Rect.unit (s := S1024x1024) ![768, 0] ![256, 1024] inb_S1024x1024_S256x1024_768_0, w 3⟩ :: ⟨Rect.unit (s := S1024x1024) ![512, 0] ![256, 1024] inb_S1024x1024_S256x1024_512_0, w 2⟩
      :: ⟨Rect.unit (s := S1024x1024) ![256, 0] ![256, 1024] inb_S1024x1024_S256x1024_256_0, w 1⟩ :: ⟨Rect.unit (s := S1024x1024) ![0, 0] ![256, 1024] inb_S1024x1024_S256x1024_0_0, w 0⟩ :: L)) = stack w := by
  funext z
  have hz : (z 0).val < 1024 := (z 0).isLt
  refine stack_cons v f w _ 3 rfl _ z (by show _ < 256 * (3 + 1); omega) fun h => ?_
  refine stack_cons v f w _ 2 rfl _ z (by show _ < 256 * (2 + 1); exact h) fun h => ?_
  refine stack_cons v f w _ 1 rfl _ z (by show _ < 256 * (1 + 1); exact h) fun h => ?_
  exact stack_cons v f w _ 0 rfl _ z (by show _ < 256 * (0 + 1); exact h) fun h => absurd h (by simp)

/-- The stores of the four blocks, read back: the payloads named one by one. -/
theorem stack_read' {Val : EltTy → Type} (v : View sig .tc .vmem S1024x1024 .f32) (f : v.ty.Contents Val) (w : Fin 4 → S256x1024.Idx → Val .f32) (L : List (View.Piece Val S1024x1024 .f32))
    (p0 p1 p2 p3 : S256x1024.Idx → Val .f32) (e0 : p0 = w 0) (e1 : p1 = w 1) (e2 : p2 = w 2) (e3 : p3 = w 3) :
    v.read Val (v.writes Val f (⟨Rect.unit (s := S1024x1024) ![768, 0] ![256, 1024] inb_S1024x1024_S256x1024_768_0, p3⟩ :: ⟨Rect.unit (s := S1024x1024) ![512, 0] ![256, 1024] inb_S1024x1024_S256x1024_512_0, p2⟩
      :: ⟨Rect.unit (s := S1024x1024) ![256, 0] ![256, 1024] inb_S1024x1024_S256x1024_256_0, p1⟩ :: ⟨Rect.unit (s := S1024x1024) ![0, 0] ![256, 1024] inb_S1024x1024_S256x1024_0_0, p0⟩ :: L)) = stack w := by
  subst e0 e1 e2 e3
  exact stack_read v f w L

section Blocks
variable (a1 : BitVec 32) (hal : Vec F S1x8x256 .f32) (h0 h1 h2 h3 : Vec F S256x1024 .bf16) (wg wu : Vec F S1024x256 .bf16) (cw : Vec F S8x256 .f32) (wd : Vec F S256x1024 .bf16) (a : Vec F S256x1024 .f32)

/-- The body's text of each of the four blocks is the one block function. -/
theorem blk0_eq : k0_pay23 (k0_pay8 h0 wg) (k0_pay12 h0 wu) (k0_pay16 cw) (k0_pay18 a1 (k0_pay8 h0 wg) hal) k0_pay19 (k0_pay20 a1 (k0_pay8 h0 wg) hal) (k0_pay21 a1 hal) a wd
    = blk (k0_pay17 a1 hal) (k0_pay8 h0 wg) (k0_pay8 h0 wu) cw a wd := rfl
theorem blk1_eq : k0_pay29 (k0_pay9 h1 wg) (k0_pay13 h1 wu) (k0_pay16 cw) (iota .tc S256x256 32 [0] iota_S256x256_d0_w32) (k0_pay22 (k0_pay8 h0 wg)) (k0_pay24 (k0_pay9 h1 wg))
      (k0_pay25 (k0_pay8 h0 wg) (k0_pay9 h1 wg) (iota .tc S256x256 32 [0] iota_S256x256_d0_w32)) (k0_pay26 (iota .tc S256x256 32 [0] iota_S256x256_d0_w32)) (k0_pay27 (k0_pay8 h0 wg)) a wd
    = blk (lastRows (k0_pay8 h0 wg)) (k0_pay8 h1 wg) (k0_pay8 h1 wu) cw a wd := rfl
theorem blk2_eq : k0_pay35 (k0_pay34 (k0_pay10 h2 wg) (k0_pay14 h2 wu) (k0_pay16 cw) (iota .tc S256x256 32 [0] iota_S256x256_d0_w32) (k0_pay28 (k0_pay9 h1 wg)) (k0_pay30 (k0_pay10 h2 wg))
      (k0_pay31 (k0_pay10 h2 wg)) k0_pay32 a wd)
    = blk (lastRows (k0_pay8 h1 wg)) (k0_pay8 h2 wg) (k0_pay8 h2 wu) cw a wd := rfl
theorem blk3_eq : k0_pay1 a (k0_pay37 (k0_pay11 h3 wg) (k0_pay15 h3 wu) (k0_pay16 cw) (iota .tc S256x256 32 [0] iota_S256x256_d0_w32) (k0_pay33 (k0_pay10 h2 wg))) wd
    = blk (lastRows (k0_pay8 h2 wg)) (k0_pay8 h3 wg) (k0_pay8 h3 wu) cw a wd := rfl
end Blocks

variable (c : Dev nD) (i : grid0.Coords)
  (arg3 : Memref sig .tc .vmem S1x1024x1024 .f32) (harg3 : arg3.IsWhole) (arg4 : Memref sig .tc .vmem S1x1024 .f32) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S8x256 .f32) (harg7 : arg7.IsWhole) (arg8 : Memref sig .tc .vmem S256x1024 .bf16) (harg8 : arg8.IsWhole)
  (arg9 : Memref sig .tc .vmem S1x1024x1024 .f32) (harg9 : arg9.IsWhole) (arg10 : Memref sig .tc .vmem S1x1x8x256 .f32) (harg10 : arg10.IsWhole)
  (arg11 : Memref sig .tc .vmem S1024x1024 .bf16) (harg11 : arg11.IsWhole) (arg12 : Memref sig .tc .vmem S1024x1024 .f32) (harg12 : arg12.IsWhole)
  (arg13 : Memref sig .tc .vmem S11x8x256 .f32) (harg13 : arg13.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (X8 : BufTy.Contents (Elt F) arg8.view.ty)
  (f11 : BufTy.Contents (Elt F) arg11.view.ty) (f12 : BufTy.Contents (Elt F) arg12.view.ty) (f13 : BufTy.Contents (Elt F) arg13.view.ty)

theorem slot_inb (n : Fin 11) : ∀ a : Fin S11x8x256.rank, (![n.val, 0, 0] : Fin 3 → ℕ) a + (![1, 8, 256] : Fin 3 → ℕ) a ≤ S11x8x256.size a := by
  intro a
  have := n.isLt
  fin_cases a
  · show n.val + 1 ≤ 11; omega
  · show 0 + 8 ≤ 8; omega
  · show 0 + 256 ≤ 256; omega

/-- The rows carried over for chunk `n`. -/
def slot {α : Type} (n : Fin 11) (f : S11x8x256.Idx → α) : S1x8x256.Idx → α := VecWindow.window f ![n.val, 0, 0] ![1, 8, 256] (slot_inb n)

/-- The load of the carried rows reads the chunk's own slot. -/
theorem readAt13 : arg13.view.readAt (Elt F) (Rect.unit (s := S11x8x256) (k0_off1 i) ![1, 8, 256] (k0_off1_inb i)).toLoadRect f13 = slot (i 2) (arg13.view.read (Elt F) f13) :=
  View.readAt_unit arg13.view f13 (k0_off1_inb i) (k0_off1_eq i) (slot_inb (i 2))

/-- The store of the carried rows sets the chunk's own slot. -/
theorem slot_same (v : View sig .tc .vmem S11x8x256 .f32) (f : v.ty.Contents (Elt F)) (w : S1x8x256.Idx → F .f32) :
    slot (i 2) (v.read (Elt F) (v.writes (Elt F) f [⟨Rect.unit (s := S11x8x256) (k0_off1 i) ![1, 8, 256] (k0_off1_inb i), w⟩])) = w := by
  funext z
  refine View.read_writes_cons_unit_of_mem v f (k0_off1_inb i) w [] _ z (k0_off1_eq i) fun a => ?_
  show _ = _ + (z a).val
  show (![(i 2).val, 0, 0] : Fin 3 → ℕ) a + 1 * (z a).val = _
  rw [Nat.one_mul]

/-- The store of the carried rows leaves the other slots. -/
theorem slot_other (v : View sig .tc .vmem S11x8x256 .f32) (f : v.ty.Contents (Elt F)) (w : S1x8x256.Idx → F .f32) (n : Fin 11) (hn : n ≠ i 2) :
    slot n (v.read (Elt F) (v.writes (Elt F) f [⟨Rect.unit (s := S11x8x256) (k0_off1 i) ![1, 8, 256] (k0_off1_inb i), w⟩])) = slot n (v.read (Elt F) f) := by
  funext z
  have h0 : (z 0).val < 1 := (z 0).isLt
  have hv : n.val ≠ (i 2).val := fun h => hn (Fin.ext h)
  refine View.read_writes_cons_unit_of_not_mem v f (k0_off1_inb i) w [] _ (k0_off1_eq i) 0 ?_
  show n.val + 1 * (z 0).val < (i 2).val ∨ (i 2).val + 1 ≤ n.val + 1 * (z 0).val
  omega

theorem readAt5 : arg5.view.readAt (Elt F) (Rect.unit (s := S1024x256) ![0, 0] ![1024, 256] inb_S1024x256_S1024x256_0_0).toLoadRect X5 = arg5.view.read (Elt F) X5 := View.readAt_full arg5.view X5 inb_S1024x256_S1024x256_0_0
theorem readAt7 : arg7.view.readAt (Elt F) (Rect.unit (s := S8x256) ![0, 0] ![8, 256] inb_S8x256_S8x256_0_0).toLoadRect X7 = arg7.view.read (Elt F) X7 := View.readAt_full arg7.view X7 inb_S8x256_S8x256_0_0
theorem readAt8 : arg8.view.readAt (Elt F) (Rect.unit (s := S256x1024) ![0, 0] ![256, 1024] inb_S256x1024_S256x1024_0_0).toLoadRect X8 = arg8.view.read (Elt F) X8 := View.readAt_full arg8.view X8 inb_S256x1024_S256x1024_0_0

theorem readAt3 : arg3.view.readAt (Elt F) (Rect.unit (s := S1x1024x1024) ![0, 0, 0] ![1, 1024, 1024] inb_S1x1024x1024_S1x1024x1024_0_0_0).toLoadRect X3 = arg3.view.read (Elt F) X3 := View.readAt_full arg3.view X3 inb_S1x1024x1024_S1x1024x1024_0_0_0
theorem readAt4 : arg4.view.readAt (Elt F) (Rect.unit (s := S1x1024) ![0, 0] ![1, 1024] inb_S1x1024_S1x1024_0_0).toLoadRect X4 = arg4.view.read (Elt F) X4 := View.readAt_full arg4.view X4 inb_S1x1024_S1x1024_0_0

/-- A load of 256 rows of what the stores so far cover. -/
theorem cov_rows {e : EltTy} (v : View sig .tc .vmem S1024x1024 e) (L : List (View.Piece (Elt F) S1024x1024 e)) (k : Fin 4) {off : Fin 2 → ℕ} (hoff : off = ![256 * k.val, 0])
    (inb : ∀ a : Fin S1024x1024.rank, off a + (![256, 1024] : Fin 2 → ℕ) a ≤ S1024x1024.size a) :
    v.readCov L (Rect.unit (s := S1024x1024) off ![256, 1024] inb).toLoadRect = rowBlk k (v.read (Elt F) (v.writes (Elt F) v.junk L)) :=
  View.readAt_unit v _ inb hoff (rowBlk_inb k)

/-- A store of other rows is not seen. -/
theorem rowBlk_skip {e : EltTy} (v : View sig .tc .vmem S1024x1024 e) (f : v.ty.Contents (Elt F)) (L : List (View.Piece (Elt F) S1024x1024 e)) (k k' : Fin 4) (hk : k'.val < k.val) {off : Fin 2 → ℕ} (hoff : off = ![256 * k'.val, 0])
    (inb : ∀ a : Fin S1024x1024.rank, off a + (![256, 1024] : Fin 2 → ℕ) a ≤ S1024x1024.size a) (w : S256x1024.Idx → Elt F e) :
    rowBlk k (v.read (Elt F) (v.writes (Elt F) f (⟨Rect.unit (s := S1024x1024) off ![256, 1024] inb, w⟩ :: L))) = rowBlk k (v.read (Elt F) (v.writes (Elt F) f L)) := by
  funext z
  refine View.read_writes_cons_unit_of_not_mem v f inb w L _ hoff 0 (Or.inr ?_)
  show 256 * k'.val + 256 ≤ 256 * k.val + 1 * (z 0).val
  omega

/-- A whole store is. -/
theorem rowBlk_full {e : EltTy} (v : View sig .tc .vmem S1024x1024 e) (f : v.ty.Contents (Elt F)) (k : Fin 4) (w : S1024x1024.Idx → Elt F e) :
    rowBlk k (v.read (Elt F) (v.writes (Elt F) f [⟨Rect.unit (s := S1024x1024) ![0, 0] ![1024, 1024] inb_S1024x1024_S1024x1024_0_0, w⟩])) = rowBlk k w :=
  congrArg (rowBlk k) (View.read_writes_full v f inb_S1024x1024_S1024x1024_0_0 w [])

theorem first11_eq : tripFirst.sl.H11_1 (F := F) arg3 arg4 X3 X4 = [⟨Rect.unit (s := S1024x1024) ![0, 0] ![1024, 1024] inb_S1024x1024_S1024x1024_0_0, k0_pay6 (arg3.view.read (Elt F) X3) (arg4.view.read (Elt F) X4)⟩] := by
  unfold tripFirst.sl.H11_1
  rw [readAt3, readAt4]

theorem first12_eq : tripFirst.sl.H12_1 (F := F) arg3 X3 = [⟨Rect.unit (s := S1024x1024) ![0, 0] ![1024, 1024] inb_S1024x1024_S1024x1024_0_0, k0_pay7 (arg3.view.read (Elt F) X3)⟩] := by
  unfold tripFirst.sl.H12_1
  rw [readAt3]

theorem first_h0 : arg11.view.readCov (tripFirst.sl.H11_1 (F := F) arg3 arg4 X3 X4) (Rect.unit (s := S1024x1024) ![0, 0] ![256, 1024] inb_S1024x1024_S256x1024_0_0).toLoadRect
    = rowBlk 0 (k0_pay6 (arg3.view.read (Elt F) X3) (arg4.view.read (Elt F) X4)) := by
  rw [first11_eq]
  exact (cov_rows arg11.view _ 0 rfl _).trans (rowBlk_full arg11.view _ 0 _)

theorem first_h1 : arg11.view.readCov (tripFirst.sl.H11_1 (F := F) arg3 arg4 X3 X4) (Rect.unit (s := S1024x1024) ![256, 0] ![256, 1024] inb_S1024x1024_S256x1024_256_0).toLoadRect
    = rowBlk 1 (k0_pay6 (arg3.view.read (Elt F) X3) (arg4.view.read (Elt F) X4)) := by
  rw [first11_eq]
  exact (cov_rows arg11.view _ 1 rfl _).trans (rowBlk_full arg11.view _ 1 _)

theorem first_h2 : arg11.view.readCov (tripFirst.sl.H11_1 (F := F) arg3 arg4 X3 X4) (Rect.unit (s := S1024x1024) ![512, 0] ![256, 1024] inb_S1024x1024_S256x1024_512_0).toLoadRect
    = rowBlk 2 (k0_pay6 (arg3.view.read (Elt F) X3) (arg4.view.read (Elt F) X4)) := by
  rw [first11_eq]
  exact (cov_rows arg11.view _ 2 rfl _).trans (rowBlk_full arg11.view _ 2 _)

theorem first_h3 : arg11.view.readCov (tripFirst.sl.H11_1 (F := F) arg3 arg4 X3 X4) (Rect.unit (s := S1024x1024) ![768, 0] ![256, 1024] inb_S1024x1024_S256x1024_768_0).toLoadRect
    = rowBlk 3 (k0_pay6 (arg3.view.read (Elt F) X3) (arg4.view.read (Elt F) X4)) := by
  rw [first11_eq]
  exact (cov_rows arg11.view _ 3 rfl _).trans (rowBlk_full arg11.view _ 3 _)

theorem first_a0 : arg12.view.readCov (tripFirst.sl.H12_1 (F := F) arg3 X3) (Rect.unit (s := S1024x1024) ![0, 0] ![256, 1024] inb_S1024x1024_S256x1024_0_0).toLoadRect
    = rowBlk 0 (k0_pay7 (arg3.view.read (Elt F) X3)) := by
  rw [first12_eq]
  refine (cov_rows arg12.view _ 0 rfl _).trans ?_
  exact rowBlk_full arg12.view _ 0 _

theorem first_a1 : arg12.view.readCov (tripFirst.sl.H12_2 (F := F) i arg3 arg4 arg5 arg6 arg7 arg8 arg11 arg12 arg13 X3 X4 X5 X6 X7 X8 f13) (Rect.unit (s := S1024x1024) ![256, 0] ![256, 1024] inb_S1024x1024_S256x1024_256_0).toLoadRect
    = rowBlk 1 (k0_pay7 (arg3.view.read (Elt F) X3)) := by
  unfold tripFirst.sl.H12_2
  rw [first12_eq]
  refine (cov_rows arg12.view _ 1 rfl _).trans ?_
  refine (rowBlk_skip arg12.view _ _ 1 0 (by decide) rfl _ _).trans ?_
  exact rowBlk_full arg12.view _ 1 _

theorem first_a2 : arg12.view.readCov (tripFirst.sl.H12_3 (F := F) i arg3 arg4 arg5 arg6 arg7 arg8 arg11 arg12 arg13 X3 X4 X5 X6 X7 X8 f13) (Rect.unit (s := S1024x1024) ![512, 0] ![256, 1024] inb_S1024x1024_S256x1024_512_0).toLoadRect
    = rowBlk 2 (k0_pay7 (arg3.view.read (Elt F) X3)) := by
  unfold tripFirst.sl.H12_3 tripFirst.sl.H12_2
  rw [first12_eq]
  refine (cov_rows arg12.view _ 2 rfl _).trans ?_
  refine (rowBlk_skip arg12.view _ _ 2 1 (by decide) rfl _ _).trans ?_
  refine (rowBlk_skip arg12.view _ _ 2 0 (by decide) rfl _ _).trans ?_
  exact rowBlk_full arg12.view _ 2 _

theorem first_a3 : arg12.view.readCov (tripFirst.sl.H12_4 (F := F) i arg3 arg4 arg5 arg6 arg7 arg8 arg11 arg12 arg13 X3 X4 X5 X6 X7 X8 f13) (Rect.unit (s := S1024x1024) ![768, 0] ![256, 1024] inb_S1024x1024_S256x1024_768_0).toLoadRect
    = rowBlk 3 (k0_pay7 (arg3.view.read (Elt F) X3)) := by
  unfold tripFirst.sl.H12_4 tripFirst.sl.H12_3 tripFirst.sl.H12_2
  rw [first12_eq]
  refine (cov_rows arg12.view _ 3 rfl _).trans ?_
  refine (rowBlk_skip arg12.view _ _ 3 2 (by decide) rfl _ _).trans ?_
  refine (rowBlk_skip arg12.view _ _ 3 1 (by decide) rfl _ _).trans ?_
  refine (rowBlk_skip arg12.view _ _ 3 0 (by decide) rfl _ _).trans ?_
  exact rowBlk_full arg12.view _ 3 _

theorem mid12 (h1 : ¬ isFirst i) (h2 : ¬ k0_cond2 i = 1#1) (f : arg12.view.ty.Contents (Elt F)) :
    arg12.view.read (Elt F) (arg12.view.writes (Elt F) f (tripMid c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.1)
      = accStep (BitVec.ofNat 32 (i 1).val) (slot (i 2) (arg13.view.read (Elt F) f13)) (arg11.view.read (Elt F) f11) (arg5.view.read (Elt F) X5) (arg6.view.read (Elt F) X6) (arg7.view.read (Elt F) X7) (arg8.view.read (Elt F) X8) (arg12.view.read (Elt F) f12) := by
  unfold tripMid
  dsimp only
  rw [readAt5, readAt5, readAt7, readAt8, readAt13]
  refine stack_read' arg12.view f _ _ _ _ _ _ ?_ ?_ ?_ ?_
  · exact blk0_eq _ _ _ _ _ _ _ _
  · exact blk1_eq _ _ _ _ _ _ _
  · exact blk2_eq _ _ _ _ _ _ _
  · exact blk3_eq _ _ _ _ _ _ _

theorem mid13 (h1 : ¬ isFirst i) (h2 : ¬ k0_cond2 i = 1#1) :
    (tripMid c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.2.val
      = [⟨Rect.unit (s := S11x8x256) (k0_off1 i) ![1, 8, 256] (k0_off1_inb i), k0_pay2 (lastRows (gate 3 (arg11.view.read (Elt F) f11) (arg5.view.read (Elt F) X5)))⟩] := by
  unfold tripMid
  dsimp only

  rw [readAt5]
  rfl

theorem mid10 (h1 : ¬ isFirst i) (h2 : ¬ k0_cond2 i = 1#1) (f10 : BufTy.Contents (Elt F) arg10.view.ty) :
    arg10.view.read (Elt F) (arg10.view.writes (Elt F) f10 (tripMid c i arg3 harg3 arg4 harg4 arg5 harg5 arg6 harg6 arg7 harg7 arg8 harg8 arg9 harg9 arg10 harg10 arg11 harg11 arg12 harg12 arg13 harg13 X3 X4 X5 X6 X7 X8 f11 f12 f13 h1 h2).1) = k0_pay3 (lastRows (gate 3 (arg11.view.read (Elt F) f11) (arg5.view.read (Elt F) X5))) := by
  unfold tripMid
  dsimp only

  rw [readAt5]
  exact View.read_writes_full arg10.view f10 inb_S1x1x8x256_S1x1x8x256_0_0_0_0 _ _

theorem first12 (h1 : isFirst i) (h2 : ¬ k0_cond2 i = 1#1) (f : arg12.view.ty.Contents (Elt F)) :
    arg12.view.read (Elt F) (arg12.view.writes (Elt F) f (tripFirst c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.2.1)
      = accStep (BitVec.ofNat 32 (i 1).val) (slot (i 2) (arg13.view.read (Elt F) f13)) (k0_pay6 (arg3.view.read (Elt F) X3) (arg4.view.read (Elt F) X4)) (arg5.view.read (Elt F) X5) (arg6.view.read (Elt F) X6) (arg7.view.read (Elt F) X7) (arg8.view.read (Elt F) X8) (k0_pay7 (arg3.view.read (Elt F) X3)) := by
  unfold tripFirst
  dsimp only
  unfold tripFirst.sl.H12_4 tripFirst.sl.H12_3 tripFirst.sl.H12_2
  dsimp only
  unfold tripFirst.sl.v3 tripFirst.sl.v7 tripFirst.sl.v11 tripFirst.sl.v15 tripFirst.sl.v88 tripFirst.sl.v141 tripFirst.sl.v194 tripFirst.sl.v247
  rw [readAt5, readAt5, readAt7, readAt8, readAt13, first_h0, first_h1, first_h2, first_h3, first_a0, first_a1, first_a2, first_a3]
  refine stack_read' arg12.view f _ _ _ _ _ _ ?_ ?_ ?_ ?_
  · exact blk0_eq _ _ _ _ _ _ _ _
  · exact blk1_eq _ _ _ _ _ _ _
  · exact blk2_eq _ _ _ _ _ _ _
  · exact blk3_eq _ _ _ _ _ _ _

theorem first13 (h1 : isFirst i) (h2 : ¬ k0_cond2 i = 1#1) :
    (tripFirst c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.2.2.val
      = [⟨Rect.unit (s := S11x8x256) (k0_off1 i) ![1, 8, 256] (k0_off1_inb i), k0_pay2 (lastRows (gate 3 (k0_pay6 (arg3.view.read (Elt F) X3) (arg4.view.read (Elt F) X4)) (arg5.view.read (Elt F) X5)))⟩] := by
  unfold tripFirst
  dsimp only
  unfold tripFirst.sl.v15
  rw [readAt5, first_h3]
  rfl

theorem first10 (h1 : isFirst i) (h2 : ¬ k0_cond2 i = 1#1) (f10 : BufTy.Contents (Elt F) arg10.view.ty) :
    arg10.view.read (Elt F) (arg10.view.writes (Elt F) f10 (tripFirst c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.1) = k0_pay3 (lastRows (gate 3 (k0_pay6 (arg3.view.read (Elt F) X3) (arg4.view.read (Elt F) X4)) (arg5.view.read (Elt F) X5))) := by
  unfold tripFirst
  dsimp only
  unfold tripFirst.sl.v15
  rw [readAt5, first_h3]
  exact View.read_writes_full arg10.view f10 inb_S1x1x8x256_S1x1x8x256_0_0_0_0 _ _

theorem first11 (h1 : isFirst i) (h2 : ¬ k0_cond2 i = 1#1) :
    arg11.view.read (Elt F) (arg11.view.writes (Elt F) f11 (tripFirst c i arg3 harg3 arg4 harg4 arg5 harg5 arg6 harg6 arg7 harg7 arg8 harg8 arg9 harg9 arg10 harg10 arg11 harg11 arg12 harg12 arg13 harg13 X3 X4 X5 X6 X7 X8 f11 f12 f13 h1 h2).1) = (k0_pay6 (arg3.view.read (Elt F) X3) (arg4.view.read (Elt F) X4)) := by
  unfold tripFirst
  dsimp only
  rw [first11_eq]
  exact View.read_writes_full arg11.view f11 inb_S1024x1024_S1024x1024_0_0 _ _

theorem last12 (h1 : ¬ isFirst i) (h2 : k0_cond2 i = 1#1) (f : arg12.view.ty.Contents (Elt F)) :
    arg12.view.read (Elt F) (arg12.view.writes (Elt F) f (tripLast c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.2.1)
      = accStep (BitVec.ofNat 32 (i 1).val) (slot (i 2) (arg13.view.read (Elt F) f13)) (arg11.view.read (Elt F) f11) (arg5.view.read (Elt F) X5) (arg6.view.read (Elt F) X6) (arg7.view.read (Elt F) X7) (arg8.view.read (Elt F) X8) (arg12.view.read (Elt F) f12) := by
  unfold tripLast
  dsimp only
  unfold tripLast.sl.H12_4
  dsimp only
  rw [readAt5, readAt5, readAt7, readAt8, readAt13]
  refine stack_read' arg12.view f _ _ _ _ _ _ ?_ ?_ ?_ ?_
  · exact blk0_eq _ _ _ _ _ _ _ _
  · exact blk1_eq _ _ _ _ _ _ _
  · exact blk2_eq _ _ _ _ _ _ _
  · exact blk3_eq _ _ _ _ _ _ _

theorem last13 (h1 : ¬ isFirst i) (h2 : k0_cond2 i = 1#1) :
    (tripLast c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.2.2.val
      = [⟨Rect.unit (s := S11x8x256) (k0_off1 i) ![1, 8, 256] (k0_off1_inb i), k0_pay2 (lastRows (gate 3 (arg11.view.read (Elt F) f11) (arg5.view.read (Elt F) X5)))⟩] := by
  unfold tripLast
  dsimp only

  rw [readAt5]
  rfl

theorem last10 (h1 : ¬ isFirst i) (h2 : k0_cond2 i = 1#1) (f10 : BufTy.Contents (Elt F) arg10.view.ty) :
    arg10.view.read (Elt F) (arg10.view.writes (Elt F) f10 (tripLast c i arg3 harg3 arg4 harg4 arg5 harg5 arg6 harg6 arg7 harg7 arg8 harg8 arg9 harg9 arg10 harg10 arg11 harg11 arg12 harg12 arg13 harg13 X3 X4 X5 X6 X7 X8 f11 f12 f13 h1 h2).2.1) = k0_pay3 (lastRows (gate 3 (arg11.view.read (Elt F) f11) (arg5.view.read (Elt F) X5))) := by
  unfold tripLast
  dsimp only

  rw [readAt5]
  exact View.read_writes_full arg10.view f10 inb_S1x1x8x256_S1x1x8x256_0_0_0_0 _ _

theorem last9 (h1 : ¬ isFirst i) (h2 : k0_cond2 i = 1#1) (f9 : BufTy.Contents (Elt F) arg9.view.ty) :
    arg9.view.read (Elt F) (arg9.view.writes (Elt F) f9 (tripLast c i arg3 harg3 arg4 harg4 arg5 harg5 arg6 harg6 arg7 harg7 arg8 harg8 arg9 harg9 arg10 harg10 arg11 harg11 arg12 harg12 arg13 harg13 X3 X4 X5 X6 X7 X8 f11 f12 f13 h1 h2).1) = k0_pay4 (accStep (BitVec.ofNat 32 (i 1).val) (slot (i 2) (arg13.view.read (Elt F) f13)) (arg11.view.read (Elt F) f11) (arg5.view.read (Elt F) X5) (arg6.view.read (Elt F) X6) (arg7.view.read (Elt F) X7) (arg8.view.read (Elt F) X8) (arg12.view.read (Elt F) f12)) := by
  rw [← last12 c i arg3 harg3 arg4 harg4 arg5 harg5 arg6 harg6 arg7 harg7 arg8 harg8 arg9 harg9 arg10 harg10 arg11 harg11 arg12 harg12 arg13 harg13 X3 X4 X5 X6 X7 X8 f11 f12 f13  h1 h2 arg12.view.junk]
  unfold tripLast
  dsimp only
  refine (View.read_writes_full arg9.view f9 inb_S1x1024x1024_S1x1024x1024_0_0_0 _ _).trans ?_
  unfold tripLast.sl.v266
  exact congrArg k0_pay4 (View.readAt_full arg12.view _ inb_S1024x1024_S1024x1024_0_0)

end Cert.Proof.Ffn

end
-- ==== Proof.FfnBody.lean ====
module

public import proofs.«01_k».proof.Proof.FfnStep

@[expose] public section

set_option maxRecDepth 16384

noncomputable section

/-! One run of the feed-forward kernel's body, at any grid point. -/

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem first_word : ∀ n : Fin 11, (Scalar.cmpi .ne (Scalar.extui (Scalar.cmpi .eq (BitVec.ofNat 32 n.val) 0#32) : BitVec 32) 0#32 = 1#1) ↔ n.val = 0 := by decide
theorem last_word : ∀ n : Fin 11, (Scalar.cmpi .ne (Scalar.extui (Scalar.cmpi .eq (BitVec.ofNat 32 n.val) 10#32) : BitVec 32) 0#32 = 1#1) ↔ n.val = 10 := by decide

/-- The body's two questions about its chunk, as numbers. -/
theorem isFirst_iff (i : grid0.Coords) : isFirst i ↔ (i 2).val = 0 := first_word (i 2)
theorem isLast_iff (i : grid0.Coords) : k0_cond2 i = 1#1 ↔ (i 2).val = 10 := last_word (i 2)

/-- The normed rows that a point works with. -/
def hOf (i : grid0.Coords) (x3 : Vec F S1x1024x1024 .f32) (x4 : Vec F S1x1024 .f32) (h : Vec F S1024x1024 .bf16) : Vec F S1024x1024 .bf16 :=
  if (i 2).val = 0 then k0_pay6 x3 x4 else h

/-- The accumulator that a point starts from. -/
def aOf (i : grid0.Coords) (x3 : Vec F S1x1024x1024 .f32) (a : Vec F S1024x1024 .f32) : Vec F S1024x1024 .f32 :=
  if (i 2).val = 0 then k0_pay7 x3 else a

/-- The accumulator after a point. -/
def aNext (i : grid0.Coords) (x3 : Vec F S1x1024x1024 .f32) (x4 : Vec F S1x1024 .f32) (x5 x6 : Vec F S1024x256 .bf16) (x7 : Vec F S8x256 .f32) (x8 : Vec F S256x1024 .bf16)
    (h : Vec F S1024x1024 .bf16) (a : Vec F S1024x1024 .f32) (f : Vec F S11x8x256 .f32) : Vec F S1024x1024 .f32 :=
  accStep (BitVec.ofNat 32 (i 1).val) (slot (i 2) f) (hOf i x3 x4 h) x5 x6 x7 x8 (aOf i x3 a)

/-- The last eight gate rows of a point. -/
def tOf (i : grid0.Coords) (x3 : Vec F S1x1024x1024 .f32) (x4 : Vec F S1x1024 .f32) (x5 : Vec F S1024x256 .bf16) (h : Vec F S1024x1024 .bf16) : FVec F S8x256 .f32 :=
  lastRows (gate 3 (hOf i x3 x4 h) x5)

variable (E : Set ℕ) (c : Dev nD) (i : grid0.Coords)
  (arg3 : Memref sig .tc .vmem S1x1024x1024 .f32) (harg3 : arg3.IsWhole) (arg4 : Memref sig .tc .vmem S1x1024 .f32) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S8x256 .f32) (harg7 : arg7.IsWhole) (arg8 : Memref sig .tc .vmem S256x1024 .bf16) (harg8 : arg8.IsWhole)
  (arg9 : Memref sig .tc .vmem S1x1024x1024 .f32) (harg9 : arg9.IsWhole) (arg10 : Memref sig .tc .vmem S1x1x8x256 .f32) (harg10 : arg10.IsWhole)
  (arg11 : Memref sig .tc .vmem S1024x1024 .bf16) (harg11 : arg11.IsWhole) (arg12 : Memref sig .tc .vmem S1024x1024 .f32) (harg12 : arg12.IsWhole)
  (arg13 : Memref sig .tc .vmem S11x8x256 .f32) (harg13 : arg13.IsWhole)
  (x3 : Vec F S1x1024x1024 .f32) (x4 : Vec F S1x1024 .f32) (x5 x6 : Vec F S1024x256 .bf16) (x7 : Vec F S8x256 .f32) (x8 : Vec F S256x1024 .bf16)
  (y : Vec F S1x1024x1024 .f32) (h : Vec F S1024x1024 .bf16) (a : Vec F S1024x1024 .f32) (f : Vec F S11x8x256 .f32)

/-- The six blocks a grid point reads, by their values. -/
abbrev insX : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8)

set_option maxHeartbeats 2000000 in
/-- The body at one grid point. -/
theorem point_run :
    iprop(insX (F := F) c arg3 arg4 arg5 arg6 arg7 arg8 x3 x4 x5 x6 x7 x8 ∗ (owns (c : Thread nD τ) arg9 fullShare y : sProp 𝕄) ∗ (∃ d, (owns (c : Thread nD τ) arg10 fullShare d : sProp 𝕄))
      ∗ (owns (c : Thread nD τ) arg11 fullShare h : sProp 𝕄) ∗ (owns (c : Thread nD τ) arg12 fullShare a : sProp 𝕄) ∗ (owns (c : Thread nD τ) arg13 fullShare f : sProp 𝕄))
      ⊢ wp frame (wpE (defs₀ (F := F)) Variants.none (c : Thread nD τ) none) E (cc0_ffn_prompt (F := F) i arg3 harg3 arg4 harg4 arg5 harg5 arg6 harg6 arg7 harg7 arg8 harg8 arg9 harg9 arg10 harg10 arg11 harg11 arg12 harg12 arg13 harg13)
          (fun _ => iprop(insX (F := F) c arg3 arg4 arg5 arg6 arg7 arg8 x3 x4 x5 x6 x7 x8
            ∗ owns (c : Thread nD τ) arg9 fullShare (if (i 2).val = 10 then k0_pay4 (aNext i x3 x4 x5 x6 x7 x8 h a f) else y)
            ∗ owns (c : Thread nD τ) arg10 fullShare (k0_pay3 (tOf i x3 x4 x5 h))
            ∗ owns (c : Thread nD τ) arg11 fullShare (hOf i x3 x4 h) ∗ owns (c : Thread nD τ) arg12 fullShare (aNext i x3 x4 x5 x6 x7 x8 h a f)
            ∗ (∃ f', owns (c : Thread nD τ) arg13 fullShare f' ∗ ⌜slot (i 2) f' = k0_pay2 (tOf i x3 x4 x5 h) ∧ ∀ n : Fin 11, n ≠ i 2 → slot n f' = slot n f⌝))) := by
  rw [cc0_ffn_prompt_eq_skeleton]
  unfold insX owns
  iintro ⟨⟨⟨%f3, %h3, H3⟩, ⟨%f4, %h4, H4⟩, ⟨%f5, %h5, H5⟩, ⟨%f6, %h6, H6⟩, ⟨%f7, %h7, H7⟩, ⟨%f8, %h8, H8⟩⟩, ⟨%f9, %h9, H9⟩, ⟨%d10, %f10, -, H10⟩, ⟨%f11, %h11, H11⟩, ⟨%f12, %h12, H12⟩, %f13, %h13, H13⟩
  subst h3 h4 h5 h6 h7 h8 h9 h11 h12 h13
  by_cases hf : isFirst i
  · have hl : ¬ k0_cond2 i = 1#1 := by rw [isLast_iff]; rw [isFirst_iff] at hf; omega
    have n0 : (i 2).val = 0 := (isFirst_iff i).1 hf
    have n10 : ¬ (i 2).val = 10 := fun e => hl ((isLast_iff i).2 e)
    unfold aNext tOf hOf aOf
    rw [if_pos n0, if_pos n0, if_neg n10]
    iapply (wp_wand_r Idealize.ShloMosaic.frame (wpE (defs₀ (F := F)) Variants.none (c : Thread nD τ) none) E)
    isplitl [H3 H4 H5 H6 H7 H8 H9 H10 H11 H12 H13]
    · iapply ((tripFirst c i arg3 harg3 arg4 harg4 arg5 harg5 arg6 harg6 arg7 harg7 arg8 harg8 arg9 harg9 arg10 harg10 arg11 harg11 arg12 harg12 arg13 harg13 f3 f4 f5 f6 f7 f8 f11 f12 f13 hf hl).2.2.2.property E f9 f10)
      isplitl [H3 H4 H5 H6 H7 H8]
      · isplitl [H3]; · iexact H3
        isplitl [H4]; · iexact H4
        isplitl [H5]; · iexact H5
        isplitl [H6]; · iexact H6
        isplitl [H7]; · iexact H7
        iexact H8
      isplitl [H9]; · iexact H9
      isplitl [H10]; · iexact H10
      isplitl [H11]; · iexact H11
      isplitl [H12]; · iexact H12
      iexact H13
    · iintro %u ⟨⟨H3, H4, H5, H6, H7, H8⟩, H9, H10, H11, H12, H13⟩
      isplitl [H3 H4 H5 H6 H7 H8]
      · isplitl [H3]
        · iexists _
          isplitr [H3]
          · ipureintro; exact rfl
          · iexact H3
        isplitl [H4]
        · iexists _
          isplitr [H4]
          · ipureintro; exact rfl
          · iexact H4
        isplitl [H5]
        · iexists _
          isplitr [H5]
          · ipureintro; exact rfl
          · iexact H5
        isplitl [H6]
        · iexists _
          isplitr [H6]
          · ipureintro; exact rfl
          · iexact H6
        isplitl [H7]
        · iexists _
          isplitr [H7]
          · ipureintro; exact rfl
          · iexact H7
        iexists _
        isplitr [H8]
        · ipureintro; exact rfl
        · iexact H8
      isplitl [H9]
      · iexists _
        isplitr [H9]
        · ipureintro; exact rfl
        · iexact H9
      isplitl [H10]
      · iexists _
        isplitr [H10]
        · ipureintro; exact first10 c i arg3 harg3 arg4 harg4 arg5 harg5 arg6 harg6 arg7 harg7 arg8 harg8 arg9 harg9 arg10 harg10 arg11 harg11 arg12 harg12 arg13 harg13 f3 f4 f5 f6 f7 f8 f11 f12 f13 hf hl f10
        · iexact H10
      isplitl [H11]
      · iexists _
        isplitr [H11]
        · ipureintro; exact first11 c i arg3 harg3 arg4 harg4 arg5 harg5 arg6 harg6 arg7 harg7 arg8 harg8 arg9 harg9 arg10 harg10 arg11 harg11 arg12 harg12 arg13 harg13 f3 f4 f5 f6 f7 f8 f11 f12 f13 hf hl
        · iexact H11
      isplitl [H12]
      · iexists _
        isplitr [H12]
        · ipureintro; exact first12 c i arg3 harg3 arg4 harg4 arg5 harg5 arg6 harg6 arg7 harg7 arg8 harg8 arg9 harg9 arg10 harg10 arg11 harg11 arg12 harg12 arg13 harg13 f3 f4 f5 f6 f7 f8 f11 f12 f13 hf hl f12
        · iexact H12
      iexists (arg13.view.read (Elt F) (arg13.view.writes (Elt F) f13 [⟨Rect.unit (k0_off1 i) ![1, 8, 256] (k0_off1_inb i), k0_pay2 (lastRows (gate 3 (k0_pay6 (arg3.view.read (Elt F) f3) (arg4.view.read (Elt F) f4)) (arg5.view.read (Elt F) f5)))⟩]))
      isplitl [H13]
      · iexists _
        isplitr [H13]
        · ipureintro; exact congrArg (fun L => arg13.view.read (Elt F) (arg13.view.writes (Elt F) f13 L)) (first13 c i arg3 harg3 arg4 harg4 arg5 harg5 arg6 harg6 arg7 harg7 arg8 harg8 arg9 harg9 arg10 harg10 arg11 harg11 arg12 harg12 arg13 harg13 f3 f4 f5 f6 f7 f8 f11 f12 f13 hf hl)
        · iexact H13
      · ipureintro
        exact ⟨slot_same i arg13.view f13 _, fun n hn => slot_other i arg13.view f13 _ n hn⟩
  · by_cases hl : k0_cond2 i = 1#1
    · have n0 : ¬ (i 2).val = 0 := fun e => hf ((isFirst_iff i).2 e)
      have n10 : (i 2).val = 10 := (isLast_iff i).1 hl
      unfold aNext tOf hOf aOf
      rw [if_neg n0, if_neg n0, if_pos n10]
      iapply (wp_wand_r Idealize.ShloMosaic.frame (wpE (defs₀ (F := F)) Variants.none (c : Thread nD τ) none) E)
      isplitl [H3 H4 H5 H6 H7 H8 H9 H10 H11 H12 H13]
      · iapply ((tripLast c i arg3 harg3 arg4 harg4 arg5 harg5 arg6 harg6 arg7 harg7 arg8 harg8 arg9 harg9 arg10 harg10 arg11 harg11 arg12 harg12 arg13 harg13 f3 f4 f5 f6 f7 f8 f11 f12 f13 hf hl).2.2.2.property E f9 f10)
        isplitl [H3 H4 H5 H6 H7 H8]
        · isplitl [H3]; · iexact H3
          isplitl [H4]; · iexact H4
          isplitl [H5]; · iexact H5
          isplitl [H6]; · iexact H6
          isplitl [H7]; · iexact H7
          iexact H8
        isplitl [H9]; · iexact H9
        isplitl [H10]; · iexact H10
        isplitl [H11]; · iexact H11
        isplitl [H12]; · iexact H12
        iexact H13
      · iintro %u ⟨⟨H3, H4, H5, H6, H7, H8⟩, H9, H10, H11, H12, H13⟩
        isplitl [H3 H4 H5 H6 H7 H8]
        · isplitl [H3]
          · iexists _
            isplitr [H3]
            · ipureintro; exact rfl
            · iexact H3
          isplitl [H4]
          · iexists _
            isplitr [H4]
            · ipureintro; exact rfl
            · iexact H4
          isplitl [H5]
          · iexists _
            isplitr [H5]
            · ipureintro; exact rfl
            · iexact H5
          isplitl [H6]
          · iexists _
            isplitr [H6]
            · ipureintro; exact rfl
            · iexact H6
          isplitl [H7]
          · iexists _
            isplitr [H7]
            · ipureintro; exact rfl
            · iexact H7
          iexists _
          isplitr [H8]
          · ipureintro; exact rfl
          · iexact H8
        isplitl [H9]
        · iexists _
          isplitr [H9]
          · ipureintro; exact last9 c i arg3 harg3 arg4 harg4 arg5 harg5 arg6 harg6 arg7 harg7 arg8 harg8 arg9 harg9 arg10 harg10 arg11 harg11 arg12 harg12 arg13 harg13 f3 f4 f5 f6 f7 f8 f11 f12 f13 hf hl f9
          · iexact H9
        isplitl [H10]
        · iexists _
          isplitr [H10]
          · ipureintro; exact last10 c i arg3 harg3 arg4 harg4 arg5 harg5 arg6 harg6 arg7 harg7 arg8 harg8 arg9 harg9 arg10 harg10 arg11 harg11 arg12 harg12 arg13 harg13 f3 f4 f5 f6 f7 f8 f11 f12 f13 hf hl f10
          · iexact H10
        isplitl [H11]
        · iexists _
          isplitr [H11]
          · ipureintro; exact rfl
          · iexact H11
        isplitl [H12]
        · iexists _
          isplitr [H12]
          · ipureintro; exact last12 c i arg3 harg3 arg4 harg4 arg5 harg5 arg6 harg6 arg7 harg7 arg8 harg8 arg9 harg9 arg10 harg10 arg11 harg11 arg12 harg12 arg13 harg13 f3 f4 f5 f6 f7 f8 f11 f12 f13 hf hl f12
          · iexact H12
        iexists (arg13.view.read (Elt F) (arg13.view.writes (Elt F) f13 [⟨Rect.unit (k0_off1 i) ![1, 8, 256] (k0_off1_inb i), k0_pay2 (lastRows (gate 3 (arg11.view.read (Elt F) f11) (arg5.view.read (Elt F) f5)))⟩]))
        isplitl [H13]
        · iexists _
          isplitr [H13]
          · ipureintro; exact congrArg (fun L => arg13.view.read (Elt F) (arg13.view.writes (Elt F) f13 L)) (last13 c i arg3 harg3 arg4 harg4 arg5 harg5 arg6 harg6 arg7 harg7 arg8 harg8 arg9 harg9 arg10 harg10 arg11 harg11 arg12 harg12 arg13 harg13 f3 f4 f5 f6 f7 f8 f11 f12 f13 hf hl)
          · iexact H13
        · ipureintro
          exact ⟨slot_same i arg13.view f13 _, fun n hn => slot_other i arg13.view f13 _ n hn⟩
    · have n0 : ¬ (i 2).val = 0 := fun e => hf ((isFirst_iff i).2 e)
      have n10 : ¬ (i 2).val = 10 := fun e => hl ((isLast_iff i).2 e)
      unfold aNext tOf hOf aOf
      rw [if_neg n0, if_neg n0, if_neg n10]
      iapply (wp_wand_r Idealize.ShloMosaic.frame (wpE (defs₀ (F := F)) Variants.none (c : Thread nD τ) none) E)
      isplitl [H3 H4 H5 H6 H7 H8 H9 H10 H11 H12 H13]
      · iapply ((tripMid c i arg3 harg3 arg4 harg4 arg5 harg5 arg6 harg6 arg7 harg7 arg8 harg8 arg9 harg9 arg10 harg10 arg11 harg11 arg12 harg12 arg13 harg13 f3 f4 f5 f6 f7 f8 f11 f12 f13 hf hl).2.2.property E f9 f10)
        isplitl [H3 H4 H5 H6 H7 H8]
        · isplitl [H3]; · iexact H3
          isplitl [H4]; · iexact H4
          isplitl [H5]; · iexact H5
          isplitl [H6]; · iexact H6
          isplitl [H7]; · iexact H7
          iexact H8
        isplitl [H9]; · iexact H9
        isplitl [H10]; · iexact H10
        isplitl [H11]; · iexact H11
        isplitl [H12]; · iexact H12
        iexact H13
      · iintro %u ⟨⟨H3, H4, H5, H6, H7, H8⟩, H9, H10, H11, H12, H13⟩
        isplitl [H3 H4 H5 H6 H7 H8]
        · isplitl [H3]
          · iexists _
            isplitr [H3]
            · ipureintro; exact rfl
            · iexact H3
          isplitl [H4]
          · iexists _
            isplitr [H4]
            · ipureintro; exact rfl
            · iexact H4
          isplitl [H5]
          · iexists _
            isplitr [H5]
            · ipureintro; exact rfl
            · iexact H5
          isplitl [H6]
          · iexists _
            isplitr [H6]
            · ipureintro; exact rfl
            · iexact H6
          isplitl [H7]
          · iexists _
            isplitr [H7]
            · ipureintro; exact rfl
            · iexact H7
          iexists _
          isplitr [H8]
          · ipureintro; exact rfl
          · iexact H8
        isplitl [H9]
        · iexists _
          isplitr [H9]
          · ipureintro; exact rfl
          · iexact H9
        isplitl [H10]
        · iexists _
          isplitr [H10]
          · ipureintro; exact mid10 c i arg3 harg3 arg4 harg4 arg5 harg5 arg6 harg6 arg7 harg7 arg8 harg8 arg9 harg9 arg10 harg10 arg11 harg11 arg12 harg12 arg13 harg13 f3 f4 f5 f6 f7 f8 f11 f12 f13 hf hl f10
          · iexact H10
        isplitl [H11]
        · iexists _
          isplitr [H11]
          · ipureintro; exact rfl
          · iexact H11
        isplitl [H12]
        · iexists _
          isplitr [H12]
          · ipureintro; exact mid12 c i arg3 harg3 arg4 harg4 arg5 harg5 arg6 harg6 arg7 harg7 arg8 harg8 arg9 harg9 arg10 harg10 arg11 harg11 arg12 harg12 arg13 harg13 f3 f4 f5 f6 f7 f8 f11 f12 f13 hf hl f12
          · iexact H12
        iexists (arg13.view.read (Elt F) (arg13.view.writes (Elt F) f13 [⟨Rect.unit (k0_off1 i) ![1, 8, 256] (k0_off1_inb i), k0_pay2 (lastRows (gate 3 (arg11.view.read (Elt F) f11) (arg5.view.read (Elt F) f5)))⟩]))
        isplitl [H13]
        · iexists _
          isplitr [H13]
          · ipureintro; exact congrArg (fun L => arg13.view.read (Elt F) (arg13.view.writes (Elt F) f13 L)) (mid13 c i arg3 harg3 arg4 harg4 arg5 harg5 arg6 harg6 arg7 harg7 arg8 harg8 arg9 harg9 arg10 harg10 arg11 harg11 arg12 harg12 arg13 harg13 f3 f4 f5 f6 f7 f8 f11 f12 f13 hf hl)
          · iexact H13
        · ipureintro
          exact ⟨slot_same i arg13.view f13 _, fun n hn => slot_other i arg13.view f13 _ n hn⟩

end Cert.Proof.Ffn

end
-- ==== Proof.FfnState.lean ====
module

public import proofs.«01_k».proof.Proof.Gen.Kernel2Ideal.Frame
public import proofs.«01_k».proof.Proof.FfnBody
public import Idealize.ShloMosaic.Lib.Pointwise

@[expose] public section

set_option maxRecDepth 16384

noncomputable section

/-! What the feed-forward kernel holds between grid points: the normed rows and the accumulator of the row tile,
    and per chunk the last gate rows of the tile, or of the tile above where the chunk has not been reached. -/

namespace Cert.Proof.Ffn

open Cert.Kernel2Ideal Cert.Kernel2Ideal.Gen
open Idealize.ShloMosaic Idealize.ShloMosaic.TcCoe Idealize.ShloMosaic.Tactic

variable {F : FTy → Type} [FloatOps F]

theorem word_val (x : ℕ) (h : x < 16) : (BitVec.ofNat 32 x).toNat = x := by
  rw [BitVec.toNat_ofNat]; omega

/-- A point's batch, row tile and chunk. -/
def bq (p : ℕ) : Fin 4 := ⟨p / 44 % 4, Nat.mod_lt _ (by decide)⟩
def iq (p : ℕ) : Fin 4 := ⟨p / 11 % 4, Nat.mod_lt _ (by decide)⟩
def nq (p : ℕ) : Fin 11 := ⟨p % 11, Nat.mod_lt _ (by decide)⟩

theorem N_eq : cfg0.N = 176 := by decide

theorem co0 (t : Fin cfg0.N) : grid0.coords t 0 = bq t.val := Fin.ext (by
  show t.val / grid0.stride 0 % 4 = t.val / 44 % 4
  rw [show grid0.stride 0 = 44 by decide])
theorem co1 (t : Fin cfg0.N) : grid0.coords t 1 = iq t.val := Fin.ext (by
  show t.val / grid0.stride 1 % 4 = t.val / 11 % 4
  rw [show grid0.stride 1 = 11 by decide])
theorem co2 (t : Fin cfg0.N) : grid0.coords t 2 = nq t.val := Fin.ext (by
  show t.val / grid0.stride 2 % 11 = t.val % 11
  rw [show grid0.stride 2 = 1 by decide, Nat.div_one])

/-- Row `y` of row tile `i`. -/
abbrev rowOf (i : Fin 4) (y : Fin 1024) : Fin 4096 := ⟨i.val * 1024 + y.val, by omega⟩
/-- Column `y` of chunk `n`. -/
abbrev colOf (n : Fin 11) (y : Fin 256) : Fin 2816 := ⟨n.val * 256 + y.val, by omega⟩
/-- Column `y` of chunk `n` among the gate's and the up projection's columns side by side. -/
abbrev gateCol (n : Fin 11) (y : Fin 256) : Fin 5632 := ⟨n.val * 256 + y.val, by omega⟩
abbrev upCol (n : Fin 11) (y : Fin 256) : Fin 5632 := ⟨(11 + n.val) * 256 + y.val, by omega⟩

section Blocks
variable (m : (ℓ : Loc nD τ sig) → Buf (Elt F) ℓ) (c : Dev nD)

/-- The blocks that the points read, by batch, row tile and chunk. -/
def xb (b i : Fin 4) : Vec F S1x1024x1024 .f32 := fun z => V m c main_arg0 (ix3 b (rowOf i (z 1)) (z 2 : Fin 1024))
def gb : Vec F S1x1024 .f32 := fun z => V m c main_v3 (ix2 (0 : Fin 1) (z 1 : Fin 1024))
def wgb (n : Fin 11) : Vec F S1024x256 .bf16 := fun z => V m c main_v4 (ix2 (z 0 : Fin 1024) (gateCol n (z 1)))
def wub (n : Fin 11) : Vec F S1024x256 .bf16 := fun z => V m c main_v4 (ix2 (z 0 : Fin 1024) (upCol n (z 1)))
def cwb (n : Fin 11) : Vec F S8x256 .f32 := fun z => V m c main_v2 (ix2 (z 0 : Fin 8) (colOf n (z 1)))
def wdb (n : Fin 11) : Vec F S256x1024 .bf16 := fun z => V m c main_v5 (ix2 (colOf n (z 0)) (z 1 : Fin 1024))

theorem blk0 (t : Fin cfg0.N) : iblk m c 0 t = xb m c (bq t) (iq t) := by
  rw [← co0, ← co1]
  funext z
  obtain ⟨z0, z1, z2, rfl⟩ : ∃ (z0 : Fin 1) (z1 z2 : Fin 1024), z = ix3 z0 z1 z2 := ⟨z 0, z 1, z 2, by funext a; fin_cases a <;> rfl⟩
  have hz : z0 = 0 := Subsingleton.elim _ _
  subst hz
  refine congrArg (V m c main_arg0) (funext fun a => Fin.ext ?_)
  have h0 : (grid0.coords t 0).val < 4 := (grid0.coords t 0).isLt
  have h1 : (grid0.coords t 1).val < 4 := (grid0.coords t 1).isLt
  fin_cases a
  · show (BitVec.ofNat 32 (grid0.coords t 0).val).toNat * 1 + 1 * 0 = _
    rw [word_val _ (by omega)]
    simp [ix3]
  · show (BitVec.ofNat 32 (grid0.coords t 1).val).toNat * 1024 + 1 * z1.val = _
    rw [word_val _ (by omega)]
    simp [ix3]
  · show 0 * 1024 + 1 * z2.val = _
    simp [ix3]

theorem blk1 (t : Fin cfg0.N) : iblk m c 1 t = gb m c := by
  funext z
  obtain ⟨z0, z1, rfl⟩ : ∃ (z0 : Fin 1) (z1 : Fin 1024), z = ix2 z0 z1 := ⟨z 0, z 1, by funext a; fin_cases a <;> rfl⟩
  have hz : z0 = 0 := Subsingleton.elim _ _
  subst hz
  refine congrArg (V m c main_v3) (funext fun a => Fin.ext ?_)
  fin_cases a
  · show 0 * 1 + 1 * 0 = _
    simp [ix2]
  · show 0 * 1024 + 1 * z1.val = _
    simp [ix2]

theorem blk2 (t : Fin cfg0.N) : iblk m c 2 t = wgb m c (nq t) := by
  rw [← co2]
  funext z
  obtain ⟨z0, z1, rfl⟩ : ∃ (z0 : Fin 1024) (z1 : Fin 256), z = ix2 z0 z1 := ⟨z 0, z 1, by funext a; fin_cases a <;> rfl⟩
  refine congrArg (V m c main_v4) (funext fun a => Fin.ext ?_)
  have h2 : (grid0.coords t 2).val < 11 := (grid0.coords t 2).isLt
  fin_cases a
  · show 0 * 1024 + 1 * z0.val = _
    simp [ix2]
  · show (BitVec.ofNat 32 (grid0.coords t 2).val).toNat * 256 + 1 * z1.val = _
    rw [word_val _ (by omega)]
    simp [ix2]

theorem up_word : ∀ n : Fin 11, (Scalar.addi 11#32 (BitVec.ofNat 32 n.val) : BitVec 32).toNat = 11 + n.val := by decide

theorem blk3 (t : Fin cfg0.N) : iblk m c 3 t = wub m c (nq t) := by
  rw [← co2]
  funext z
  obtain ⟨z0, z1, rfl⟩ : ∃ (z0 : Fin 1024) (z1 : Fin 256), z = ix2 z0 z1 := ⟨z 0, z 1, by funext a; fin_cases a <;> rfl⟩
  refine congrArg (V m c main_v4) (funext fun a => Fin.ext ?_)
  fin_cases a
  · show 0 * 1024 + 1 * z0.val = _
    simp [ix2]
  · show (Scalar.addi 11#32 (BitVec.ofNat 32 (grid0.coords t 2).val) : BitVec 32).toNat * 256 + 1 * z1.val = _
    rw [up_word (grid0.coords t 2)]
    simp [ix2]

theorem blk4 (t : Fin cfg0.N) : iblk m c 4 t = cwb m c (nq t) := by
  rw [← co2]
  funext z
  obtain ⟨z0, z1, rfl⟩ : ∃ (z0 : Fin 8) (z1 : Fin 256), z = ix2 z0 z1 := ⟨z 0, z 1, by funext a; fin_cases a <;> rfl⟩
  refine congrArg (V m c main_v2) (funext fun a => Fin.ext ?_)
  have h2 : (grid0.coords t 2).val < 11 := (grid0.coords t 2).isLt
  fin_cases a
  · show 0 * 8 + 1 * z0.val = _
    simp [ix2]
  · show (BitVec.ofNat 32 (grid0.coords t 2).val).toNat * 256 + 1 * z1.val = _
    rw [word_val _ (by omega)]
    simp [ix2]

theorem blk5 (t : Fin cfg0.N) : iblk m c 5 t = wdb m c (nq t) := by
  rw [← co2]
  funext z
  obtain ⟨z0, z1, rfl⟩ : ∃ (z0 : Fin 256) (z1 : Fin 1024), z = ix2 z0 z1 := ⟨z 0, z 1, by funext a; fin_cases a <;> rfl⟩
  refine congrArg (V m c main_v5) (funext fun a => Fin.ext ?_)
  have h2 : (grid0.coords t 2).val < 11 := (grid0.coords t 2).isLt
  fin_cases a
  · show (BitVec.ofNat 32 (grid0.coords t 2).val).toNat * 256 + 1 * z0.val = _
    rw [word_val _ (by omega)]
    simp [ix2]
  · show 0 * 1024 + 1 * z1.val = _
    simp [ix2]

/-- The normed rows of a row tile. -/
def hv (b i : Fin 4) : Vec F S1024x1024 .bf16 := k0_pay6 (xb m c b i) (gb m c)

/-- The last eight gate rows of a row tile, in one chunk's columns. -/
def lastT (b i : Fin 4) (n : Fin 11) : FVec F S8x256 .f32 := lastRows (gate 3 (hv m c b i) (wgb m c n))

/-- The gate rows carried over from the row tile above. -/
def hal (b i : Fin 4) (n : Fin 11) : FVec F S1x8x256 .f32 := k0_pay2 (lastT m c b (i - 1) n)

/-- The accumulator of a row tile after its first chunks. -/
def accAt (b i : Fin 4) : ℕ → Vec F S1024x1024 .f32
  | 0 => k0_pay7 (xb m c b i)
  | n + 1 => accStep (BitVec.ofNat 32 i.val) (hal m c b i (nq n)) (hv m c b i) (wgb m c (nq n)) (wub m c (nq n)) (cwb m c (nq n)) (wdb m c (nq n)) (accAt b i n)

/-- What the scratch holds before point `p`. -/
def Inv (p : ℕ) (h : Vec F S1024x1024 .bf16) (a : Vec F S1024x1024 .f32) (f : Vec F S11x8x256 .f32) : Prop :=
  (p % 11 ≠ 0 → h = hv m c (bq p) (iq p) ∧ a = accAt m c (bq p) (iq p) (p % 11))
    ∧ ∀ n : Fin 11, (n.val < p % 11 → slot n f = k0_pay2 (lastT m c (bq p) (iq p) n)) ∧ (p % 11 ≤ n.val → iq p ≠ 0 → slot n f = hal m c (bq p) (iq p) n)

theorem Inv_zero (h : Vec F S1024x1024 .bf16) (a : Vec F S1024x1024 .f32) (f : Vec F S11x8x256 .f32) : Inv m c 0 h a f :=
  ⟨fun e => absurd rfl e, fun n => ⟨fun e => absurd e (Nat.not_lt_zero _), fun _ e => absurd rfl e⟩⟩

/-- In a batch's first row tile the carried rows are not used. -/
theorem accStep_zero (hl hl' : Vec F S1x8x256 .f32) (h : Vec F S1024x1024 .bf16) (wg wu : Vec F S1024x256 .bf16) (cw : Vec F S8x256 .f32) (wd : Vec F S256x1024 .bf16) (a : Vec F S1024x1024 .f32) :
    accStep 0#32 hl h wg wu cw wd a = accStep 0#32 hl' h wg wu cw wd a := by
  have e : k0_pay17 (F := F) 0#32 hl = k0_pay17 0#32 hl' := rfl
  unfold accStep accBlk prevRows
  rw [e]

variable (t : Fin cfg0.N) (h : Vec F S1024x1024 .bf16) (a : Vec F S1024x1024 .f32) (f f' : Vec F S11x8x256 .f32) (hI : Inv m c t.val h a f)
include hI

theorem hOf_eq : hOf (grid0.coords t) (iblk m c 0 t) (iblk m c 1 t) h = hv m c (bq t) (iq t) := by
  unfold hOf
  rw [co2]
  split_ifs with e
  · rw [blk0, blk1]; rfl
  · exact (hI.1 e).1

theorem tOf_eq : tOf (grid0.coords t) (iblk m c 0 t) (iblk m c 1 t) (iblk m c 2 t) h = lastT m c (bq t) (iq t) (nq t) := by
  unfold tOf lastT
  rw [hOf_eq m c t h a f hI, blk2]

theorem nq_mod (p : ℕ) : nq (p % 11) = nq p := Fin.ext (Nat.mod_mod p 11)

theorem aNext_eq : aNext (grid0.coords t) (iblk m c 0 t) (iblk m c 1 t) (iblk m c 2 t) (iblk m c 3 t) (iblk m c 4 t) (iblk m c 5 t) h a f = accAt m c (bq t) (iq t) (t.val % 11 + 1) := by
  unfold aNext
  rw [hOf_eq m c t h a f hI, blk2, blk3, blk4, blk5]
  have e0 : aOf (grid0.coords t) (iblk m c 0 t) a = accAt m c (bq t) (iq t) (t.val % 11) := by
    unfold aOf
    rw [co2]
    split_ifs with e
    · have e' : t.val % 11 = 0 := e
      rw [e', blk0]; rfl
    · exact (hI.1 e).2
  rw [e0, co1, co2]
  show _ = accStep _ (hal m c (bq t) (iq t) (nq (t.val % 11))) _ _ _ _ _ _
  rw [show nq (t.val % 11) = nq t.val from Fin.ext (Nat.mod_mod t.val 11)]
  by_cases hz : iq t = 0
  · rw [show (BitVec.ofNat 32 (iq t.val).val) = 0#32 from by rw [hz]; rfl]
    exact accStep_zero _ _ _ _ _ _ _ _
  · rw [(hI.2 (nq t)).2 (le_refl _) hz]

theorem Inv_step (hs : slot (nq t) f' = k0_pay2 (lastT m c (bq t) (iq t) (nq t))) (ho : ∀ n : Fin 11, n ≠ nq t → slot n f' = slot n f) :
    Inv m c (t.val + 1) (hv m c (bq t) (iq t)) (accAt m c (bq t) (iq t) (t.val % 11 + 1)) f' := by
  have hnv : (nq t).val = t.val % 11 := rfl
  by_cases hl : t.val % 11 = 10
  · have hall : ∀ n : Fin 11, slot n f' = k0_pay2 (lastT m c (bq t) (iq t) n) := fun n => by
      by_cases hn : n = nq t
      · rw [hn]; exact hs
      · rw [ho n hn]
        exact (hI.2 n).1 (by have : n.val ≠ (nq t).val := fun e => hn (Fin.ext e); omega)
    refine ⟨fun e => absurd (by omega) e, fun n => ⟨fun e => absurd e (by omega), fun _ hz => ?_⟩⟩
    rw [hall n]
    have hz' : (t.val + 1) / 11 % 4 ≠ 0 := fun e => hz (Fin.ext e)
    have eb : bq (t.val + 1) = bq t := Fin.ext (by show (t.val + 1) / 44 % 4 = t.val / 44 % 4; omega)
    have ei : iq (t.val + 1) - 1 = iq t := by
      have e1 : iq (t.val + 1) = iq t + 1 := Fin.ext (by
        show (t.val + 1) / 11 % 4 = (t.val / 11 % 4 + 1) % 4; omega)
      rw [e1]; simp
    unfold hal
    rw [eb, ei]
  · have eb : bq (t.val + 1) = bq t := Fin.ext (by show (t.val + 1) / 44 % 4 = t.val / 44 % 4; omega)
    have ei : iq (t.val + 1) = iq t := Fin.ext (by show (t.val + 1) / 11 % 4 = t.val / 11 % 4; omega)
    have ep : (t.val + 1) % 11 = t.val % 11 + 1 := by omega
    unfold Inv
    rw [eb, ei, ep]
    refine ⟨fun _ => ⟨rfl, rfl⟩, fun n => ⟨fun e => ?_, fun e hz => ?_⟩⟩
    · by_cases hn : n = nq t
      · rw [hn]; exact hs
      · rw [ho n hn]
        exact (hI.2 n).1 (by have : n.val ≠ (nq t).val := fun e => hn (Fin.ext e); omega)
    · have hn : n ≠ nq t := fun e' => by rw [e'] at e; omega
      rw [ho n hn]
      exact (hI.2 n).2 (by omega) hz

end Blocks

end Cert.Proof.Ffn

end
-- ==== Proof.FfnRun.lean ====
module

public import proofs.«01_k».proof.Proof.FfnState
public import proofs.«01_k».proof.Proof.Gen.Kernel2Ideal.Launch
public import proofs.«01_k».proof.Proof.Gen.Kernel2Ideal.Points

@[expose] public section

set_option maxRecDepth 16384

noncomputable section

/-! The run of the feed-forward program: the grid's points one after the other. -/

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch before point `p`. -/
def held (c : Dev nD) (p : ℕ) : sProp 𝕄 :=
  iprop(∃ h a f, owns (c : Thread nD τ) (Memref.whole cc0_scratch0) fullShare h ∗ owns (c : Thread nD τ) (Memref.whole cc0_scratch1) fullShare a
    ∗ owns (c : Thread nD τ) (Memref.whole cc0_scratch2) fullShare f ∗ ⌜Inv m c p h a f⌝)

/-- The arrays as the region finds them; each input's buffer at its block, the results' at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (accAt m c (bq t) (iq t) 11)
    | ⟨7, _⟩ => k0_pay3 (lastT m c (bq t) (iq t) (nq t))
  Φ p := iprop(held m c p.val ∗ ∃ r, prngReg c r)
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (accAt m c (bq t) (iq t) 11) := by dsimp only [dats]
theorem after0_7 (c : Dev nD) (t : Fin cfg0.N) : (dats m 0 c).after 7 t = k0_pay3 (lastT m c (bq t) (iq t) (nq t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem idle_last (t : Fin cfg0.N) (h : t.val % 11 = 10) : cfg0.idle 6 (cfg0.grid.coords t) = false := by
  show (!(k0_cond2 (grid0.coords t) == 1#1)) = false
  rw [(isLast_iff (grid0.coords t)).2 (by rw [co2]; exact h)]
  rfl

theorem idle_other (t : Fin cfg0.N) (h : t.val % 11 ≠ 10) : cfg0.idle 6 (cfg0.grid.coords t) = true := by
  show (!(k0_cond2 (grid0.coords t) == 1#1)) = true
  have e : ¬ k0_cond2 (grid0.coords t) = 1#1 := fun e => h (by have := (isLast_iff (grid0.coords t)).1 e; rw [co2] at this; exact this)
  simp [e]

theorem flush_other (t : Fin cfg0.N) (h : t.val % 11 ≠ 10) : (cfg0.win 6).flush t = false := by
  cases e : (cfg0.win 6).flush t
  · rfl
  · exact absurd ((flush0_6 t).1 e) h

/-- How the body leaves the result block's buffer. -/
def left6 (c : Dev nD) (t : Fin cfg0.N) : sProp 𝕄 :=
  match cfg0.idle 6 (cfg0.grid.coords t) with
  | true =>
    match (cfg0.win 6).flush t with
    | false => iprop(∃ d, owns (c : Thread nD τ) ((cfg0.win 6).stage (cfg0.slots t 6)) fullShare ((dats m 0 c).before 6 t d))
    | true => owns (c : Thread nD τ) ((cfg0.win 6).stage (cfg0.slots t 6)) fullShare ((dats m 0 c).after 6 t)
  | false => owns (c : Thread nD τ) ((cfg0.win 6).stage (cfg0.slots t 6)) fullShare ((dats m 0 c).after 6 t)

/-- The result block's buffer after a point: written at the last chunk, left alone before it. -/
theorem leaves6 (c : Dev nD) (t : Fin cfg0.N) (d) :
    (owns (c : Thread nD τ) (st0_6 t) fullShare (if (grid0.coords t 2).val = 10 then k0_pay4 (accAt m c (bq t) (iq t) (t.val % 11 + 1)) else (dats m 0 c).before 6 t d) : sProp 𝕄)
      ⊢ left6 m c t := by
  unfold left6
  rw [co2]
  by_cases h : t.val % 11 = 10
  · rw [idle_last t h, if_pos (show (nq t).val = 10 from h), h, after0_6]
  · rw [idle_other t h, flush_other t h, if_neg (show ¬ (nq t).val = 10 from h)]
    iintro H
    iexists d
    iexact H

/-- The body at one point of the grid. -/
theorem body_at (c : Dev nD) (t : Fin cfg0.N) :
    iprop((dats m 0 c).Φ t.castSucc ∗ (dats m 0 c).owesAt () t.castSucc
      ∗ (∃ d, (owns (c : Thread nD τ) (st0_0 t) fullShare ((dats m 0 c).before 0 t d) : sProp 𝕄)) ∗ (∃ d, (owns (c : Thread nD τ) (st0_1 t) fullShare ((dats m 0 c).before 1 t d) : sProp 𝕄))
      ∗ (∃ d, (owns (c : Thread nD τ) (st0_2 t) fullShare ((dats m 0 c).before 2 t d) : sProp 𝕄)) ∗ (∃ d, (owns (c : Thread nD τ) (st0_3 t) fullShare ((dats m 0 c).before 3 t d) : sProp 𝕄))
      ∗ (∃ d, (owns (c : Thread nD τ) (st0_4 t) fullShare ((dats m 0 c).before 4 t d) : sProp 𝕄)) ∗ (∃ d, (owns (c : Thread nD τ) (st0_5 t) fullShare ((dats m 0 c).before 5 t d) : sProp 𝕄))
      ∗ (∃ d, (owns (c : Thread nD τ) (st0_6 t) fullShare ((dats m 0 c).before 6 t d) : sProp 𝕄)) ∗ (∃ d, (owns (c : Thread nD τ) (st0_7 t) fullShare ((dats m 0 c).before 7 t d) : sProp 𝕄)))
    ⊢ wp frame (wpE (defs₀ (F := F)) Variants.none (c : Thread nD τ) none) Set.univ (bodyAt0 (F := F) t) (fun _ =>
      iprop((dats m 0 c).Φ t.succ ∗ (dats m 0 c).owesAt () t.succ
        ∗ owns (c : Thread nD τ) (st0_0 t) fullShare ((dats m 0 c).after 0 t) ∗ owns (c : Thread nD τ) (st0_1 t) fullShare ((dats m 0 c).after 1 t)
        ∗ owns (c : Thread nD τ) (st0_2 t) fullShare ((dats m 0 c).after 2 t) ∗ owns (c : Thread nD τ) (st0_3 t) fullShare ((dats m 0 c).after 3 t)
        ∗ owns (c : Thread nD τ) (st0_4 t) fullShare ((dats m 0 c).after 4 t) ∗ owns (c : Thread nD τ) (st0_5 t) fullShare ((dats m 0 c).after 5 t)
        ∗ left6 m c t ∗ owns (c : Thread nD τ) (st0_7 t) fullShare ((dats m 0 c).after 7 t))) := by
  simp only [before0_0, before0_1, before0_2, before0_3, before0_4, before0_5]
  rw [show (dats m 0 c).owesAt () t.succ = (dats m 0 c).owesAt () t.castSucc from rfl, after0_0, after0_1, after0_2, after0_3, after0_4, after0_5, after0_7,
    show (dats m 0 c).Φ t.castSucc = iprop(held m c t.val ∗ ∃ r, prngReg c r) from rfl,
    show (dats m 0 c).Φ t.succ = iprop(held m c (t.val + 1) ∗ ∃ r, prngReg c r) from rfl]
  unfold held
  iintro ⟨⟨⟨%h, %a, %f, H11, H12, H13, %hI⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r Idealize.ShloMosaic.frame (wpE (defs₀ (F := F)) Variants.none (c : Thread nD τ) none) Set.univ)
  isplitl [H11 H12 H13 H0 H1 H2 H3 H4 H5 H6 H7]
  · iapply (point_run (F := F) Set.univ c (grid0.coords t) _ _ _ _ _ _ _ _ _ _ _ _ _ _ _ _ _ _ _ _ _ _ (iblk m c 0 t) (iblk m c 1 t) (iblk m c 2 t) (iblk m c 3 t) (iblk m c 4 t) (iblk m c 5 t)
      ((dats m 0 c).before 6 t d6) h a f)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]
    · iexists _; iexact H7
    isplitl [H11]; · iexact H11
    isplitl [H12]; · iexact H12
    iexact H13
  · rw [aNext_eq m c t h a f hI, tOf_eq m c t h a f hI, hOf_eq m c t h a f hI]
    iintro %u ⟨⟨H0, H1, H2, H3, H4, H5⟩, H6, H7, H11, H12, %f', H13, %hf⟩
    isplitl [H11 H12 H13 Hρ]
    · isplitl [H11 H12 H13]
      · iexists _, _, f'
        isplitl [H11]; · iexact H11
        isplitl [H12]; · iexact H12
        isplitl [H13]; · iexact H13
        ipureintro
        rw [co2] at hf
        exact Inv_step m c t h a f f' hI hf.1 hf.2
      · iexact Hρ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves6 m c t d6)
      iexact H6
    iexact H7

/-- The body at every point. -/
theorem body_obligation (c : Dev nD) : BodyObligation (dats (F := F) m 0 c) (defs₀ (F := F)) Variants.none () Set.univ := fun t => by
  rw [bigSep_W0, bigSep_W0]
  exact body_at m c t

theorem held_in (c : Dev nD) : Pipeline.ΦA spec0 c ⊢ (dats m 0 c).Φ 0 := by
  rw [show (dats m 0 c).Φ 0 = iprop(held m c 0 ∗ ∃ r, prngReg c r) from rfl]
  unfold Pipeline.ΦA held
  rw [scopedRest0_eq]
  simp only [← owns_whole]
  iintro ⟨⟨⟨%h, H1⟩, ⟨%a, H2⟩, %f, H3⟩, Hρ⟩
  isplitr [Hρ]
  · iexists h, a, f
    isplitl [H1]; · iexact H1
    isplitl [H2]; · iexact H2
    isplitl [H3]; · iexact H3
    ipureintro
    exact Inv_zero m c h a f
  · iexact Hρ

theorem held_out (c : Dev nD) : (dats m 0 c).Φ (Fin.last cfg0.N) ⊢ Pipeline.ΦA spec0 c := by
  rw [show (dats m 0 c).Φ (Fin.last cfg0.N) = iprop(held m c cfg0.N ∗ ∃ r, prngReg c r) from rfl]
  unfold Pipeline.ΦA held
  rw [scopedRest0_eq]
  simp only [← owns_whole]
  iintro ⟨⟨%h, %a, %f, H1, H2, H3, -⟩, Hρ⟩
  isplitr [Hρ]
  · isplitl [H1]
    · iexists _; iexact H1
    isplitl [H2]
    · iexists _; iexact H2
    iexists _; iexact H3
  · iexact Hρ

-- the launch theorem's implicit arguments are found by unfolding plain definitions in a type
set_option backward.isDefEq.respectTransparency.types false in
/-- Every weakly fair run of @main ends, with each array at what the pipeline's data and the host part after it give, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hmain := hmain m Variants.none) (hA := A_eq m)
    (hin := held_in m) (hout := held_out m)

end Cert.Proof.Ffn

end
-- ==== Proof.FfnFrames.lean ====
module

public import proofs.«01_k».proof.Defs
public import proofs.«01_k».proof.Proof.Gen.Kernel2
public import proofs.«01_k».proof.Proof.Gen.Reference2Ideal.Run
public import proofs.«01_k».proof.Proof.FfnRun

@[expose] public section

set_option maxRecDepth 16384

noncomputable section

/-! The frame claims of the feed-forward call: the kernel's two, both read off the one run of `FfnRun.lean`, and the reference's. -/

namespace Cert.Proof.Ffn

open Cert.Kernel2Ideal Cert.Kernel2Ideal.Gen
open Idealize.ShloMosaic Idealize.ShloMosaic.TcCoe
open Idealize.SL.Sem

variable {F : FTy → Type} [FloatOps F]

/-- The kernel runs, gives the arguments back unchanged and leaves every semaphore counter at zero. -/
theorem frame_ideal : Cert.quiescent_Kernel2Ideal := fun m ρ _ =>
  θ_run_with_sems (frame_of m ρ (dats m) (A_eq m)) (run_main m ρ)

/-! The two programs have one text: their parts are equal one by one. -/

set_option maxHeartbeats 4000000 in
theorem main_eq : @Cert.Kernel2.main F _ Cert.Kernel2.Gen.facts = @Cert.Kernel2Ideal.main F _ Cert.Kernel2Ideal.Gen.facts := rfl

set_option maxHeartbeats 4000000 in
theorem body_eq : @Cert.Kernel2.cc0_ffn_prompt F _ Cert.Kernel2.Gen.facts = @Cert.Kernel2Ideal.cc0_ffn_prompt F _ Cert.Kernel2Ideal.Gen.facts := rfl

/-- The label tables of the two programs' launches are one table. -/
theorem defs0_eq : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg _ ?_
  funext l a
  match l, a with
  | 0, (t, s) =>
    show @Cert.Kernel2.cc0_ffn_prompt F _ Cert.Kernel2.Gen.facts _ _ _ _ _ _ _ _ _ _ _ _ _ _ _ _ _ _ _ _ _ _ _ = _
    rw [body_eq]
    rfl

/-- The two programs' label tables are one table. -/
theorem defs_eq : @Cert.Kernel2.defs F _ Cert.Kernel2.Gen.facts = @Cert.Kernel2Ideal.defs F _ Cert.Kernel2Ideal.Gen.facts := by
  unfold Cert.Kernel2.defs
  rw [defs0_eq]
  rfl

/-- The same frame, from the same run at the machine's floats: the two programs have one text. -/
theorem frame_kernel : Cert.quiescent_Kernel2 := fun m ρ _ => by
  rw [main_eq, defs_eq]
  exact θ_run_with_sems (frame_of (F := Bits) m ρ (dats m) (A_eq m)) (run_main (F := Bits) m ρ)

/-- The reference runs, gives the arguments back unchanged, and declares no semaphore. -/
theorem frame_ref : Cert.quiescent_Reference2Ideal := fun m ρ _ =>
  (θ_run (Cert.Reference2Ideal.defs (F := Ideal)) _ _).mono
    (fun r h => ⟨fun c => (h c).2.2, Idealize.ShloMosaic.sem_eq_zero_of_no_sems (by decide) r.2⟩)
    (Cert.Reference2Ideal.Value.run (F := Ideal) m ρ)

end Cert.Proof.Ffn

end
-- ==== Proof.FfnSpec.lean ====
module

public import Idealize.ShloMosaic.Lib.Pointwise

@[expose] public section

set_option maxRecDepth 16384

noncomputable section

/-! The gated feed-forward layer in formulas: what the two programs are shown to compute. -/

namespace Cert.Proof.Ffn

open Idealize.ShloMosaic Idealize.ShloMosaic.TcCoe

/-- Arrays of extended reals. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

/-- A row over the root of its mean square, times the gain. -/
def nrm (x g : Fin 1024 → EReal) (d : Fin 1024) : EReal :=
  x d * Ideal.rsqrt (Ideal.div (∑ e, x e * x e) (Ideal.ofBits .f32 0x44800000#32) + Ideal.ofBits .f32 0x358637BD#32) * g d

/-- The gate's unit, `c` over one plus the exponential of minus `c`. -/
def slu (c : EReal) : EReal := c * Ideal.div 1 (1 + Ideal.exp (-c))

/-- A column among the gate's, and one among the up projection's. -/
abbrev gcol (n : Fin 2816) : Fin 5632 := ⟨n.val, by omega⟩
abbrev ucol (n : Fin 2816) : Fin 5632 := ⟨2816 + n.val, by omega⟩
/-- A row, counted from two rows above the first. -/
abbrev back (r : ℕ) (h : r < 4098) : Fin 4096 := ⟨r - 2, by omega⟩

variable (x : Arr3 4 4096 1024) (g : Arr1 1024) (wu : Arr2 1024 5632) (cw : Arr2 3 2816) (cb : Arr1 2816) (wd : Arr2 2816 1024)

/-- A row normed. -/
def hn (b : Fin 4) (r : Fin 4096) (d : Fin 1024) : EReal := nrm (fun e => x (ix3 b r e)) (fun e => g (ix1 e)) d

/-- The gate projection and the up projection. -/
def gt (b : Fin 4) (r : Fin 4096) (n : Fin 2816) : EReal := ∑ d : Fin 1024, hn x g b r d * wu (ix2 d (gcol n))
def up (b : Fin 4) (r : Fin 4096) (n : Fin 2816) : EReal := ∑ d : Fin 1024, hn x g b r d * wu (ix2 d (ucol n))

/-- The gate projection with two rows of zeros above it. -/
def gx (b : Fin 4) (r : ℕ) (n : Fin 2816) : EReal := if h : 2 ≤ r ∧ r < 4098 then gt x g wu b (back r h.2) n else 0

/-- The causal convolution of the gate rows, three wide. -/
def cv (b : Fin 4) (r : Fin 4096) (n : Fin 2816) : EReal :=
  cb (ix1 n) + cw (ix2 0 n) * gx x g wu b r.val n + cw (ix2 1 n) * gx x g wu b (1 + r.val) n + cw (ix2 2 n) * gx x g wu b (2 + r.val) n

/-- The hidden rows. -/
def act (b : Fin 4) (r : Fin 4096) (n : Fin 2816) : EReal := slu (cv x g wu cw cb b r n) * up x g wu b r n

/-- The layer's rows with the residual added. -/
def res : Arr3 4 4096 1024 := fun z => x (ix3 (z 0 : Fin 4) (z 1 : Fin 4096) (z 2 : Fin 1024)) + ∑ n : Fin 2816, act x g wu cw cb (z 0) (z 1) n * wd (ix2 n (z 2 : Fin 1024))

/-- The last two gate rows, kept for the next call. -/
def kept : Arr3 4 2 2816 := fun z => gx x g wu (z 0) (4096 + (z 1 : Fin 2).val) (z 2 : Fin 2816)

end Cert.Proof.Ffn

end
-- ==== Proof.FfnHost.lean ====
module

public import proofs.«01_k».proof.Proof.FfnRun
public import proofs.«01_k».proof.Proof.FfnSpec
public import Idealize.ShloMosaic.Lib.StableHlo.Run

@[expose] public section

set_option maxRecDepth 16384

noncomputable section

/-! The arrays that the feed-forward call finds, and what the host code after it makes of its second result. -/

namespace Cert.Proof.Ffn

open Cert.Kernel2Ideal Cert.Kernel2Ideal.Gen
open Idealize.ShloMosaic Idealize.ShloMosaic.TcCoe Idealize.ShloMosaic.StableHlo

/-- The convolution's weights and its bias, one above the other. -/
def hTaps (cw : Vec Ideal S3x2816 .f32) (cb : Vec Ideal S2816 .f32) : FVec Ideal S8x2816 .f32 :=
  concatenate S8x2816 0 [⟨S3x2816, cw⟩, ⟨S1x2816, broadcastInDim S1x2816 ![1] bcast_S2816_S1x2816_1 cb⟩,
    ⟨S4x2816, broadcastInDim S4x2816 ![] bcast_S_S4x2816 (constant S_ .f32 0x00000000#32)⟩] concatenates_S3x2816_S1x2816_S4x2816_S8x2816_d0

theorem hTaps0 (cw : Vec Ideal S3x2816 .f32) (cb : Vec Ideal S2816 .f32) (n : Fin 2816) : (hTaps cw cb (ix2 0 n) : EReal) = cw (ix2 0 n) := by
  pointwise [hTaps]
theorem hTaps1 (cw : Vec Ideal S3x2816 .f32) (cb : Vec Ideal S2816 .f32) (n : Fin 2816) : (hTaps cw cb (ix2 1 n) : EReal) = cw (ix2 1 n) := by
  pointwise [hTaps]
theorem hTaps2 (cw : Vec Ideal S3x2816 .f32) (cb : Vec Ideal S2816 .f32) (n : Fin 2816) : (hTaps cw cb (ix2 2 n) : EReal) = cw (ix2 2 n) := by
  pointwise [hTaps]
theorem hTaps3 (cw : Vec Ideal S3x2816 .f32) (cb : Vec Ideal S2816 .f32) (n : Fin 2816) : (hTaps cw cb (ix2 3 n) : EReal) = cb (ix1 n) := by
  pointwise [hTaps]

/-- The gain with a unit axis before it. -/
theorem gain_read (x : Vec Ideal S1024 .f32) (d : Fin 1024) : (shapeCast S1x1024 x shapeCasts_S1024_S1x1024 (ix2 0 d) : EReal) = x (ix1 d) := by pointwise

/-- What the host code keeps of the row tiles' last gate rows. -/
def hKept (s : Vec Ideal S16x11x8x256 .f32) : Vec Ideal S4x2x2816 .f32 :=
  shapeCast S4x2x2816 (transpose S4x2x11x256 [0, 2, 1, 3] (extractStridedSlice S4x11x2x256 ![0, 0, 6, 0]
    (shapeCast S4x11x8x256 (extractStridedSlice S4x1x11x8x256 ![0, 3, 0, 0, 0] (shapeCast S4x4x11x8x256 s shapeCasts_S16x11x8x256_S4x4x11x8x256)
      slices_S4x4x11x8x256_S4x1x11x8x256_0_3_0_0_0) shapeCasts_S4x1x11x8x256_S4x11x8x256) slices_S4x11x8x256_S4x11x2x256_0_0_6_0)
      transposes_S4x11x2x256_S4x2x11x256_0_2_1_3) shapeCasts_S4x2x11x256_S4x2x2816

abbrev tileOf (b : Fin 4) : Fin 16 := ⟨b.val * 4 + 3, by omega⟩
abbrev chunkOf (n : Fin 2816) : Fin 11 := ⟨n.val / 256, by omega⟩
abbrev inChunk (n : Fin 2816) : Fin 256 := ⟨n.val % 256, by omega⟩
abbrev six (j : Fin 2) : Fin 8 := ⟨6 + j.val, by omega⟩

theorem hKept_read (s : Vec Ideal S16x11x8x256 .f32) (b : Fin 4) (j : Fin 2) (n : Fin 2816) :
    (hKept s (ix3 b j n) : EReal) = s (ix4 (tileOf b) (chunkOf n) (six j) (inChunk n)) := by
  pointwise [hKept]

section Arrays

variable (m : (ℓ : Loc nD τ sig) → Buf (Elt Ideal) ℓ)

theorem V_v2 (c : Dev nD) : V m c main_v2 = hTaps (m ((c : Thread nD τ).loc main_arg3)) (m ((c : Thread nD τ).loc main_arg4)) := by
  show StableHlo.after (List.flatten [hostOps0]) (fun b => m (c, b)) (Proc.devRef .tc main_v2) = _
  simp only [hostOps0, List.flatten_cons, List.flatten_nil, List.append_nil, List.cons_append, List.nil_append, TRef.ternary, TRef.unary, TRef.toBuf, TRef.ofBuf, cast_eq]
  after_results_simp
  all_goals rfl

theorem V_v3 (c : Dev nD) : V m c main_v3 = shapeCast S1x1024 (m ((c : Thread nD τ).loc main_arg1) : Vec Ideal S1024 .f32) shapeCasts_S1024_S1x1024 := by
  show StableHlo.after (List.flatten [hostOps0]) (fun b => m (c, b)) (Proc.devRef .tc main_v3) = _
  simp only [hostOps0, List.flatten_cons, List.flatten_nil, List.append_nil, List.cons_append, List.nil_append, TRef.ternary, TRef.unary, TRef.toBuf, TRef.ofBuf, cast_eq]
  after_results_simp
  all_goals rfl

theorem V_v4 (c : Dev nD) : V m c main_v4 = (m ((c : Thread nD τ).loc main_arg2) : Arr2 1024 5632) := by
  show StableHlo.after (List.flatten [hostOps0]) (fun b => m (c, b)) (Proc.devRef .tc main_v4) = _
  simp only [hostOps0, List.flatten_cons, List.flatten_nil, List.append_nil, List.cons_append, List.nil_append, TRef.ternary, TRef.unary, TRef.toBuf, TRef.ofBuf, cast_eq]
  after_results_simp
  all_goals rfl

theorem V_v5 (c : Dev nD) : V m c main_v5 = (m ((c : Thread nD τ).loc main_arg5) : Arr2 2816 1024) := by
  show StableHlo.after (List.flatten [hostOps0]) (fun b => m (c, b)) (Proc.devRef .tc main_v5) = _
  simp only [hostOps0, List.flatten_cons, List.flatten_nil, List.append_nil, List.cons_append, List.nil_append, TRef.ternary, TRef.unary, TRef.toBuf, TRef.ofBuf, cast_eq]
  after_results_simp
  all_goals rfl

/-- The call's second array, among the arrays after it. -/
theorem v6_1_of (c : Dev nD) : Pipeline.withArrays (cfgs 0).spec c (V0 m c) (fun w => (dats m 0 c).arrAt w (cfgs 0).N) (Proc.devRef .tc main_v6_1) = (dats m 0 c).arrAt 7 cfg0.N :=
  Pipeline.withArrays_arr_shared _ c _ _ ((dats m 0 c).arrAt_sharedIn (by decide) (V0 m c) (A_eq m c) _) 7

/-- The second result, from the call's second array. -/
theorem W_v12 (c : Dev nD) : Pipeline.afterTail₀ cfgs (dats m) 0 (V0 m) [hostOps1] c main_v12 = hKept ((dats m 0 c).arrAt 7 cfg0.N) := by
  unfold Pipeline.afterTail₀
  simp only [hostOps1, List.flatten_cons, List.flatten_nil, List.append_nil, List.cons_append, List.nil_append, TRef.ternary, TRef.unary, TRef.toBuf, TRef.ofBuf, cast_eq]
  after_results_simp
  rw [v6_1_of m c]
  rfl

end Arrays

end Cert.Proof.Ffn

end
-- ==== Proof.FfnRead.lean ====
module

public import proofs.«01_k».proof.Proof.FfnStep
public import proofs.«01_k».proof.Proof.FfnSpec

@[expose] public section

set_option maxRecDepth 16384

noncomputable section

/-! The kernel's pieces over the extended reals, element by element. -/

namespace Cert.Proof.Ffn

open Cert.Kernel2Ideal Cert.Kernel2Ideal.Gen
open Idealize.ShloMosaic Idealize.ShloMosaic.TcCoe

/-- A choice by a row number compared to a word. -/
theorem sel_row (r : Fin 256) (k : ℕ) (hk : k < 256) (a b : EReal) :
    Scalar.select (IntOp.cmpi .eq (BitVec.ofNat 32 r.val) (BitVec.ofNat 32 k)) a b = if r.val = k then a else b := by
  have e : IntOp.cmpi .eq (BitVec.ofNat 32 r.val) (BitVec.ofNat 32 k) = if r.val = k then 1#1 else 0#1 := by
    by_cases h : r.val = k
    · rw [if_pos h, h]
      simp [IntOp.cmpi]
    · rw [if_neg h]
      have : ¬ (BitVec.ofNat 32 r.val = BitVec.ofNat 32 k) := fun e => h (by
        have := congrArg BitVec.toNat e
        rw [BitVec.toNat_ofNat, BitVec.toNat_ofNat] at this
        omega)
      show BitVec.ofBool (BitVec.ofNat 32 r.val == BitVec.ofNat 32 k) = 0#1
      rw [beq_false_of_ne this]
      rfl
  rw [e]
  by_cases h : r.val = k
  · rw [if_pos h, if_pos h]
    rfl
  · rw [if_neg h, if_neg h]
    rfl

theorem pay6_read (x : Vec Ideal S1x1024x1024 .f32) (g : Vec Ideal S1x1024 .f32) (r d : Fin 1024) :
    (k0_pay6 (F := Ideal) x g (ix2 r d) : EReal) = nrm (fun e => x (ix3 0 r e)) (fun e => g (ix2 0 e)) d := by
  unfold nrm
  pointwise [k0_pay6, k0_pay5]

theorem pay7_read (x : Vec Ideal S1x1024x1024 .f32) (r d : Fin 1024) : (k0_pay7 (F := Ideal) x (ix2 r d) : EReal) = x (ix3 0 r d) := by
  pointwise [k0_pay7, k0_pay5]

theorem pay8_read (a : Vec Ideal S256x1024 .bf16) (w : Vec Ideal S1024x256 .bf16) (r n : Fin 256) :
    (k0_pay8 (F := Ideal) a w (ix2 r n) : EReal) = ∑ d : Fin 1024, (a (ix2 r d) : EReal) * (w (ix2 d n) : EReal) := by
  pointwise [k0_pay8]

theorem lastRows_read (g : FVec Ideal S256x256 .f32) (j : Fin 8) (n : Fin 256) :
    (lastRows g (ix2 j n) : EReal) = g (ix2 (⟨248 + j.val, by omega⟩ : Fin 256) n) := by
  pointwise [lastRows, k0_pay36]

theorem pay1_read (a : Vec Ideal S256x1024 .f32) (h : FVec Ideal S256x256 .bf16) (w : Vec Ideal S256x1024 .bf16) (r : Fin 256) (d : Fin 1024) :
    (k0_pay1 (F := Ideal) a h w (ix2 r d) : EReal) = (a (ix2 r d) : EReal) + ∑ n : Fin 256, (h (ix2 r n) : EReal) * (w (ix2 n d) : EReal) := by
  pointwise [k0_pay1]

theorem pay2_read (t : FVec Ideal S8x256 .f32) (j : Fin 8) (n : Fin 256) : (k0_pay2 (F := Ideal) t (ix3 0 j n) : EReal) = t (ix2 j n) := by
  pointwise [k0_pay2]

theorem pay3_read (t : FVec Ideal S8x256 .f32) (j : Fin 8) (n : Fin 256) : (k0_pay3 (F := Ideal) t (ix4 0 0 j n) : EReal) = t (ix2 j n) := by
  pointwise [k0_pay3]

theorem pay4_read (a : Vec Ideal S1024x1024 .f32) (r d : Fin 1024) : (k0_pay4 (F := Ideal) a (ix3 0 r d) : EReal) = a (ix2 r d) := by
  pointwise [k0_pay4]

theorem pay16_read (w : Vec Ideal S8x256 .f32) (j : Fin 8) (n : Fin 256) : (k0_pay16 (F := Ideal) w (ix2 j n) : EReal) = w (ix2 j n) := by
  pointwise [k0_pay16]

theorem pay17_read (a1 : BitVec 32) (h : Vec Ideal S1x8x256 .f32) (j : Fin 8) (n : Fin 256) :
    (k0_pay17 (F := Ideal) a1 h (ix2 j n) : EReal) = if a1 = 0#32 then 0 else h (ix3 0 j n) := by
  pointwise [k0_pay17]
  by_cases e : a1 = 0#32
  · rw [if_pos e]
    subst e
    rfl
  · rw [if_neg e]
    have z : Scalar.cmpi .eq a1 0#32 = 0#1 := by
      show BitVec.ofBool (a1 == 0#32) = 0#1
      rw [beq_false_of_ne e]
      rfl
    rw [z]
    rfl

theorem pay37_read (g u : FVec Ideal S256x256 .f32) (w prev : FVec Ideal S8x256 .f32) (r n : Fin 256) :
    (k0_pay37 (F := Ideal) g u w (iota .tc S256x256 32 [0] iota_S256x256_d0_w32) prev (ix2 r n) : EReal)
      = slu ((w (ix2 3 n) : EReal)
          + (w (ix2 0 n) : EReal) * (if r.val = 0 then (prev (ix2 6 n) : EReal) else if r.val = 1 then (prev (ix2 7 n) : EReal) else (g (ix2 (⟨(r.val + 256 - 2) % 256, Nat.mod_lt _ (by decide)⟩ : Fin 256) n) : EReal))
          + (w (ix2 1 n) : EReal) * (if r.val = 0 then (prev (ix2 7 n) : EReal) else (g (ix2 (⟨(r.val + 256 - 1) % 256, Nat.mod_lt _ (by decide)⟩ : Fin 256) n) : EReal))
          + (w (ix2 2 n) : EReal) * (g (ix2 r n) : EReal)) * (u (ix2 r n) : EReal) := by
  unfold slu
  pointwise [k0_pay37]
  have s0 := fun a b => sel_row r 0 (by decide) a b
  have s1 := fun a b => sel_row r 1 (by decide) a b
  simp only [s0, s1, zero_sub]

end Cert.Proof.Ffn

end
-- ==== Proof.FfnVal.lean ====
module

public import proofs.«01_k».proof.Proof.FfnHost
public import proofs.«01_k».proof.Proof.FfnRead

@[expose] public section

set_option maxRecDepth 16384

noncomputable section

/-! A row tile's accumulator over the extended reals: the layer's rows. -/

namespace Cert.Proof.Ffn

open Cert.Kernel2Ideal Cert.Kernel2Ideal.Gen
open Idealize.ShloMosaic Idealize.ShloMosaic.TcCoe Idealize.ShloMosaic.StableHlo

/-- Row `r` of block `k` in a row tile, and in the array. -/
abbrev tileRow (k : Fin 4) (r : Fin 256) : Fin 1024 := ⟨256 * k.val + r.val, by omega⟩
abbrev rowK (i k : Fin 4) (r : Fin 256) : Fin 4096 := rowOf i (tileRow k r)
/-- A row's block in its row tile, and its place there. -/
abbrev blkOf (y : Fin 1024) : Fin 4 := ⟨y.val / 256, by omega⟩
abbrev inBlk (y : Fin 1024) : Fin 256 := ⟨y.val % 256, by omega⟩
abbrev low (j : Fin 2) : Fin 256 := ⟨248 + (6 + j.val), by omega⟩

theorem rowBlk_read {α : Type} (k : Fin 4) (x : S1024x1024.Idx → α) (r : Fin 256) (d : Fin 1024) : rowBlk k x (ix2 r d) = x (ix2 (tileRow k r) d) := by
  refine congrArg x (funext fun a => Fin.ext ?_)
  fin_cases a
  · show 256 * k.val + 1 * r.val = 256 * k.val + r.val
    omega
  · show 0 + 1 * d.val = d.val
    omega

theorem stack_at {α : Type} (w : Fin 4 → S256x1024.Idx → α) (y d : Fin 1024) : stack w (ix2 y d) = w (blkOf y) (ix2 (inBlk y) d) := by
  refine congrArg (w (blkOf y)) (funext fun a => ?_)
  fin_cases a <;> rfl

theorem word_zero : ∀ i : Fin 4, (BitVec.ofNat 32 i.val = 0#32) ↔ i = 0 := by decide

section Rows

variable (x : Arr3 4 4096 1024) (g : Arr1 1024) (wu : Arr2 1024 5632) (b : Fin 4)

/-- The padded gate rows, two below. -/
theorem gx_of (R : ℕ) (r : Fin 4096) (h : R = r.val + 2) (n : Fin 2816) : gx x g wu b R n = gt x g wu b r n := by
  have hr := r.isLt
  subst h
  unfold gx
  rw [dif_pos ⟨by omega, by omega⟩]
  exact congrArg (fun q => gt x g wu b q n) (Fin.ext (by show r.val + 2 - 2 = r.val; omega))

theorem gx_lt (R : ℕ) (h : R < 2) (n : Fin 2816) : gx x g wu b R n = 0 := by
  unfold gx
  rw [dif_neg (by omega)]

end Rows

section Values

variable (m : (ℓ : Loc nD τ sig) → Buf (Elt Ideal) ℓ) (c : Dev nD)

/-- The arguments of the launch. -/
abbrev fx : Arr3 4 4096 1024 := m ((c : Thread nD τ).loc main_arg0)
abbrev fg : Arr1 1024 := m ((c : Thread nD τ).loc main_arg1)
abbrev fwu : Arr2 1024 5632 := m ((c : Thread nD τ).loc main_arg2)
abbrev fcw : Arr2 3 2816 := m ((c : Thread nD τ).loc main_arg3)
abbrev fcb : Arr1 2816 := m ((c : Thread nD τ).loc main_arg4)
abbrev fwd : Arr2 2816 1024 := m ((c : Thread nD τ).loc main_arg5)

variable (b i : Fin 4)

theorem xb_at (y e : Fin 1024) : (xb m c b i (ix3 0 y e) : EReal) = fx m c (ix3 b (rowOf i y) e) := congrFun (V_main_arg0 m c) _

theorem gb_at (e : Fin 1024) : (gb m c (ix2 0 e) : EReal) = fg m c (ix1 e) := (congrFun (V_v3 m c) _).trans (gain_read (fg m c) e)

/-- The normed rows of a row tile. -/
theorem hv_at (y d : Fin 1024) : (hv m c b i (ix2 y d) : EReal) = hn (fx m c) (fg m c) b (rowOf i y) d := by
  refine (pay6_read (xb m c b i) (gb m c) y d).trans ?_
  unfold hn
  refine congrArg₂ (fun p q => nrm p q d) (funext fun e => xb_at m c b i y e) (funext fun e => gb_at m c e)

/-- The gate rows. -/
theorem gate_at (k : Fin 4) (n : Fin 11) (r y : Fin 256) : (gate k (hv m c b i) (wgb m c n) (ix2 r y) : EReal) = gt (fx m c) (fg m c) (fwu m c) b (rowK i k r) (colOf n y) := by
  refine (pay8_read (rowBlk k (hv m c b i)) (wgb m c n) r y).trans (Finset.sum_congr rfl fun d _ => ?_)
  have e1 : (rowBlk k (hv m c b i) (ix2 r d) : EReal) = hn (fx m c) (fg m c) b (rowK i k r) d := (rowBlk_read k _ r d).trans (hv_at m c b i _ d)
  have e2 : (wgb m c n (ix2 d y) : EReal) = fwu m c (ix2 d (gcol (colOf n y))) := congrFun (V_v4 m c) _
  exact congrArg₂ (fun p q : EReal => p * q) e1 e2

/-- The up projection's rows. -/
theorem up_at (k : Fin 4) (n : Fin 11) (r y : Fin 256) : (gate k (hv m c b i) (wub m c n) (ix2 r y) : EReal) = up (fx m c) (fg m c) (fwu m c) b (rowK i k r) (colOf n y) := by
  refine (pay8_read (rowBlk k (hv m c b i)) (wub m c n) r y).trans (Finset.sum_congr rfl fun d _ => ?_)
  have e1 : (rowBlk k (hv m c b i) (ix2 r d) : EReal) = hn (fx m c) (fg m c) b (rowK i k r) d := (rowBlk_read k _ r d).trans (hv_at m c b i _ d)
  have e3 : upCol n y = ucol (colOf n y) := Fin.ext (by show (11 + n.val) * 256 + y.val = 2816 + (n.val * 256 + y.val); omega)
  have e2 : (wub m c n (ix2 d y) : EReal) = fwu m c (ix2 d (ucol (colOf n y))) := (congrFun (V_v4 m c) _).trans (congrArg (fun q => fwu m c (ix2 d q)) e3)
  exact congrArg₂ (fun p q : EReal => p * q) e1 e2

/-- The last gate rows of a block of rows. -/
theorem last_at (k : Fin 4) (n : Fin 11) (j : Fin 2) (y : Fin 256) :
    (lastRows (gate k (hv m c b i) (wgb m c n)) (ix2 (six j) y) : EReal) = gt (fx m c) (fg m c) (fwu m c) b (rowK i k (low j)) (colOf n y) :=
  (lastRows_read _ (six j) y).trans (gate_at m c b i k n (low j) y)

/-- The two gate rows above a block of rows. -/
theorem prev_at (k : Fin 4) (n : Fin 11) (j : Fin 2) (y : Fin 256) :
    (prevRows (BitVec.ofNat 32 i.val) (hal m c b i n) (hv m c b i) (wgb m c n) k (ix2 (six j) y) : EReal)
      = gx (fx m c) (fg m c) (fwu m c) b (i.val * 1024 + (256 * k.val + j.val)) (colOf n y) := by
  have hj := j.isLt
  by_cases hk : k = 0
  · subst hk
    refine (congrFun (if_pos rfl : prevRows (BitVec.ofNat 32 i.val) (hal m c b i n) (hv m c b i) (wgb m c n) 0 = _) _).trans ?_
    refine (pay17_read _ _ (six j) y).trans ?_
    by_cases hi : i = 0
    · subst hi
      rw [if_pos ((word_zero 0).2 rfl)]
      exact (gx_lt _ _ _ b _ (by show 0 * 1024 + (256 * 0 + j.val) < 2; omega) _).symm
    · rw [if_neg (fun e => hi ((word_zero i).1 e))]
      refine (pay2_read (lastT m c b (i - 1) n) (six j) y).trans ((last_at m c b (i - 1) 3 n j y).trans (gx_of _ _ _ b _ _ ?_ _).symm)
      have : (i - 1).val + 1 = i.val := by revert hi; revert i; decide
      show i.val * 1024 + (256 * 0 + j.val) = (i - 1).val * 1024 + (256 * 3 + (248 + (6 + j.val))) + 2
      omega
  · refine (congrFun (if_neg hk : prevRows (BitVec.ofNat 32 i.val) (hal m c b i n) (hv m c b i) (wgb m c n) k = _) _).trans ?_
    refine (last_at m c b i (k - 1) n j y).trans (gx_of _ _ _ b _ _ ?_ _).symm
    have : (k - 1).val + 1 = k.val := by revert hk; revert k; decide
    show i.val * 1024 + (256 * k.val + j.val) = i.val * 1024 + (256 * (k - 1).val + (248 + (6 + j.val))) + 2
    omega

/-- The taps of a chunk. -/
theorem tap0 (n : Fin 11) (y : Fin 256) : (k0_pay16 (cwb m c n) (ix2 0 y) : EReal) = fcw m c (ix2 0 (colOf n y)) :=
  (pay16_read _ 0 y).trans ((congrFun (V_v2 m c) _).trans (hTaps0 (fcw m c) (fcb m c) _))
theorem tap1 (n : Fin 11) (y : Fin 256) : (k0_pay16 (cwb m c n) (ix2 1 y) : EReal) = fcw m c (ix2 1 (colOf n y)) :=
  (pay16_read _ 1 y).trans ((congrFun (V_v2 m c) _).trans (hTaps1 (fcw m c) (fcb m c) _))
theorem tap2 (n : Fin 11) (y : Fin 256) : (k0_pay16 (cwb m c n) (ix2 2 y) : EReal) = fcw m c (ix2 2 (colOf n y)) :=
  (pay16_read _ 2 y).trans ((congrFun (V_v2 m c) _).trans (hTaps2 (fcw m c) (fcb m c) _))
theorem tap3 (n : Fin 11) (y : Fin 256) : (k0_pay16 (cwb m c n) (ix2 3 y) : EReal) = fcb m c (ix1 (colOf n y)) :=
  (pay16_read _ 3 y).trans ((congrFun (V_v2 m c) _).trans (hTaps3 (fcw m c) (fcb m c) _))

/-- The hidden rows of a block of rows, in one chunk's columns. -/
theorem act_at (k : Fin 4) (n : Fin 11) (r y : Fin 256) :
    (k0_pay37 (F := Ideal) (gate k (hv m c b i) (wgb m c n)) (gate k (hv m c b i) (wub m c n)) (k0_pay16 (cwb m c n)) (iota .tc S256x256 32 [0] iota_S256x256_d0_w32)
        (prevRows (BitVec.ofNat 32 i.val) (hal m c b i n) (hv m c b i) (wgb m c n) k) (ix2 r y) : EReal)
      = act (fx m c) (fg m c) (fwu m c) (fcw m c) (fcb m c) b (rowK i k r) (colOf n y) := by
  have hr := r.isLt
  refine (pay37_read _ _ _ _ r y).trans ?_
  unfold act cv
  refine congrArg₂ (fun p q : EReal => slu p * q) ?_ (up_at m c b i k n r y)
  refine congrArg₂ (fun p q : EReal => p + q) (congrArg₂ (fun p q : EReal => p + q) (congrArg₂ (fun p q : EReal => p + q) (tap3 m c n y)
    (congrArg₂ (fun p q : EReal => p * q) (tap0 m c n y) ?_)) (congrArg₂ (fun p q : EReal => p * q) (tap1 m c n y) ?_))
    (congrArg₂ (fun p q : EReal => p * q) (tap2 m c n y) ?_)
  · by_cases h0 : r.val = 0
    · rw [if_pos h0]
      refine (prev_at m c b i k n 0 y).trans (congrArg (fun q => gx (fx m c) (fg m c) (fwu m c) b q (colOf n y)) ?_)
      show i.val * 1024 + (256 * k.val + 0) = i.val * 1024 + (256 * k.val + r.val)
      omega
    · rw [if_neg h0]
      by_cases h1 : r.val = 1
      · rw [if_pos h1]
        refine (prev_at m c b i k n 1 y).trans (congrArg (fun q => gx (fx m c) (fg m c) (fwu m c) b q (colOf n y)) ?_)
        show i.val * 1024 + (256 * k.val + 1) = i.val * 1024 + (256 * k.val + r.val)
        omega
      · rw [if_neg h1]
        refine (gate_at m c b i k n _ y).trans (gx_of _ _ _ b _ _ ?_ _).symm
        show i.val * 1024 + (256 * k.val + r.val) = i.val * 1024 + (256 * k.val + (r.val + 256 - 2) % 256) + 2
        omega
  · by_cases h0 : r.val = 0
    · rw [if_pos h0]
      refine (prev_at m c b i k n 1 y).trans (congrArg (fun q => gx (fx m c) (fg m c) (fwu m c) b q (colOf n y)) ?_)
      show i.val * 1024 + (256 * k.val + 1) = 1 + (i.val * 1024 + (256 * k.val + r.val))
      omega
    · rw [if_neg h0]
      refine (gate_at m c b i k n _ y).trans (gx_of _ _ _ b _ _ ?_ _).symm
      show 1 + (i.val * 1024 + (256 * k.val + r.val)) = i.val * 1024 + (256 * k.val + (r.val + 256 - 1) % 256) + 2
      omega
  · refine (gate_at m c b i k n r y).trans (gx_of _ _ _ b _ _ ?_ _).symm
    show 2 + (i.val * 1024 + (256 * k.val + r.val)) = i.val * 1024 + (256 * k.val + r.val) + 2
    omega

/-- One hidden column's share of a result. -/
def share (R : Fin 4096) (d : Fin 1024) (n : Fin 2816) : EReal := act (fx m c) (fg m c) (fwu m c) (fcw m c) (fcb m c) b R n * fwd m c (ix2 n d)

/-- The accumulator after one more chunk. -/
theorem step_at (n : Fin 11) (a : Vec Ideal S1024x1024 .f32) (y d : Fin 1024) :
    (accStep (BitVec.ofNat 32 i.val) (hal m c b i n) (hv m c b i) (wgb m c n) (wub m c n) (cwb m c n) (wdb m c n) a (ix2 y d) : EReal)
      = (a (ix2 y d) : EReal) + ∑ z : Fin 256, share m c b (rowOf i y) d (colOf n z) := by
  refine (stack_at _ y d).trans ((pay1_read _ _ _ (inBlk y) d).trans ?_)
  have e : tileRow (blkOf y) (inBlk y) = y := Fin.ext (by show 256 * (y.val / 256) + y.val % 256 = y.val; omega)
  refine congrArg₂ (fun p q : EReal => p + q) ((rowBlk_read _ a _ d).trans (congrArg (fun q => a (ix2 q d)) e)) (Finset.sum_congr rfl fun z _ => ?_)
  unfold share
  refine congrArg₂ (fun p q : EReal => p * q) ((act_at m c b i (blkOf y) n (inBlk y) z).trans ?_) (congrFun (V_v5 m c) _)
  exact congrArg (fun q => act (fx m c) (fg m c) (fwu m c) (fcw m c) (fcb m c) b (rowOf i q) (colOf n z)) e

/-- The accumulator after the first chunks. -/
theorem acc_at (N : ℕ) (y d : Fin 1024) :
    (accAt m c b i N (ix2 y d) : EReal) = fx m c (ix3 b (rowOf i y) d) + ∑ n ∈ Finset.range N, ∑ z : Fin 256, share m c b (rowOf i y) d (colOf (nq n) z) := by
  induction N with
  | zero =>
    rw [Finset.range_zero, Finset.sum_empty, add_zero]
    exact (pay7_read _ y d).trans (xb_at m c b i y d)
  | succ n ih =>
    rw [Finset.sum_range_succ, ← add_assoc]
    refine (step_at m c b i (nq n) (accAt m c b i n) y d).trans ?_
    exact congrArg (fun q : EReal => q + ∑ z : Fin 256, share m c b (rowOf i y) d (colOf (nq n) z)) ih

/-- A sum over all the hidden columns, chunk by chunk. -/
theorem sum_cols (f : Fin 2816 → EReal) : ∑ n ∈ Finset.range 11, ∑ z : Fin 256, f (colOf (nq n) z) = ∑ j, f j := by
  rw [Finset.sum_range, ← Fintype.sum_prod_type' (f := fun (n : Fin 11) (z : Fin 256) => f (colOf (nq n.val) z))]
  refine Fintype.sum_equiv (finProdFinEquiv (m := 11) (n := 256)) _ _ fun q => congrArg f (Fin.ext ?_)
  show q.1.val % 11 * 256 + q.2.val = q.2.val + 256 * q.1.val
  have := q.1.isLt
  omega

/-- A row tile's accumulator after all the chunks: the layer's rows. -/
theorem acc_end (y d : Fin 1024) :
    (accAt m c b i 11 (ix2 y d) : EReal) = res (fx m c) (fg m c) (fwu m c) (fcw m c) (fcb m c) (fwd m c) (ix3 b (rowOf i y) d) :=
  (acc_at m c b i 11 y d).trans (congrArg (fun q : EReal => fx m c (ix3 b (rowOf i y) d) + q) (sum_cols (share m c b (rowOf i y) d)))

end Values

end Cert.Proof.Ffn

end
-- ==== Proof.FfnOut.lean ====
module

public import proofs.«01_k».proof.Proof.FfnVal
public import Idealize.ShloMosaic.Lib.Pipeline.Covers

@[expose] public section

set_option maxRecDepth 16384

noncomputable section

/-! The two arrays that the feed-forward call leaves: the layer's rows, and the last gate rows of every row tile. -/

namespace Cert.Proof.Ffn

open Cert.Kernel2Ideal Cert.Kernel2Ideal.Gen
open Idealize.ShloMosaic Idealize.ShloMosaic.TcCoe Idealize.ShloMosaic.StableHlo

theorem tile_word : ∀ b i : Fin 4, (Scalar.addi (Scalar.muli (BitVec.ofNat 32 b.val) 4#32) (BitVec.ofNat 32 i.val) : BitVec 32).toNat = b.val * 4 + i.val := by decide

abbrev tileAt (b i : Fin 4) : Fin 16 := ⟨b.val * 4 + i.val, by omega⟩
abbrev batchOf (q : Fin 16) : Fin 4 := ⟨q.val / 4, by omega⟩
abbrev tileIn (q : Fin 16) : Fin 4 := ⟨q.val % 4, by omega⟩
abbrev endRow (j : Fin 8) : Fin 256 := ⟨248 + j.val, by omega⟩

/-- The last eight gate rows of every row tile. -/
def tails (x : Arr3 4 4096 1024) (g : Arr1 1024) (wu : Arr2 1024 5632) : (⟨4, ![16, 11, 8, 256]⟩ : Shape).Idx → EReal := fun z =>
  gt x g wu (batchOf (z 0)) (rowK (tileIn (z 0)) 3 (endRow (z 2))) (colOf (z 1) (z 3))

/-- What the host code keeps of them are the last two gate rows of every batch. -/
theorem kept_tails (x : Arr3 4 4096 1024) (g : Arr1 1024) (wu : Arr2 1024 5632) : hKept (tails x g wu) = kept x g wu := by
  funext z
  obtain ⟨b, j, n, rfl⟩ : ∃ (b : Fin 4) (j : Fin 2) (n : Fin 2816), z = ix3 b j n := ⟨z 0, z 1, z 2, by funext a; fin_cases a <;> rfl⟩
  refine (hKept_read _ b j n).trans ?_
  have e1 : batchOf (tileOf b) = b := Fin.ext (by show (b.val * 4 + 3) / 4 = b.val; omega)
  have e2 : colOf (chunkOf n) (inChunk n) = n := Fin.ext (by show n.val / 256 * 256 + n.val % 256 = n.val; omega)
  show gt x g wu (batchOf (tileOf b)) (rowK (tileIn (tileOf b)) 3 (endRow (six j))) (colOf (chunkOf n) (inChunk n)) = gx x g wu b (4096 + j.val) n
  rw [e1, e2]
  refine (gx_of x g wu b _ _ ?_ n).symm
  show 4096 + j.val = (b.val * 4 + 3) % 4 * 1024 + (256 * 3 + (248 + (6 + j.val))) + 2
  omega

variable (m : (ℓ : Loc nD τ sig) → Buf (Elt Ideal) ℓ) (c : Dev nD)

/-- Where a grid point's block of rows lies. -/
theorem emb6 (t : Fin cfg0.N) (y d : Fin 1024) : ((cfg0.win 6).blk t).view.emb (ix3 0 y d) = ix3 (bq t.val) (rowOf (iq t.val) y) d := by
  rw [← co0, ← co1]
  refine funext fun a => Fin.ext ?_
  have h0 : (grid0.coords t 0).val < 4 := (grid0.coords t 0).isLt
  have h1 : (grid0.coords t 1).val < 4 := (grid0.coords t 1).isLt
  fin_cases a
  · show (BitVec.ofNat 32 (grid0.coords t 0).val).toNat * 1 + 1 * 0 = _
    rw [word_val _ (by omega)]
    simp [ix3]
  · show (BitVec.ofNat 32 (grid0.coords t 1).val).toNat * 1024 + 1 * y.val = _
    rw [word_val _ (by omega)]
    simp [ix3]
  · show 0 * 1024 + 1 * d.val = _
    simp [ix3]

/-- Where a grid point's last gate rows lie. -/
theorem emb7 (t : Fin cfg0.N) (j : Fin 8) (y : Fin 256) : ((cfg0.win 7).blk t).view.emb (ix4 0 0 j y) = ix4 (tileAt (bq t.val) (iq t.val)) (nq t.val) j y := by
  rw [← co0, ← co1, ← co2]
  refine funext fun a => Fin.ext ?_
  have h2 : (grid0.coords t 2).val < 11 := (grid0.coords t 2).isLt
  fin_cases a
  · show (Scalar.addi (Scalar.muli (BitVec.ofNat 32 (grid0.coords t 0).val) 4#32) (BitVec.ofNat 32 (grid0.coords t 1).val) : BitVec 32).toNat * 1 + 1 * 0 = _
    rw [tile_word (grid0.coords t 0) (grid0.coords t 1)]
    simp [ix4]
  · show (BitVec.ofNat 32 (grid0.coords t 2).val).toNat * 1 + 1 * 0 = _
    rw [word_val _ (by omega)]
    simp [ix4]
  · show 0 * 8 + 1 * j.val = _
    simp [ix4]
  · show 0 * 256 + 1 * y.val = _
    simp [ix4]

/-- A row tile's last grid point writes the layer's rows. -/
theorem flushed6 (t : Fin cfg0.N) : (dats m 0 c).flushed 6 t
    = ((cfg0.win 6).blk t).view.read (Elt Ideal) (res (fx m c) (fg m c) (fwu m c) (fcw m c) (fcb m c) (fwd m c)) := by
  funext z
  obtain ⟨y, d, rfl⟩ : ∃ (y d : Fin 1024), z = ix3 (0 : Fin 1) y d := by
    refine ⟨z 1, z 2, funext fun a => ?_⟩
    fin_cases a
    · exact Subsingleton.elim (α := Fin 1) _ _
    · rfl
    · rfl
  refine (congrFun (after0_6 m c t) _).trans ?_
  rw [View.read_apply]
  refine (pay4_read _ y d).trans ((acc_end m c (bq t.val) (iq t.val) y d).trans (congrArg _ (emb6 t y d).symm))

/-- A grid point writes its row tile's last gate rows. -/
theorem flushed7 (t : Fin cfg0.N) : (dats m 0 c).flushed 7 t = ((cfg0.win 7).blk t).view.read (Elt Ideal) (tails (fx m c) (fg m c) (fwu m c)) := by
  funext z
  obtain ⟨j, y, rfl⟩ : ∃ (j : Fin 8) (y : Fin 256), z = ix4 (0 : Fin 1) (0 : Fin 1) j y := by
    refine ⟨z 2, z 3, funext fun a => ?_⟩
    fin_cases a
    · exact Subsingleton.elim (α := Fin 1) _ _
    · exact Subsingleton.elim (α := Fin 1) _ _
    · rfl
    · rfl
  refine (congrFun (after0_7 m c t) _).trans ?_
  rw [View.read_apply]
  refine (pay3_read _ j y).trans ((lastRows_read _ j y).trans ((gate_at m c (bq t.val) (iq t.val) 3 (nq t.val) (endRow j) y).trans ?_))
  refine Eq.trans ?_ (congrArg (tails (fx m c) (fg m c) (fwu m c)) (emb7 t j y).symm)
  have e1 : batchOf (tileAt (bq t.val) (iq t.val)) = bq t.val := Fin.ext (by show ((bq t.val).val * 4 + (iq t.val).val) / 4 = (bq t.val).val; omega)
  have e2 : tileIn (tileAt (bq t.val) (iq t.val)) = iq t.val := Fin.ext (by show ((bq t.val).val * 4 + (iq t.val).val) % 4 = (iq t.val).val; omega)
  show _ = gt (fx m c) (fg m c) (fwu m c) (batchOf (tileAt (bq t.val) (iq t.val))) (rowK (tileIn (tileAt (bq t.val) (iq t.val))) 3 (endRow j)) (colOf (nq t.val) y)
  rw [e1, e2]

/-- There is a grid point of every batch, row tile and chunk. -/
theorem point_of (b i : Fin 4) (n : Fin 11) : ∃ t : Fin cfg0.N, bq t.val = b ∧ iq t.val = i ∧ nq t.val = n := by
  obtain ⟨t, ht⟩ := Pipeline.Grid.coords_surjective grid0 (fun a => match a with
    | ⟨0, _⟩ => b
    | ⟨1, _⟩ => i
    | ⟨2, _⟩ => n)
  exact ⟨t, (co0 t).symm.trans (congrFun ht 0), (co1 t).symm.trans (congrFun ht 1), (co2 t).symm.trans (congrFun ht 2)⟩

theorem cover6 (z : (⟨3, ![4, 4096, 1024]⟩ : Shape).Idx) : ∃ t : Fin cfg0.N, (cfg0.win 6).flush t = true ∧ z ∈ ((cfg0.win 6).blk t).view.set := by
  obtain ⟨b, r, d, rfl⟩ : ∃ (b : Fin 4) (r : Fin 4096) (d : Fin 1024), z = ix3 b r d := ⟨z 0, z 1, z 2, by funext a; fin_cases a <;> rfl⟩
  obtain ⟨t, e0, e1, e2⟩ := point_of b (⟨r.val / 1024, by omega⟩ : Fin 4) 10
  refine ⟨t, (flush0_6 t).2 (congrArg Fin.val e2), ?_⟩
  have e : ix3 b r d = ((cfg0.win 6).blk t).view.emb (ix3 0 (⟨r.val % 1024, by omega⟩ : Fin 1024) d) := by
    rw [emb6, e0, e1]
    refine congrArg (fun q => ix3 b q d) (Fin.ext ?_)
    show r.val = r.val / 1024 * 1024 + r.val % 1024
    omega
  rw [e]
  exact View.emb_mem_set _ _

theorem cover7 (z : (⟨4, ![16, 11, 8, 256]⟩ : Shape).Idx) : ∃ t : Fin cfg0.N, (cfg0.win 7).flush t = true ∧ z ∈ ((cfg0.win 7).blk t).view.set := by
  obtain ⟨q, n, j, y, rfl⟩ : ∃ (q : Fin 16) (n : Fin 11) (j : Fin 8) (y : Fin 256), z = ix4 q n j y := ⟨z 0, z 1, z 2, z 3, by funext a; fin_cases a <;> rfl⟩
  obtain ⟨t, e0, e1, e2⟩ := point_of (batchOf q) (tileIn q) n
  refine ⟨t, flush0_7 t, ?_⟩
  have e : ix4 q n j y = ((cfg0.win 7).blk t).view.emb (ix4 0 0 j y) := by
    rw [emb7, e0, e1, e2]
    refine congrArg (fun q' => ix4 q' n j y) (Fin.ext ?_)
    show q.val = q.val / 4 * 4 + q.val % 4
    omega
  rw [e]
  exact View.emb_mem_set _ _

/-- The call's first array is the layer's rows. -/
theorem out6 : (dats m 0 c).arrAt 6 cfg0.N = res (fx m c) (fg m c) (fwu m c) (fcw m c) (fcb m c) (fwd m c) :=
  (dats m 0 c).arrAt_eq_of_cover 6 _ (fun t _ => flushed6 m c t) cover6

/-- The call's second array is the row tiles' last gate rows. -/
theorem out7 : (dats m 0 c).arrAt 7 cfg0.N = tails (fx m c) (fg m c) (fwu m c) :=
  (dats m 0 c).arrAt_eq_of_cover 7 _ (fun t _ => flushed7 m c t) cover7

end Cert.Proof.Ffn

end
-- ==== Proof.FfnRef.lean ====
module

public import proofs.«01_k».proof.Proof.Gen.Reference2Ideal.Run
public import proofs.«01_k».proof.Proof.FfnSpec

@[expose] public section

set_option maxRecDepth 16384

noncomputable section

/-! The reference's feed-forward layer, element by element. -/

namespace Cert.Proof.Ffn

open Cert.Reference2Ideal Cert.Reference2Ideal.Gen Cert.Reference2Ideal.Value
open Idealize.ShloMosaic Idealize.ShloMosaic.TcCoe Idealize.ShloMosaic.StableHlo
open Idealize.SL.Sem

section Pieces

variable (x : Vec Ideal S4x4096x1024 .f32) (g : Vec Ideal S1024 .f32) (wu : Vec Ideal S1024x5632 .f32) (cw : Vec Ideal S3x2816 .f32) (cb : Vec Ideal S2816 .f32)
  (wd : Vec Ideal S2816x1024 .f32) (h : FVec Ideal S4x4096x1024 .f32) (p : FVec Ideal S4x4096x5632 .f32) (G : FVec Ideal S4x4098x2816 .f32) (a u : FVec Ideal S4x4096x2816 .f32)

/-- The rows normed. -/
def rNorm : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The projection to gate and up. -/
def rProj : FVec Ideal S4x4096x5632 .f32 := Host.dotGeneral (φ₁ := .f32) (φ₂ := .f32) dot_S4x4096x1024_S1024x5632_S4x4096x5632_2_0_01_1_n_n none h wu

/-- The gate with two rows of zeros above it. -/
def rGate : FVec Ideal S4x4098x2816 .f32 :=
  concatenate S4x4098x2816 1 [⟨S4x2x2816, (broadcastInDim S4x2x2816 ![] bcast_S_S4x2x2816 (constant S_ .f32 0x00000000#32))⟩, ⟨S4x4096x2816, (extractStridedSlice S4x4096x2816 ![0, 0, 0] p slices_S4x4096x5632_S4x4096x2816_0_0_0)⟩] concatenates_S4x2x2816_S4x4096x2816_S4x4098x2816_d1

/-- The convolution. -/
def rConv : FVec Ideal S4x4096x2816 .f32 :=
  addf (addf (addf (broadcastInDim S4x4096x2816 ![0, 1, 2] bcast_S1x1x2816_S4x4096x2816_0_1_2 (broadcastInDim S1x1x2816 ![2] bcast_S2816_S1x1x2816_2 cb))
      (mulf (broadcastInDim S4x4096x2816 ![0, 1, 2] bcast_S1x1x2816_S4x4096x2816_0_1_2 (broadcastInDim S1x1x2816 ![2] bcast_S2816_S1x1x2816_2 (shapeCast S2816 (extractStridedSlice S1x2816 ![0, 0] cw slices_S3x2816_S1x2816_0_0) shapeCasts_S1x2816_S2816))) (extractStridedSlice S4x4096x2816 ![0, 0, 0] G slices_S4x4098x2816_S4x4096x2816_0_0_0)))
      (mulf (broadcastInDim S4x4096x2816 ![0, 1, 2] bcast_S1x1x2816_S4x4096x2816_0_1_2 (broadcastInDim S1x1x2816 ![2] bcast_S2816_S1x1x2816_2 (shapeCast S2816 (extractStridedSlice S1x2816 ![1, 0] cw slices_S3x2816_S1x2816_1_0) shapeCasts_S1x2816_S2816))) (extractStridedSlice S4x4096x2816 ![0, 1, 0] G slices_S4x4098x2816_S4x4096x2816_0_1_0)))
      (mulf (broadcastInDim S4x4096x2816 ![0, 1, 2] bcast_S1x1x2816_S4x4096x2816_0_1_2 (broadcastInDim S1x1x2816 ![2] bcast_S2816_S1x1x2816_2 (shapeCast S2816 (extractStridedSlice S1x2816 ![2, 0] cw slices_S3x2816_S1x2816_2_0) shapeCasts_S1x2816_S2816))) (extractStridedSlice S4x4096x2816 ![0, 2, 0] G slices_S4x4098x2816_S4x4096x2816_0_2_0))

/-- The gate's unit. -/
def rSilu : FVec Ideal S4x4096x2816 .f32 :=
  mulf a (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf a))))

/-- The up projection's columns. -/
def rUp : FVec Ideal S4x4096x2816 .f32 := extractStridedSlice S4x4096x2816 ![0, 0, 2816] p slices_S4x4096x5632_S4x4096x2816_0_0_2816

/-- The down projection with the residual. -/
def rDown : FVec Ideal S4x4096x1024 .f32 := addf x (Host.dotGeneral (φ₁ := .f32) (φ₂ := .f32) dot_S4x4096x2816_S2816x1024_S4x4096x1024_2_0_01_1_n_n none a wd)

/-- The last two gate rows. -/
def rKept : FVec Ideal S4x2x2816 .f32 := extractStridedSlice S4x2x2816 ![0, 4096, 0] G slices_S4x4098x2816_S4x2x2816_0_4096_0

theorem rNorm_read (b : Fin 4) (r : Fin 4096) (d : Fin 1024) : (rNorm x g (ix3 b r d) : EReal) = hn x g b r d := by
  unfold hn nrm
  pointwise [rNorm]

theorem rProj_read (b : Fin 4) (r : Fin 4096) (j : Fin 5632) : (rProj wu h (ix3 b r j) : EReal) = ∑ d : Fin 1024, (h (ix3 b r d) : EReal) * (wu (ix2 d j) : EReal) := by
  pointwise [rProj]

theorem rGate_read (b : Fin 4) (r : Fin 4098) (n : Fin 2816) :
    (rGate p (ix3 b r n) : EReal) = if h : 2 ≤ r.val ∧ r.val < 4098 then (p (ix3 b (back r.val h.2) (gcol n)) : EReal) else 0 := by
  pointwise [rGate]
  by_cases e : r.val < 2
  · rw [dif_pos e, dif_neg (by omega)]
  · rw [dif_neg e, dif_pos (by omega)]

abbrev down0 (r : Fin 4096) : Fin 4098 := ⟨r.val, by omega⟩
abbrev down1 (r : Fin 4096) : Fin 4098 := ⟨1 + r.val, by omega⟩
abbrev down2 (r : Fin 4096) : Fin 4098 := ⟨2 + r.val, by omega⟩

theorem rConv_read (b : Fin 4) (r : Fin 4096) (n : Fin 2816) :
    (rConv cw cb G (ix3 b r n) : EReal) = (cb (ix1 n) : EReal) + (cw (ix2 0 n) : EReal) * (G (ix3 b (down0 r) n) : EReal) + (cw (ix2 1 n) : EReal) * (G (ix3 b (down1 r) n) : EReal) + (cw (ix2 2 n) : EReal) * (G (ix3 b (down2 r) n) : EReal) := by
  pointwise [rConv]

theorem rSilu_read (z : S4x4096x2816.Idx) : (rSilu a z : EReal) = slu (a z) := by
  unfold slu
  pointwise [rSilu]

theorem rUp_read (b : Fin 4) (r : Fin 4096) (n : Fin 2816) : (rUp p (ix3 b r n) : EReal) = p (ix3 b r (ucol n)) := by
  pointwise [rUp]

theorem rDown_read (b : Fin 4) (r : Fin 4096) (d : Fin 1024) : (rDown x wd a (ix3 b r d) : EReal) = (x (ix3 b r d) : EReal) + ∑ n : Fin 2816, (a (ix3 b r n) : EReal) * (wd (ix2 n d) : EReal) := by
  pointwise [rDown]

abbrev last2 (j : Fin 2) : Fin 4098 := ⟨4096 + j.val, by omega⟩

theorem rKept_read (b : Fin 4) (j : Fin 2) (n : Fin 2816) : (rKept G (ix3 b j n) : EReal) = G (ix3 b (last2 j) n) := by
  pointwise [rKept]

/-- The padded gate rows. -/
theorem rGx (b : Fin 4) (r : Fin 4098) (n : Fin 2816) : (rGate (rProj wu (rNorm x g)) (ix3 b r n) : EReal) = gx x g wu b r.val n := by
  rw [rGate_read]
  unfold gx gt
  by_cases e : 2 ≤ r.val ∧ r.val < 4098
  · rw [dif_pos e, dif_pos e, rProj_read]
    exact Finset.sum_congr rfl fun d _ => by rw [rNorm_read]
  · rw [dif_neg e, dif_neg e]

/-- The layer's rows. -/
theorem rRes : rDown x wd (mulf (rSilu (rConv cw cb (rGate (rProj wu (rNorm x g))))) (rUp (rProj wu (rNorm x g)))) = res x g wu cw cb wd := by
  funext z
  obtain ⟨b, r, d, rfl⟩ : ∃ (b : Fin 4) (r : Fin 4096) (d : Fin 1024), z = ix3 b r d := ⟨z 0, z 1, z 2, by funext a; fin_cases a <;> rfl⟩
  refine (rDown_read x wd _ b r d).trans ?_
  refine congrArg (fun s : EReal => (x (ix3 b r d) : EReal) + s) (Finset.sum_congr rfl fun n _ => ?_)
  refine congrArg (fun s : EReal => s * (wd (ix2 n d) : EReal)) ?_
  show (rSilu (rConv cw cb (rGate (rProj wu (rNorm x g)))) (ix3 b r n) : EReal) * (rUp (rProj wu (rNorm x g)) (ix3 b r n) : EReal) = act x g wu cw cb b r n
  unfold act
  rw [rSilu_read, rConv_read, rGx, rGx, rGx, rUp_read, rProj_read]
  refine congrArg (fun s : EReal => slu (cv x g wu cw cb b r n) * s) (Finset.sum_congr rfl fun d _ => by rw [rNorm_read])

/-- The kept rows. -/
theorem rSt : rKept (rGate (rProj wu (rNorm x g))) = kept x g wu := by
  funext z
  obtain ⟨b, j, n, rfl⟩ : ∃ (b : Fin 4) (j : Fin 2) (n : Fin 2816), z = ix3 b j n := ⟨z 0, z 1, z 2, by funext a; fin_cases a <;> rfl⟩
  exact (rKept_read _ b j n).trans (rGx x g wu b _ n)

end Pieces

variable (m : (ℓ : Loc nD τ sig) → Buf (Elt Ideal) ℓ)

theorem res_v45 (c : Dev nD) : res_main_v45 m c
    = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (rRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))

/-- The reference runs and leaves the layer's rows and the kept rows, its arguments unchanged. -/
theorem ref_run (ρ : Dev nD → PrngReg) (x : Dev nD → Arr3 4 4096 1024) (g : Dev nD → Arr1 1024) (wu : Dev nD → Arr2 1024 5632) (cw : Dev nD → Arr2 3 2816) (cb : Dev nD → Arr1 2816) (wd : Dev nD → Arr2 2816 1024)
    (hm : ∀ c : Dev nD, m ((c.tc : Thread nD τ).loc main_arg0) = x c ∧ m ((c.tc : Thread nD τ).loc main_arg1) = g c ∧ m ((c.tc : Thread nD τ).loc main_arg2) = wu c
      ∧ m ((c.tc : Thread nD τ).loc main_arg3) = cw c ∧ m ((c.tc : Thread nD τ).loc main_arg4) = cb c ∧ m ((c.tc : Thread nD τ).loc main_arg5) = wd c) :
    θ_run (defs (F := Ideal)) (onTc (τ := τ) (main (F := Ideal))) ⟨m, fun _ => 0, ρ⟩ fun r => ∀ c : Dev nD,
      r.2.mem ((c.tc : Thread nD τ).loc main_v45) = res (x c) (g c) (wu c) (cw c) (cb c) (wd c)
      ∧ r.2.mem ((c.tc : Thread nD τ).loc main_v44) = kept (x c) (g c) (wu c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ⟨(h c).1.trans ?_, (h c).2.1.trans ?_, (h c).2.2⟩) (Cert.Reference2Ideal.Value.run (F := Ideal) m ρ)
  all_goals
    obtain ⟨e0, e1, e2, e3, e4, e5⟩ := hm c
    rw [← e0, ← e1, ← e2]
  · rw [← e3, ← e4, ← e5]
    exact res_v45 m c
  · exact rSt (m ((c.tc : Thread nD τ).loc main_arg0)) (m ((c.tc : Thread nD τ).loc main_arg1)) (m ((c.tc : Thread nD τ).loc main_arg2))

end Cert.Proof.Ffn

end
-- ==== Proof.FfnEqual.lean ====
module

public import proofs.«01_k».proof.Defs
public import proofs.«01_k».proof.Proof.FfnOut
public import proofs.«01_k».proof.Proof.FfnRef

@[expose] public section

set_option maxRecDepth 16384

noncomputable section

/-! The equation of the feed-forward call: at any arguments both programs leave the layer's rows and the kept rows. -/

namespace Cert.Proof.Ffn

open Idealize.ShloMosaic Idealize.ShloMosaic.TcCoe
open Idealize.SL.Sem

section Kernel

open Cert.Kernel2Ideal Cert.Kernel2Ideal.Gen

/-- The kernel runs and leaves the layer's rows and the kept rows, its arguments unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = res (fx m c) (fg m c) (fwu m c) (fcw m c) (fcb m c) (fwd m c)
      ∧ r.2.mem ((c.tc : Thread nD τ).loc main_v12) = kept (fx m c) (fg m c) (fwu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ⟨((h.1 c).1 6).trans (out6 m c),
      ((h.1 c).2 main_v12 (Pipeline.mem_restRefs_of main_v12 (by decide) (by decide))).trans ((W_v12 m c).trans ((congrArg hKept (out7 m c)).trans (kept_tails _ _ _))),
      ((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩) (run_main m ρ)

end Kernel

/-- At any arguments the two programs' results are equal. -/
theorem equal : Cert.algebraic_Kernel2Ideal_Reference2Ideal (hKernel2Ideal := Cert.Kernel2Ideal.Gen.facts) (hReference2Ideal := Cert.Reference2Ideal.Gen.facts) := by
  intro m g m' g' hpre hargs
  refine ⟨fun c => res (fx m c) (fg m c) (fwu m c) (fcw m c) (fcb m c) (fwd m c), fun c => kept (fx m c) (fg m c) (fwu m c), ?_, ?_⟩
  · exact kernel_value m g
  · exact ref_run m' g' (fx m) (fg m) (fwu m) (fcw m) (fcb m) (fwd m) hargs

end Cert.Proof.Ffn

end
-- ==== Proof.PrjSpec.lean ====
module

public import proofs.«01_k».proof.Proof.FfnSpec
public import proofs.«01_k».proof.Proof.Group

@[expose] public section

set_option maxRecDepth 16384

noncomputable section

/-! The projections with their head norms in formulas, and the mean over a group of lanes. -/

namespace Cert.Proof.Prj

open Idealize.ShloMosaic
open Cert.Proof.Ffn (Arr1 Arr2 Arr3 nrm)

abbrev seqOf (r : Fin 1024) : Fin 128 := ⟨r.val / 8, by omega⟩
abbrev posOf (r : Fin 1024) : Fin 8 := ⟨r.val % 8, by omega⟩
/-- A lane of a column's head, and a column's own lane. -/
abbrev mate (n : Fin 1024) (e : Fin 64) : Fin 1024 := ⟨n.val / 64 * 64 + e.val, by omega⟩
abbrev lane (n : Fin 1024) : Fin 64 := ⟨n.val % 64, by omega⟩
/-- A column among the queries', the keys' and the values'. -/
abbrev qcol (n : Fin 1024) : Fin 3072 := ⟨n.val, by omega⟩
abbrev kcol (n : Fin 1024) : Fin 3072 := ⟨1024 + n.val, by omega⟩
abbrev vcol (n : Fin 1024) : Fin 3072 := ⟨2048 + n.val, by omega⟩

/-- A head over the root of its mean square, times the gain. -/
def hnm (t : Fin 64 → EReal) (g : EReal) (d : Fin 64) : EReal :=
  t d * Ideal.rsqrt (Ideal.div (∑ e, t e * t e) (Ideal.ofBits .f32 0x42800000#32) + Ideal.ofBits .f32 0x358637BD#32) * g

variable (x : Arr3 128 8 1024) (g : Arr1 1024) (w : Arr2 1024 3072) (qg kg : Arr1 64)

/-- The projected rows. -/
def yy (r : Fin 1024) (j : Fin 3072) : EReal := ∑ d : Fin 1024, nrm (fun e => x (ix3 (seqOf r) (posOf r) e)) (fun e => g (ix1 e)) d * w (ix2 d j)

/-- The queries, the keys and the values. -/
def resQ : Arr2 1024 1024 := fun z =>
  hnm (fun e => yy x g w (z 0) (qcol (mate (z 1) e))) (qg (ix1 (lane (z 1)))) (lane (z 1)) * Ideal.ofBits .f32 0x3E000000#32
def resK : Arr2 1024 1024 := fun z => hnm (fun e => yy x g w (z 0) (kcol (mate (z 1) e))) (kg (ix1 (lane (z 1)))) (lane (z 1))
def resV : Arr2 1024 1024 := fun z => yy x g w (z 0) (vcol (z 1))

/-- The mean over a group, as the products with a column of a matrix of both parts of the squares. -/
def ms (t G : Fin 256 → EReal) : EReal := ∑ z, t z * t z * G z + ∑ z, (t z * t z - t z * t z) * G z

abbrev mate256 (l : Fin 256) (e : Fin 64) : Fin 256 := ⟨l.val / 64 * 64 + e.val, by omega⟩

theorem sum_group (l : Fin 256) (f : Fin 256 → ℝ) : ∑ z : Fin 256, f z * (if z.val / 64 = l.val / 64 then 1 / 64 else 0) = (∑ e : Fin 64, f (mate256 l e)) * (1 / 64) := by
  have h : ∑ z : Fin 256, f z * (if z.val / 64 = l.val / 64 then 1 / 64 else 0)
      = ∑ q : Fin 4 × Fin 64, f ⟨q.2.val + 64 * q.1.val, by omega⟩ * (if q.1.val = l.val / 64 then 1 / 64 else 0) := by
    symm
    refine Fintype.sum_equiv (finProdFinEquiv (m := 4) (n := 64)) _ _ fun q => ?_
    have e : (finProdFinEquiv (m := 4) (n := 64) q).val = q.2.val + 64 * q.1.val := rfl
    refine congrArg₂ (· * ·) (congrArg f (Fin.ext e.symm)) (if_congr ?_ rfl rfl)
    rw [e]
    omega
  rw [h, Fintype.sum_prod_type, Finset.sum_eq_single (⟨l.val / 64, by omega⟩ : Fin 4)]
  · rw [Finset.sum_mul]
    refine Finset.sum_congr rfl fun e _ => congrArg₂ (· * ·) (congrArg f (Fin.ext ?_)) (if_pos rfl)
    show e.val + 64 * (l.val / 64) = l.val / 64 * 64 + e.val
    omega
  · intro p _ hp
    refine Finset.sum_eq_zero fun e _ => ?_
    rw [if_neg (fun h => hp (Fin.ext h)), mul_zero]
  · intro h
    exact absurd (Finset.mem_univ _) h

theorem w64 : (Ideal.ofBits .f32 0x42800000#32 : EReal) = ((64 : ℝ) : EReal) := by
  simp [Ideal.ofBits, Ideal.ieee, -EReal.coe_mul]
  norm_num

/-- Over real numbers that mean is the group's sum of squares over its size. -/
theorem ms_eq (t G : Fin 256 → EReal) (l : Fin 256) (ht : ∀ z, ∃ a : ℝ, t z = (a : EReal)) (hG : ∀ z, G z = ((if z.val / 64 = l.val / 64 then 1 / 64 else 0 : ℝ) : EReal)) :
    ms t G = Ideal.div (∑ e : Fin 64, t (mate256 l e) * t (mate256 l e)) (Ideal.ofBits .f32 0x42800000#32) := by
  choose a ha using ht
  unfold ms
  have h1 : ∀ z, (t z * t z - t z * t z) * G z = 0 := fun z => by
    rw [ha, ← EReal.coe_mul, ← EReal.coe_sub, sub_self, EReal.coe_zero, zero_mul]
  have h2 : ∀ z, t z * t z * G z = ((a z * a z * (if z.val / 64 = l.val / 64 then 1 / 64 else 0) : ℝ) : EReal) := fun z => by
    rw [ha, hG, ← EReal.coe_mul, ← EReal.coe_mul]
  rw [Finset.sum_congr rfl fun z _ => h1 z, Finset.sum_const_zero, add_zero, Finset.sum_congr rfl fun z _ => h2 z, Diff.coe_sum, sum_group l fun z => a z * a z,
    w64, Ideal.div_coe (by norm_num), EReal.coe_mul]
  refine congrArg (fun s : EReal => s * _) ?_
  rw [← Diff.coe_sum]
  exact Finset.sum_congr rfl fun e _ => by rw [EReal.coe_mul, ← ha]

theorem w1024 : (Ideal.ofBits .f32 0x44800000#32 : EReal) = ((1024 : ℝ) : EReal) := by
  simp [Ideal.ofBits, Ideal.ieee, -EReal.coe_mul]
  norm_num

theorem weps : ∃ b : ℝ, 0 < b ∧ (Ideal.ofBits .f32 0x358637BD#32 : EReal) = (b : EReal) := by
  refine ⟨(8796093 / 2 ^ 43 : ℝ), by positivity, ?_⟩
  simp [Ideal.ofBits, Ideal.ieee, -EReal.coe_mul]
  norm_num

theorem sq_nonneg (a : EReal) : 0 ≤ a * a := by
  induction a with
  | coe a => rw [← EReal.coe_mul]; exact_mod_cast mul_self_nonneg a
  | bot => simp
  | top => simp

theorem sq_top (a : EReal) (h : a ≠ (a.toReal : EReal)) : a * a = ⊤ := by
  induction a with
  | coe a => exact absurd rfl h
  | bot => rfl
  | top => rfl

/-- A row with an infinite entry is normed to zeros. -/
theorem nrm_inf (u v : Fin 1024 → EReal) (e : Fin 1024) (he : u e ≠ ((u e).toReal : EReal)) (d : Fin 1024) : nrm u v d = 0 := by
  obtain ⟨b, hb, e2⟩ := weps
  have s : ∑ e, u e * u e = ⊤ := top_le_iff.1 (by
    rw [← sq_top _ he]
    exact Finset.single_le_sum (f := fun e => u e * u e) (fun i _ => sq_nonneg (u i)) (Finset.mem_univ e))
  unfold nrm
  rw [s, w1024, e2, Ideal.div_coe (by norm_num), EReal.top_mul_coe_of_pos (by norm_num), EReal.top_add_coe, Ideal.rsqrt_top, mul_zero, zero_mul]

/-- A row is real when it is normed with a real gain. -/
theorem nrm_real (u v : Fin 1024 → EReal) (hv : ∀ e, v e = ((v e).toReal : EReal)) (d : Fin 1024) : ∃ a : ℝ, nrm u v d = (a : EReal) := by
  by_cases hu : ∀ e, u e = ((u e).toReal : EReal)
  swap
  · obtain ⟨e, he⟩ := not_forall.1 hu
    exact ⟨0, (nrm_inf u v e he d).trans EReal.coe_zero.symm⟩
  obtain ⟨b, hb, e2⟩ := weps
  have s : ∑ e, u e * u e = ((∑ e, (u e).toReal * (u e).toReal : ℝ) : EReal) := by
    rw [← Diff.coe_sum]
    refine Finset.sum_congr rfl fun d _ => ?_
    rw [EReal.coe_mul, ← hu]
  have hp : 0 < (∑ e, (u e).toReal * (u e).toReal) * (1 / 1024) + b :=
    add_pos_of_nonneg_of_pos (mul_nonneg (Finset.sum_nonneg fun e _ => mul_self_nonneg _) (by norm_num)) hb
  unfold nrm
  rw [s, w1024, e2, Ideal.div_coe (by norm_num), ← EReal.coe_mul, ← EReal.coe_add, Ideal.rsqrt_coe, if_neg hp.not_gt, if_neg hp.ne', hu d, hv d, ← EReal.coe_mul, ← EReal.coe_mul]
  exact ⟨_, rfl⟩

/-- The projected rows are real. -/
theorem yy_real (hg : ∀ z, g z = ((g z).toReal : EReal)) (hw : ∀ z, w z = ((w z).toReal : EReal)) (r : Fin 1024) (j : Fin 3072) :
    ∃ a : ℝ, yy x g w r j = (a : EReal) := by
  choose h hh using fun d => nrm_real (fun e => x (ix3 (seqOf r) (posOf r) e)) (fun e => g (ix1 e)) (fun e => hg _) d
  refine ⟨∑ d, h d * (w (ix2 d j)).toReal, ?_⟩
  unfold yy
  rw [← Diff.coe_sum]
  refine Finset.sum_congr rfl fun d _ => ?_
  rw [hh, EReal.coe_mul, ← hw]

end Cert.Proof.Prj

end
-- ==== Proof.PrjRead.lean ====
module

public import proofs.«01_k».proof.Proof.Gen.Kernel3Ideal.Value
public import proofs.«01_k».proof.Proof.PrjSpec

@[expose] public section

set_option maxRecDepth 16384

noncomputable section

/-! The projection kernel, element by element. -/

namespace Cert.Proof.Prj

open Cert.Kernel3Ideal Cert.Kernel3Ideal.Gen
open Idealize.ShloMosaic Idealize.ShloMosaic.TcCoe
open Cert.Proof.Ffn (Arr1 Arr2 Arr3 nrm)

variable (v0 : Vec Ideal S512x1024 .f32) (v2 v23 : Vec Ideal S1x1024 .f32) (v17 : Vec Ideal S1024x3072 .bf16) (gm : Vec Ideal S256x256 .bf16) (t : FVec Ideal S512x1024 .f32)
  (y3 : FVec Ideal S512x3072 .f32) (m0 m1 : FVec Ideal S512x256 .f32) (lo : FVec Ideal S512x256 .bf16)

theorem pay3_read (y : Fin 512) (j : Fin 3072) :
    (k0_pay3 v0 v2 v17 (ix2 y j) : EReal) = ∑ d : Fin 1024, nrm (fun e => v0 (ix2 y e)) (fun e => v2 (ix2 0 e)) d * (v17 (ix2 d j) : EReal) := by
  unfold nrm
  pointwise [k0_pay3]

theorem pay5_read (y : Fin 512) (n : Fin 1024) : (k0_pay5 v0 v2 v17 (ix2 y n) : EReal) = k0_pay3 v0 v2 v17 (ix2 y (qcol n)) := by pointwise [k0_pay5]
theorem pay13_read (y : Fin 512) (n : Fin 1024) : (k0_pay13 y3 (ix2 y n) : EReal) = y3 (ix2 y (kcol n)) := by pointwise [k0_pay13]
theorem pay2_read (y : Fin 512) (n : Fin 1024) : (k0_pay2 y3 (ix2 y n) : EReal) = y3 (ix2 y (vcol n)) := by pointwise [k0_pay2]
theorem pay4_read (z l : Fin 256) : (k0_pay4 gm (ix2 z l) : EReal) = gm (ix2 z l) := by pointwise [k0_pay4]
theorem pay6_read (n : Fin 1024) : (k0_pay6 v23 (ix2 0 n) : EReal) = v23 (ix2 0 n) := by pointwise [k0_pay6]
theorem pay14_read (n : Fin 1024) : (k0_pay14 v23 (ix2 0 n) : EReal) = v23 (ix2 0 n) := by pointwise [k0_pay14]

/-- The columns of a slab of 256. -/
abbrev sl0 (z : Fin 256) : Fin 1024 := ⟨z.val, by omega⟩
abbrev sl1 (z : Fin 256) : Fin 1024 := ⟨256 + z.val, by omega⟩
abbrev sl2 (z : Fin 256) : Fin 1024 := ⟨512 + z.val, by omega⟩
abbrev sl3 (z : Fin 256) : Fin 1024 := ⟨768 + z.val, by omega⟩

theorem pay15_read (y : Fin 512) (l : Fin 256) :
    (k0_pay15 y3 gm (ix2 y l) : EReal) = ms (fun z => k0_pay13 y3 (ix2 y (sl0 z))) (fun z => gm (ix2 z l)) := by
  unfold ms
  pointwise [k0_pay15]

theorem pay19_read (y : Fin 512) (l : Fin 256) :
    (k0_pay19 y3 gm (ix2 y l) : EReal) + ∑ z : Fin 256, (k0_pay18 y3 (ix2 y z) : EReal) * (gm (ix2 z l) : EReal) = ms (fun z => k0_pay13 y3 (ix2 y (sl1 z))) (fun z => gm (ix2 z l)) := by
  unfold ms
  pointwise [k0_pay19, k0_pay18, k0_pay17, k0_pay16]

theorem pay7_read (y : Fin 512) (l : Fin 256) :
    (k0_pay7 v0 v2 v17 gm (ix2 y l) : EReal) = ms (fun z => k0_pay5 v0 v2 v17 (ix2 y (sl0 z))) (fun z => gm (ix2 z l)) := by
  unfold ms
  pointwise [k0_pay7, k0_pay4]

theorem pay11_read (y : Fin 512) (l : Fin 256) :
    (k0_pay11 v0 v2 v17 gm (ix2 y l) : EReal) + ∑ z : Fin 256, (k0_pay10 v0 v2 v17 (ix2 y z) : EReal) * (gm (ix2 z l) : EReal) = ms (fun z => k0_pay5 v0 v2 v17 (ix2 y (sl1 z))) (fun z => gm (ix2 z l)) := by
  unfold ms
  pointwise [k0_pay11, k0_pay10, k0_pay9, k0_pay8, k0_pay4]

/-- The keys normed, from the means of the four slabs. -/
theorem pay1_read (y : Fin 512) (n : Fin 1024) (M : Fin 1024 → EReal) (h0 : ∀ l : Fin 256, (m0 (ix2 y l) : EReal) = M (sl0 l))
    (h1 : ∀ l : Fin 256, (m1 (ix2 y l) : EReal) + ∑ z : Fin 256, (lo (ix2 y z) : EReal) * (gm (ix2 z l) : EReal) = M (sl1 l))
    (h2 : ∀ l : Fin 256, ms (fun z => t (ix2 y (sl2 z))) (fun z => gm (ix2 z l)) = M (sl2 l))
    (h3 : ∀ l : Fin 256, ms (fun z => t (ix2 y (sl3 z))) (fun z => gm (ix2 z l)) = M (sl3 l)) :
    (k0_pay1 gm t v23 m0 lo m1 (constant S512x256 .f32 0x00000000#32) (ix2 y n) : EReal)
      = (t (ix2 y n) : EReal) * Ideal.rsqrt (M n + Ideal.ofBits .f32 0x358637BD#32) * (v23 (ix2 0 n) : EReal) := by
  pointwise [k0_pay1]
  refine congrArg (fun s : EReal => (t (ix2 y n) : EReal) * Ideal.rsqrt (s + Ideal.ofBits .f32 0x358637BD#32) * (v23 (ix2 0 n) : EReal)) ?_
  by_cases a : n.val < 256
  · rw [dif_pos a]
    exact h0 ⟨n.val, a⟩
  rw [dif_neg a]
  by_cases b : n.val - 256 < 256
  · rw [dif_pos b]
    exact (h1 ⟨n.val - 256, b⟩).trans (congrArg M (Fin.ext (by show 256 + (n.val - 256) = n.val; omega)))
  rw [dif_neg b]
  by_cases d : n.val - 256 - 256 < 256
  · rw [dif_pos d]
    exact (h2 ⟨n.val - 256 - 256, d⟩).trans (congrArg M (Fin.ext (by show 512 + (n.val - 256 - 256) = n.val; omega)))
  rw [dif_neg d]
  exact (h3 ⟨n.val - 256 - 256 - 256, by omega⟩).trans (congrArg M (Fin.ext (by show 768 + (n.val - 256 - 256 - 256) = n.val; omega)))

/-- The queries normed and scaled, from the means of the four slabs. -/
theorem pay12_read (y : Fin 512) (n : Fin 1024) (M : Fin 1024 → EReal) (h0 : ∀ l : Fin 256, (m0 (ix2 y l) : EReal) = M (sl0 l))
    (h1 : ∀ l : Fin 256, (m1 (ix2 y l) : EReal) + ∑ z : Fin 256, (lo (ix2 y z) : EReal) * (gm (ix2 z l) : EReal) = M (sl1 l))
    (h2 : ∀ l : Fin 256, ms (fun z => t (ix2 y (sl2 z))) (fun z => gm (ix2 z l)) = M (sl2 l))
    (h3 : ∀ l : Fin 256, ms (fun z => t (ix2 y (sl3 z))) (fun z => gm (ix2 z l)) = M (sl3 l)) :
    (k0_pay12 gm t v23 m0 lo m1 (constant S512x256 .f32 0x00000000#32) (ix2 y n) : EReal)
      = (t (ix2 y n) : EReal) * Ideal.rsqrt (M n + Ideal.ofBits .f32 0x358637BD#32) * (v23 (ix2 0 n) : EReal) * Ideal.ofBits .f32 0x3E000000#32 := by
  pointwise [k0_pay12]
  refine congrArg (fun s : EReal => (t (ix2 y n) : EReal) * Ideal.rsqrt (s + Ideal.ofBits .f32 0x358637BD#32) * (v23 (ix2 0 n) : EReal) * Ideal.ofBits .f32 0x3E000000#32) ?_
  by_cases a : n.val < 256
  · rw [dif_pos a]
    exact h0 ⟨n.val, a⟩
  rw [dif_neg a]
  by_cases b : n.val - 256 < 256
  · rw [dif_pos b]
    exact (h1 ⟨n.val - 256, b⟩).trans (congrArg M (Fin.ext (by show 256 + (n.val - 256) = n.val; omega)))
  rw [dif_neg b]
  by_cases d : n.val - 256 - 256 < 256
  · rw [dif_pos d]
    exact (h2 ⟨n.val - 256 - 256, d⟩).trans (congrArg M (Fin.ext (by show 512 + (n.val - 256 - 256) = n.val; omega)))
  rw [dif_neg d]
  exact (h3 ⟨n.val - 256 - 256 - 256, by omega⟩).trans (congrArg M (Fin.ext (by show 768 + (n.val - 256 - 256 - 256) = n.val; omega)))

/-- The mean over a column's head. -/
def mean (T : Fin 1024 → EReal) (n : Fin 1024) : EReal := Ideal.div (∑ e : Fin 64, T (mate n e) * T (mate n e)) (Ideal.ofBits .f32 0x42800000#32)

theorem ms_mean (T : Fin 1024 → EReal) (s : Fin 256 → Fin 1024) (p : ℕ) (hs : ∀ z, (s z).val = 256 * p + z.val) (hT : ∀ n, ∃ a : ℝ, T n = (a : EReal)) (l : Fin 256)
    (hG : ∀ z : Fin 256, (gm (ix2 z l) : EReal) = ((if z.val / 64 = l.val / 64 then 1 / 64 else 0 : ℝ) : EReal)) :
    ms (fun z => T (s z)) (fun z => gm (ix2 z l)) = mean T (s l) := by
  rw [ms_eq _ _ l (fun z => hT (s z)) hG]
  unfold mean
  refine congrArg (fun q : EReal => Ideal.div q _) (Finset.sum_congr rfl fun e _ => ?_)
  have h : s (mate256 l e) = mate (s l) e := Fin.ext (by
    have h1 := hs (mate256 l e)
    have h2 := hs l
    show (s (mate256 l e)).val = (s l).val / 64 * 64 + e.val
    rw [h1, h2]
    show 256 * p + (l.val / 64 * 64 + e.val) = (256 * p + l.val) / 64 * 64 + e.val
    omega)
  show T (s (mate256 l e)) * T (s (mate256 l e)) = _
  rw [h]

theorem mate_lane (n : Fin 1024) : mate n (lane n) = n := Fin.ext (by show n.val / 64 * 64 + n.val % 64 = n.val; omega)

section Heads
variable (hG : ∀ z l : Fin 256, (gm (ix2 z l) : EReal) = ((if z.val / 64 = l.val / 64 then 1 / 64 else 0 : ℝ) : EReal))
include hG

/-- The keys' store. -/
theorem keys_read (y : Fin 512) (n : Fin 1024) (T : Fin 1024 → EReal) (hT : ∀ n, ∃ a : ℝ, T n = (a : EReal)) (ht : ∀ n, (k0_pay13 y3 (ix2 y n) : EReal) = T n) :
    (k0_pay1 gm (k0_pay13 y3) v23 (k0_pay15 y3 gm) (k0_pay18 y3) (k0_pay19 y3 gm) (constant S512x256 .f32 0x00000000#32) (ix2 y n) : EReal)
      = hnm (fun e => T (mate n e)) (v23 (ix2 0 n)) (lane n) := by
  have hm : ∀ (s : Fin 256 → Fin 1024) (p : ℕ), (∀ z, (s z).val = 256 * p + z.val) → ∀ l, ms (fun z => k0_pay13 y3 (ix2 y (s z))) (fun z => gm (ix2 z l)) = mean T (s l) := fun s p hs l => by
    rw [← ms_mean gm T s p hs hT l (fun z => hG z l)]
    exact congrArg (fun f => ms f _) (funext fun z => ht _)
  rw [pay1_read v23 gm (k0_pay13 y3) _ _ _ y n (mean T) (fun l => (pay15_read gm y3 y l).trans (hm sl0 0 (fun z => by show z.val = _; omega) l))
    (fun l => (pay19_read gm y3 y l).trans (hm sl1 1 (fun z => rfl) l)) (hm sl2 2 fun z => rfl) (hm sl3 3 fun z => rfl), ht]
  show _ = T (mate n (lane n)) * Ideal.rsqrt (mean T n + _) * _
  rw [mate_lane]

/-- The queries' store. -/
theorem queries_read (y : Fin 512) (n : Fin 1024) (T : Fin 1024 → EReal) (hT : ∀ n, ∃ a : ℝ, T n = (a : EReal)) (ht : ∀ n, (k0_pay5 v0 v2 v17 (ix2 y n) : EReal) = T n) :
    (k0_pay12 (k0_pay4 gm) (k0_pay5 v0 v2 v17) v23 (k0_pay7 v0 v2 v17 gm) (k0_pay10 v0 v2 v17) (k0_pay11 v0 v2 v17 gm) (constant S512x256 .f32 0x00000000#32) (ix2 y n) : EReal)
      = hnm (fun e => T (mate n e)) (v23 (ix2 0 n)) (lane n) * Ideal.ofBits .f32 0x3E000000#32 := by
  have e4 : k0_pay4 gm = gm := by
    funext z
    obtain ⟨a, b, rfl⟩ : ∃ (a b : Fin 256), z = ix2 a b := ⟨z 0, z 1, by funext a; fin_cases a <;> rfl⟩
    exact pay4_read gm a b
  have hm : ∀ (s : Fin 256 → Fin 1024) (p : ℕ), (∀ z, (s z).val = 256 * p + z.val) → ∀ l, ms (fun z => k0_pay5 v0 v2 v17 (ix2 y (s z))) (fun z => gm (ix2 z l)) = mean T (s l) := fun s p hs l => by
    rw [← ms_mean gm T s p hs hT l (fun z => hG z l)]
    exact congrArg (fun f => ms f _) (funext fun z => ht _)
  rw [e4, pay12_read v23 gm (k0_pay5 v0 v2 v17) _ _ _ y n (mean T) (fun l => (pay7_read v0 v2 v17 gm y l).trans (hm sl0 0 (fun z => by show z.val = _; omega) l))
    (fun l => (pay11_read v0 v2 v17 gm y l).trans (hm sl1 1 (fun z => rfl) l)) (hm sl2 2 fun z => rfl) (hm sl3 3 fun z => rfl), ht]
  show _ = T (mate n (lane n)) * Ideal.rsqrt (mean T n + _) * _ * _
  rw [mate_lane]

end Heads

end Cert.Proof.Prj

end
-- ==== Proof.PrjHost.lean ====
module

public import proofs.«01_k».proof.Proof.Gen.Kernel3Ideal.Value
public import proofs.«01_k».proof.Proof.PrjSpec
public import Idealize.ShloMosaic.Lib.StableHlo.Run

@[expose] public section

set_option maxRecDepth 16384

noncomputable section

/-! The arrays that the projection call finds. -/

namespace Cert.Proof.Prj

open Cert.Kernel3Ideal Cert.Kernel3Ideal.Gen
open Idealize.ShloMosaic Idealize.ShloMosaic.TcCoe Idealize.ShloMosaic.StableHlo
open Cert.Proof.Ffn (Arr1 Arr2 Arr3 nrm)

/-- The number of every lane's group: the lane over 64, rounded down. -/
def hGrp : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- The matrix that takes a group's mean. -/
def hMat (v : IVec S256 32) : FVec Ideal S256x256 .f32 :=
  select (cmpi .eq (broadcastInDim S256x256 ![0, 1] bcast_S256x1_S256x256_0_1 (broadcastInDim S256x1 ![0] bcast_S256_S256x1_0 v))
      (broadcastInDim S256x256 ![0, 1] bcast_S1x256_S256x256_0_1 (broadcastInDim S1x256 ![1] bcast_S256_S1x256_1 v)))
    (broadcastInDim S256x256 ![] bcast_S_S256x256 (constant S_ .f32 0x3C800000#32)) (broadcastInDim S256x256 ![] bcast_S_S256x256 (constant S_ .f32 0x00000000#32))

theorem hGrp_read : ∀ z : Fin 256, hGrp (ix1 z) = BitVec.ofNat 32 (z.val / 64) := by decide +kernel

theorem hMat_read (v : IVec S256 32) (z l : Fin 256) : (hMat v (ix2 z l) : EReal) = if v (ix1 z) = v (ix1 l) then Ideal.ofBits .f32 0x3C800000#32 else 0 := by
  pointwise [hMat]
  by_cases e : v (ix1 z) = v (ix1 l)
  · simp [Scalar.select, IntOp.cmpi, e]
  · simp only [Scalar.select, IntOp.cmpi, if_neg e, beq_false_of_ne e]
    rfl

theorem hMat_grp (z l : Fin 256) : (hMat hGrp (ix2 z l) : EReal) = ((if z.val / 64 = l.val / 64 then 1 / 64 else 0 : ℝ) : EReal) := by
  have e : (Ideal.ofBits .f32 0x3C800000#32 : EReal) = ((1 / 64 : ℝ) : EReal) := by
    simp [Ideal.ofBits, Ideal.ieee, -EReal.coe_mul]
    norm_num
  rw [hMat_read, hGrp_read, hGrp_read, e]
  have h : ∀ a b : Fin 4, BitVec.ofNat 32 a.val = BitVec.ofNat 32 b.val ↔ a.val = b.val := by decide
  rw [if_congr (h ⟨z.val / 64, by omega⟩ ⟨l.val / 64, by omega⟩) rfl rfl]
  split_ifs
  · rfl
  · rfl

/-- A head's gain, repeated for every head. -/
def hRep (q : Vec Ideal S64 .f32) : Vec Ideal S1x1024 .f32 :=
  shapeCast S1x1024 (shapeCast S1024 (broadcastInDim S16x64 ![0, 1] bcast_S1x64_S16x64_0_1 (shapeCast S1x64 q shapeCasts_S64_S1x64)) shapeCasts_S16x64_S1024) shapeCasts_S1024_S1x1024

theorem hRep_read (q : Vec Ideal S64 .f32) (n : Fin 1024) : (hRep q (ix2 0 n) : EReal) = q (ix1 (lane n)) := by
  pointwise [hRep]

theorem gain_read (q : Vec Ideal S1024 .f32) (n : Fin 1024) : (shapeCast S1x1024 q shapeCasts_S1024_S1x1024 (ix2 0 n) : EReal) = q (ix1 n) := by pointwise

theorem rows_read (x : Vec Ideal S128x8x1024 .f32) (r : Fin 1024) (d : Fin 1024) :
    (shapeCast S1024x1024 x shapeCasts_S128x8x1024_S1024x1024 (ix2 r d) : EReal) = x (ix3 (seqOf r) (posOf r) d) := by pointwise

section Arrays

variable (m : (ℓ : Loc nD τ sig) → Buf (Elt Ideal) ℓ)

theorem V_v0 (c : Dev nD) : V m c main_v0 = shapeCast S1024x1024 (m ((c : Thread nD τ).loc main_arg0) : Vec Ideal S128x8x1024 .f32) shapeCasts_S128x8x1024_S1024x1024 := by
  show StableHlo.after (List.flatten [hostOps0, hostOps0_1, hostOps0_2, hostOps0_3, hostOps0_4]) (fun b => m (c, b)) (Proc.devRef .tc main_v0) = _
  simp only [hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]
  after_results_simp
  all_goals rfl

theorem V_v1 (c : Dev nD) : V m c main_v1 = shapeCast S1x1024 (m ((c : Thread nD τ).loc main_arg1) : Vec Ideal S1024 .f32) shapeCasts_S1024_S1x1024 := by
  show StableHlo.after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]
  after_results_simp
  all_goals rfl

theorem V_v2 (c : Dev nD) : V m c main_v2 = (m ((c : Thread nD τ).loc main_arg2) : Arr2 1024 3072) := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]
  after_results_simp
  all_goals rfl

theorem V_v6 (c : Dev nD) : V m c main_v6 = hRep (m ((c : Thread nD τ).loc main_arg3)) := by
  show StableHlo.after (List.flatten [hostOps0, hostOps0_1, hostOps0_2, hostOps0_3, hostOps0_4]) (fun b => m (c, b)) (Proc.devRef .tc main_v6) = _
  simp only [hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]
  after_results_simp
  all_goals rfl

theorem V_v10 (c : Dev nD) : V m c main_v10 = hRep (m ((c : Thread nD τ).loc main_arg4)) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]
  after_results_simp
  all_goals rfl

theorem V_v19 (c : Dev nD) : V m c main_v19 = (hMat hGrp : Arr2 256 256) := by
  show StableHlo.after (List.flatten [hostOps0, hostOps0_1, hostOps0_2, hostOps0_3, hostOps0_4]) (fun b => m (c, b)) (Proc.devRef .tc main_v19) = _
  simp only [hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]
  after_results_simp
  all_goals rfl

end Arrays

end Cert.Proof.Prj

end
-- ==== Proof.PrjOut.lean ====
module

public import proofs.«01_k».proof.Proof.PrjRead
public import proofs.«01_k».proof.Proof.PrjHost
public import proofs.«01_k».proof.Proof.Finite
public import Idealize.ShloMosaic.Lib.Pipeline.Covers
public import Idealize.ShloMosaic.Lib.Pipeline.ValueKit.Basic

@[expose] public section

set_option maxRecDepth 16384

noncomputable section

/-! The three arrays that the projection call leaves: the queries, the keys and the values. -/

namespace Cert.Proof.Prj

open Cert.Kernel3Ideal Cert.Kernel3Ideal.Gen
open Idealize.ShloMosaic Idealize.ShloMosaic.TcCoe
open Idealize.SL.Sem
open Cert.Proof.Ffn (Arr1 Arr2 Arr3 nrm)

theorem word_val (x : ℕ) (h : x < 16) : (BitVec.ofNat 32 x).toNat = x := by
  rw [BitVec.toNat_ofNat]; omega

/-- Row `y` of row tile `b`. -/
abbrev rowAt (b : Fin 2) (y : Fin 512) : Fin 1024 := ⟨b.val * 512 + y.val, by omega⟩

variable (m : (ℓ : Loc nD τ sig) → Buf (Elt Ideal) ℓ) (c : Dev nD)

/-- The arguments. -/
abbrev px : Arr3 128 8 1024 := m ((c.tc : Thread nD τ).loc main_arg0)
abbrev pg : Arr1 1024 := m ((c.tc : Thread nD τ).loc main_arg1)
abbrev pw : Arr2 1024 3072 := m ((c.tc : Thread nD τ).loc main_arg2)
abbrev pq : Arr1 64 := m ((c.tc : Thread nD τ).loc main_arg3)
abbrev pk : Arr1 64 := m ((c.tc : Thread nD τ).loc main_arg4)

/-- The blocks that the points read: a tile of the rows, and the other arrays whole. -/
theorem blk0 (t : Fin cfg0.N) (y : Fin 512) (d : Fin 1024) :
    (iblk m c 0 t (ix2 y d) : EReal) = px m c (ix3 (seqOf (rowAt (grid0.coords t 0) y)) (posOf (rowAt (grid0.coords t 0) y)) d) := by
  have e : iblk m c 0 t (ix2 y d) = V m c main_v0 (ix2 (rowAt (grid0.coords t 0) y) d) := by
    refine congrArg (V m c main_v0) (funext fun a => Fin.ext ?_)
    have h0 : (grid0.coords t 0).val < 2 := (grid0.coords t 0).isLt
    fin_cases a
    · show (BitVec.ofNat 32 (grid0.coords t 0).val).toNat * 512 + 1 * y.val = _
      rw [word_val _ (by omega)]
      simp [ix2]
    · show 0 * 1024 + 1 * d.val = _
      simp [ix2]
  rw [e, V_v0]
  exact rows_read _ _ _

theorem blk1 (t : Fin cfg0.N) : iblk m c 1 t = (V m c main_v1 : Vec Ideal S1x1024 .f32) := by
  funext z
  obtain ⟨z0, z1, rfl⟩ : ∃ (z0 : Fin 1) (z1 : Fin 1024), z = ix2 z0 z1 := ⟨z 0, z 1, by funext a; fin_cases a <;> rfl⟩
  refine congrArg (V m c main_v1) (funext fun a => Fin.ext ?_)
  fin_cases a
  · show 0 * 1 + 1 * z0.val = _
    simp [ix2]
  · show 0 * 1024 + 1 * z1.val = _
    simp [ix2]

theorem blk2 (t : Fin cfg0.N) : iblk m c 2 t = (V m c main_v2 : Vec Ideal S1024x3072 .bf16) := by
  funext z
  obtain ⟨z0, z1, rfl⟩ : ∃ (z0 : Fin 1024) (z1 : Fin 3072), z = ix2 z0 z1 := ⟨z 0, z 1, by funext a; fin_cases a <;> rfl⟩
  refine congrArg (V m c main_v2) (funext fun a => Fin.ext ?_)
  fin_cases a
  · show 0 * 1024 + 1 * z0.val = _
    simp [ix2]
  · show 0 * 3072 + 1 * z1.val = _
    simp [ix2]

theorem blk3 (t : Fin cfg0.N) : iblk m c 3 t = (V m c main_v6 : Vec Ideal S1x1024 .f32) := by
  funext z
  obtain ⟨z0, z1, rfl⟩ : ∃ (z0 : Fin 1) (z1 : Fin 1024), z = ix2 z0 z1 := ⟨z 0, z 1, by funext a; fin_cases a <;> rfl⟩
  refine congrArg (V m c main_v6) (funext fun a => Fin.ext ?_)
  fin_cases a
  · show 0 * 1 + 1 * z0.val = _
    simp [ix2]
  · show 0 * 1024 + 1 * z1.val = _
    simp [ix2]

theorem blk4 (t : Fin cfg0.N) : iblk m c 4 t = (V m c main_v10 : Vec Ideal S1x1024 .f32) := by
  funext z
  obtain ⟨z0, z1, rfl⟩ : ∃ (z0 : Fin 1) (z1 : Fin 1024), z = ix2 z0 z1 := ⟨z 0, z 1, by funext a; fin_cases a <;> rfl⟩
  refine congrArg (V m c main_v10) (funext fun a => Fin.ext ?_)
  fin_cases a
  · show 0 * 1 + 1 * z0.val = _
    simp [ix2]
  · show 0 * 1024 + 1 * z1.val = _
    simp [ix2]

theorem blk5 (t : Fin cfg0.N) : iblk m c 5 t = (V m c main_v19 : Vec Ideal S256x256 .bf16) := by
  funext z
  obtain ⟨z0, z1, rfl⟩ : ∃ (z0 : Fin 256) (z1 : Fin 256), z = ix2 z0 z1 := ⟨z 0, z 1, by funext a; fin_cases a <;> rfl⟩
  refine congrArg (V m c main_v19) (funext fun a => Fin.ext ?_)
  fin_cases a
  · show 0 * 256 + 1 * z0.val = _
    simp [ix2]
  · show 0 * 256 + 1 * z1.val = _
    simp [ix2]

/-- A tile's rows projected. -/
theorem tile_yy (t : Fin cfg0.N) (y : Fin 512) (j : Fin 3072) :
    (k0_pay3 (iblk m c 0 t) (iblk m c 1 t) (iblk m c 2 t) (ix2 y j) : EReal) = yy (px m c) (pg m c) (pw m c) (rowAt (grid0.coords t 0) y) j := by
  have e1 : (fun e => (iblk m c 0 t (ix2 y e) : EReal)) = fun e => px m c (ix3 (seqOf (rowAt (grid0.coords t 0) y)) (posOf (rowAt (grid0.coords t 0) y)) e) := funext fun e => blk0 m c t y e
  have e2 : (fun e => (iblk m c 1 t (ix2 0 e) : EReal)) = fun e => pg m c (ix1 e) := funext fun e => by
    rw [blk1, V_v1]
    exact gain_read _ e
  refine (pay3_read _ _ _ y j).trans ?_
  rw [e1, e2, blk2, V_v2]
  rfl

theorem group_blk (t : Fin cfg0.N) (z l : Fin 256) : (iblk m c 5 t (ix2 z l) : EReal) = ((if z.val / 64 = l.val / 64 then 1 / 64 else 0 : ℝ) : EReal) := by
  rw [blk5, V_v19]
  exact hMat_grp z l

theorem qgain_blk (t : Fin cfg0.N) (n : Fin 1024) : (iblk m c 3 t (ix2 0 n) : EReal) = pq m c (ix1 (lane n)) := by
  rw [blk3, V_v6]
  exact hRep_read _ n

theorem kgain_blk (t : Fin cfg0.N) (n : Fin 1024) : (iblk m c 4 t (ix2 0 n) : EReal) = pk m c (ix1 (lane n)) := by
  rw [blk4, V_v10]
  exact hRep_read _ n

theorem whole_rows (x : Vec Ideal S512x1024 .f32) : View.ld x r0_0 = x := View.ld_unit_lit _ x (by decide)
theorem whole_gain (x : Vec Ideal S1x1024 .f32) : View.ld x r0_1 = x := View.ld_unit_lit _ x (by decide)
theorem whole_weights (x : Vec Ideal S1024x3072 .bf16) : View.ld x r0_2 = x := View.ld_unit_lit _ x (by decide)
theorem whole_group (x : Vec Ideal S256x256 .bf16) : View.ld x r0_3 = x := View.ld_unit_lit _ x (by decide)
theorem whole_store (p : Vec Ideal S512x1024 .f32) : View.canon [(⟨r0_0, p⟩ : View.Piece (Elt Ideal) S512x1024 .f32)] = p := View.canon_cons_unit_lit _ p [] (by decide)

/-- Where a grid point's block of rows lies. -/
theorem emb6 (t : Fin cfg0.N) (y : Fin 512) (n : Fin 1024) : ((cfg0.win 6).blk t).view.emb (ix2 y n) = ix2 (rowAt (grid0.coords t 0) y) n := by
  refine funext fun a => Fin.ext ?_
  have h0 : (grid0.coords t 0).val < 2 := (grid0.coords t 0).isLt
  fin_cases a
  · show (BitVec.ofNat 32 (grid0.coords t 0).val).toNat * 512 + 1 * y.val = _
    rw [word_val _ (by omega)]
    simp [ix2]
  · show 0 * 1024 + 1 * n.val = _
    simp [ix2]

theorem emb7 (t : Fin cfg0.N) (y : Fin 512) (n : Fin 1024) : ((cfg0.win 7).blk t).view.emb (ix2 y n) = ix2 (rowAt (grid0.coords t 0) y) n := by
  refine funext fun a => Fin.ext ?_
  have h0 : (grid0.coords t 0).val < 2 := (grid0.coords t 0).isLt
  fin_cases a
  · show (BitVec.ofNat 32 (grid0.coords t 0).val).toNat * 512 + 1 * y.val = _
    rw [word_val _ (by omega)]
    simp [ix2]
  · show 0 * 1024 + 1 * n.val = _
    simp [ix2]

theorem emb8 (t : Fin cfg0.N) (y : Fin 512) (n : Fin 1024) : ((cfg0.win 8).blk t).view.emb (ix2 y n) = ix2 (rowAt (grid0.coords t 0) y) n := by
  refine funext fun a => Fin.ext ?_
  have h0 : (grid0.coords t 0).val < 2 := (grid0.coords t 0).isLt
  fin_cases a
  · show (BitVec.ofNat 32 (grid0.coords t 0).val).toNat * 512 + 1 * y.val = _
    rw [word_val _ (by omega)]
    simp [ix2]
  · show 0 * 1024 + 1 * n.val = _
    simp [ix2]

theorem pay4_id (gm : Vec Ideal S256x256 .bf16) : k0_pay4 gm = gm := by
  funext z
  obtain ⟨a, b, rfl⟩ : ∃ (a b : Fin 256), z = ix2 a b := ⟨z 0, z 1, by funext a; fin_cases a <;> rfl⟩
  exact pay4_read gm a b

/-- A grid point writes its tile's values. -/
theorem flushed8 (t : Fin cfg0.N) : (dats m 0 c).flushed 8 t = ((cfg0.win 8).blk t).view.read (Elt Ideal) (resV (px m c) (pg m c) (pw m c)) := by
  funext z
  obtain ⟨y, n, rfl⟩ : ∃ (y : Fin 512) (n : Fin 1024), z = ix2 y n := ⟨z 0, z 1, by funext a; fin_cases a <;> rfl⟩
  refine (congrFun (after0_8 m c t) _).trans ?_
  rw [View.read_apply]
  unfold out0_8 k0_pay20
  rw [whole_rows, whole_gain, whole_weights, whole_store]
  refine (pay2_read _ y n).trans ((tile_yy m c t y (vcol n)).trans ?_)
  exact (congrArg (resV (px m c) (pg m c) (pw m c)) (emb8 t y n)).symm

section Real

variable (hg : Diff.AllReal (pg m c)) (hw : Diff.AllReal (pw m c))
include hg hw

/-- A grid point writes its tile's keys. -/
theorem flushed7 (t : Fin cfg0.N) : (dats m 0 c).flushed 7 t = ((cfg0.win 7).blk t).view.read (Elt Ideal) (resK (px m c) (pg m c) (pw m c) (pk m c)) := by
  funext z
  obtain ⟨y, n, rfl⟩ : ∃ (y : Fin 512) (n : Fin 1024), z = ix2 y n := ⟨z 0, z 1, by funext a; fin_cases a <;> rfl⟩
  refine (congrFun (after0_7 m c t) _).trans ?_
  rw [View.read_apply]
  unfold out0_7 k0_pay20 k0_pay21
  rw [whole_rows, whole_gain, whole_gain, whole_weights, whole_group, whole_store, pay4_id]
  refine (keys_read _ _ _ (group_blk m c t) y n (fun j => yy (px m c) (pg m c) (pw m c) (rowAt (grid0.coords t 0) y) (kcol j)) (fun j => yy_real _ _ _ hg hw _ _)
    (fun j => (pay13_read _ y j).trans (tile_yy m c t y (kcol j)))).trans ?_
  rw [pay14_read, kgain_blk]
  exact (congrArg (resK (px m c) (pg m c) (pw m c) (pk m c)) (emb7 t y n)).symm

/-- A grid point writes its tile's queries. -/
theorem flushed6 (t : Fin cfg0.N) : (dats m 0 c).flushed 6 t = ((cfg0.win 6).blk t).view.read (Elt Ideal) (resQ (px m c) (pg m c) (pw m c) (pq m c)) := by
  funext z
  obtain ⟨y, n, rfl⟩ : ∃ (y : Fin 512) (n : Fin 1024), z = ix2 y n := ⟨z 0, z 1, by funext a; fin_cases a <;> rfl⟩
  refine (congrFun (after0_6 m c t) _).trans ?_
  rw [View.read_apply]
  unfold out0_6 k0_pay21
  rw [whole_rows, whole_gain, whole_gain, whole_weights, whole_group, whole_store]
  refine (queries_read _ _ _ _ _ (group_blk m c t) y n (fun j => yy (px m c) (pg m c) (pw m c) (rowAt (grid0.coords t 0) y) (qcol j)) (fun j => yy_real _ _ _ hg hw _ _)
    (fun j => (pay5_read _ _ _ y j).trans (tile_yy m c t y (qcol j)))).trans ?_
  rw [pay6_read, qgain_blk]
  exact (congrArg (resQ (px m c) (pg m c) (pw m c) (pq m c)) (emb6 t y n)).symm

end Real

/-- There is a grid point of either row tile. -/
theorem point_of (b : Fin 2) : ∃ t : Fin cfg0.N, grid0.coords t 0 = b := by
  obtain ⟨t, ht⟩ := Pipeline.Grid.coords_surjective grid0 (fun a => match a with
    | ⟨0, _⟩ => b)
  exact ⟨t, congrFun ht 0⟩

theorem cover6 (z : (⟨2, ![1024, 1024]⟩ : Shape).Idx) : ∃ t : Fin cfg0.N, (cfg0.win 6).flush t = true ∧ z ∈ ((cfg0.win 6).blk t).view.set := by
  obtain ⟨r, n, rfl⟩ : ∃ r n : Fin 1024, z = ix2 r n := ⟨z 0, z 1, by funext a; fin_cases a <;> rfl⟩
  obtain ⟨t, ht⟩ := point_of (⟨r.val / 512, by omega⟩ : Fin 2)
  refine ⟨t, flush0_6 t, ?_⟩
  have e : ix2 r n = ((cfg0.win 6).blk t).view.emb (ix2 (⟨r.val % 512, by omega⟩ : Fin 512) n) := by
    rw [emb6, ht]
    refine congrArg (fun q => ix2 q n) (Fin.ext ?_)
    show r.val = r.val / 512 * 512 + r.val % 512
    omega
  rw [e]
  exact View.emb_mem_set _ _

theorem cover7 (z : (⟨2, ![1024, 1024]⟩ : Shape).Idx) : ∃ t : Fin cfg0.N, (cfg0.win 7).flush t = true ∧ z ∈ ((cfg0.win 7).blk t).view.set := by
  obtain ⟨r, n, rfl⟩ : ∃ r n : Fin 1024, z = ix2 r n := ⟨z 0, z 1, by funext a; fin_cases a <;> rfl⟩
  obtain ⟨t, ht⟩ := point_of (⟨r.val / 512, by omega⟩ : Fin 2)
  refine ⟨t, flush0_7 t, ?_⟩
  have e : ix2 r n = ((cfg0.win 7).blk t).view.emb (ix2 (⟨r.val % 512, by omega⟩ : Fin 512) n) := by
    rw [emb7, ht]
    refine congrArg (fun q => ix2 q n) (Fin.ext ?_)
    show r.val = r.val / 512 * 512 + r.val % 512
    omega
  rw [e]
  exact View.emb_mem_set _ _

theorem cover8 (z : (⟨2, ![1024, 1024]⟩ : Shape).Idx) : ∃ t : Fin cfg0.N, (cfg0.win 8).flush t = true ∧ z ∈ ((cfg0.win 8).blk t).view.set := by
  obtain ⟨r, n, rfl⟩ : ∃ r n : Fin 1024, z = ix2 r n := ⟨z 0, z 1, by funext a; fin_cases a <;> rfl⟩
  obtain ⟨t, ht⟩ := point_of (⟨r.val / 512, by omega⟩ : Fin 2)
  refine ⟨t, flush0_8 t, ?_⟩
  have e : ix2 r n = ((cfg0.win 8).blk t).view.emb (ix2 (⟨r.val % 512, by omega⟩ : Fin 512) n) := by
    rw [emb8, ht]
    refine congrArg (fun q => ix2 q n) (Fin.ext ?_)
    show r.val = r.val / 512 * 512 + r.val % 512
    omega
  rw [e]
  exact View.emb_mem_set _ _

/-- The kernel runs and leaves the queries, the keys and the values, its arguments unchanged. -/
theorem kernel_value (ρ : Dev nD → PrngReg) (hg : ∀ c, Diff.AllReal (pg m c)) (hw : ∀ c, Diff.AllReal (pw m c)) :
    θ_run (defs (F := Ideal)) (onTc (τ := τ) (main (F := Ideal))) ⟨m, fun _ => 0, ρ⟩ fun r => ∀ c : Dev nD,
      r.2.mem ((c.tc : Thread nD τ).loc main_v20_0) = resQ (px m c) (pg m c) (pw m c) (pq m c)
      ∧ r.2.mem ((c.tc : Thread nD τ).loc main_v20_1) = resK (px m c) (pg m c) (pw m c) (pk m c)
      ∧ r.2.mem ((c.tc : Thread nD τ).loc main_v20_2) = resV (px m c) (pg m c) (pw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun r h c => ⟨(h c).1.trans ((dats m 0 c).arrAt_eq_of_cover 6 _ (fun t _ => flushed6 m c (hg c) (hw c) t) cover6),
    (h c).2.1.trans ((dats m 0 c).arrAt_eq_of_cover 7 _ (fun t _ => flushed7 m c (hg c) (hw c) t) cover7),
    (h c).2.2.1.trans ((dats m 0 c).arrAt_eq_of_cover 8 _ (fun t _ => flushed8 m c t) cover8), (h c).2.2.2⟩) (Cert.Kernel3Ideal.Value.run_blocks (F := Ideal) m ρ)

end Cert.Proof.Prj

end
-- ==== Proof.PrjRef.lean ====
module

public import proofs.«01_k».proof.Proof.Gen.Reference3Ideal.Run
public import proofs.«01_k».proof.Proof.PrjSpec

@[expose] public section

set_option maxRecDepth 16384

noncomputable section

/-! The reference's projection, element by element. -/

namespace Cert.Proof.Prj

open Cert.Reference3Ideal Cert.Reference3Ideal.Gen Cert.Reference3Ideal.Value
open Idealize.ShloMosaic Idealize.ShloMosaic.TcCoe Idealize.ShloMosaic.StableHlo
open Idealize.SL.Sem
open Cert.Proof.Ffn (Arr1 Arr2 Arr3 nrm)

section Pieces

variable (x : Vec Ideal S128x8x1024 .f32) (g : Vec Ideal S1024 .f32) (w : Vec Ideal S1024x3072 .f32) (qg : Vec Ideal S64 .f32) (h : FVec Ideal S128x8x1024 .f32) (p : FVec Ideal S128x8x3072 .f32)
  (a : FVec Ideal S128x8x8x2x64 .f32)

/-- The rows normed. -/
def rNorm : FVec Ideal S128x8x1024 .f32 :=
  mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 g))

/-- The projection. -/
def rProj : FVec Ideal S128x8x3072 .f32 := Host.dotGeneral (φ₁ := .f32) (φ₂ := .f32) dot_S128x8x1024_S1024x3072_S128x8x3072_2_0_01_1_n_n none h w

/-- The queries' and the keys' heads. -/
def rQ : FVec Ideal S128x8x8x2x64 .f32 := shapeCast S128x8x8x2x64 (extractStridedSlice S128x8x1024 ![0, 0, 0] p slices_S128x8x3072_S128x8x1024_0_0_0) shapeCasts_S128x8x1024_S128x8x8x2x64
def rK : FVec Ideal S128x8x8x2x64 .f32 := shapeCast S128x8x8x2x64 (extractStridedSlice S128x8x1024 ![0, 0, 1024] p slices_S128x8x3072_S128x8x1024_0_0_1024) shapeCasts_S128x8x1024_S128x8x8x2x64

/-- A head's norm. -/
def rHead : FVec Ideal S128x8x8x2x64 .f32 :=
  mulf (mulf a (broadcastInDim S128x8x8x2x64 ![0, 1, 2, 3, 4] bcast_S128x8x8x2x1_S128x8x8x2x64_0_1_2_3_4 (Host.rsqrt (addf (Host.divf (broadcastInDim S128x8x8x2x1 ![0, 1, 2, 3] bcast_S128x8x8x2_S128x8x8x2x1_0_1_2_3 (Host.reduceAdd (mulf a a) (constant S_ .f32 0x00000000#32) reducesTo_S128x8x8x2x64_S128x8x8x2_d4 h_S_)) (broadcastInDim S128x8x8x2x1 ![] bcast_S_S128x8x8x2x1 (constant S_ .f32 0x42800000#32))) (broadcastInDim S128x8x8x2x1 ![] bcast_S_S128x8x8x2x1 (constant S_ .f32 0x358637BD#32))))))
    (broadcastInDim S128x8x8x2x64 ![0, 1, 2, 3, 4] bcast_S1x1x1x1x64_S128x8x8x2x64_0_1_2_3_4 (broadcastInDim S1x1x1x1x64 ![4] bcast_S64_S1x1x1x1x64_4 qg))

/-- The heads side by side, a row per position. -/
def rFlat : FVec Ideal S1024x1024 .f32 := shapeCast S1024x1024 a shapeCasts_S128x8x8x2x64_S1024x1024
def rScale : FVec Ideal S128x8x8x2x64 .f32 := mulf a (broadcastInDim S128x8x8x2x64 ![] bcast_S_S128x8x8x2x64 (constant S_ .f32 0x3E000000#32))
def rV : FVec Ideal S1024x1024 .f32 := shapeCast S1024x1024 (extractStridedSlice S128x8x1024 ![0, 0, 2048] p slices_S128x8x3072_S128x8x1024_0_0_2048) shapeCasts_S128x8x1024_S1024x1024

abbrev pair (n : Fin 1024) : Fin 8 := ⟨n.val / 128, by omega⟩
abbrev half (n : Fin 1024) : Fin 2 := ⟨n.val / 64 % 2, by omega⟩
/-- A head's lane as a column. -/
abbrev colOf (i : Fin 8) (j : Fin 2) (e : Fin 64) : Fin 1024 := ⟨i.val * 128 + j.val * 64 + e.val, by omega⟩

theorem rNorm_read (b : Fin 128) (r : Fin 8) (d : Fin 1024) : (rNorm x g (ix3 b r d) : EReal) = nrm (fun e => x (ix3 b r e)) (fun e => g (ix1 e)) d := by
  unfold nrm
  pointwise [rNorm]

theorem rProj_read (b : Fin 128) (r : Fin 8) (j : Fin 3072) : (rProj w h (ix3 b r j) : EReal) = ∑ d : Fin 1024, (h (ix3 b r d) : EReal) * (w (ix2 d j) : EReal) := by
  pointwise [rProj]

theorem rQ_read (b : Fin 128) (r : Fin 8) (i : Fin 8) (j : Fin 2) (e : Fin 64) : (rQ p (ix5 b r i j e) : EReal) = p (ix3 b r (qcol (colOf i j e))) := by
  pointwise [rQ]

theorem rK_read (b : Fin 128) (r : Fin 8) (i : Fin 8) (j : Fin 2) (e : Fin 64) : (rK p (ix5 b r i j e) : EReal) = p (ix3 b r (kcol (colOf i j e))) := by
  pointwise [rK]

theorem rHead_read (b : Fin 128) (r : Fin 8) (i : Fin 8) (j : Fin 2) (e : Fin 64) : (rHead qg a (ix5 b r i j e) : EReal) = hnm (fun d => a (ix5 b r i j d)) (qg (ix1 e)) e := by
  unfold hnm
  pointwise [rHead]

theorem rFlat_read (r n : Fin 1024) : (rFlat a (ix2 r n) : EReal) = a (ix5 (seqOf r) (posOf r) (pair n) (half n) (lane n)) := by
  pointwise [rFlat]

theorem rScale_read (z : S128x8x8x2x64.Idx) : (rScale a z : EReal) = (a z : EReal) * Ideal.ofBits .f32 0x3E000000#32 := by
  pointwise [rScale]

theorem rV_read (r n : Fin 1024) : (rV p (ix2 r n) : EReal) = p (ix3 (seqOf r) (posOf r) (vcol n)) := by
  pointwise [rV]

theorem col_mate (n : Fin 1024) (e : Fin 64) : colOf (pair n) (half n) e = mate n e := Fin.ext (by
  show n.val / 128 * 128 + n.val / 64 % 2 * 64 + e.val = n.val / 64 * 64 + e.val
  omega)

/-- The projected rows. -/
theorem rYy (r : Fin 1024) (j : Fin 3072) : (rProj w (rNorm x g) (ix3 (seqOf r) (posOf r) j) : EReal) = yy x g w r j := by
  rw [rProj_read]
  exact Finset.sum_congr rfl fun d _ => by rw [rNorm_read]

/-- The queries, the keys and the values. -/
theorem rResQ : rFlat (rScale (rHead qg (rQ (rProj w (rNorm x g))))) = resQ x g w qg := by
  funext z
  obtain ⟨r, n, rfl⟩ : ∃ r n : Fin 1024, z = ix2 r n := ⟨z 0, z 1, by funext a; fin_cases a <;> rfl⟩
  refine (rFlat_read _ r n).trans ?_
  rw [rScale_read, rHead_read]
  show _ = hnm (fun e => yy x g w r (qcol (mate n e))) (qg (ix1 (lane n))) (lane n) * _
  refine congrArg (fun t : Fin 64 → EReal => hnm t (qg (ix1 (lane n))) (lane n) * Ideal.ofBits .f32 0x3E000000#32) (funext fun e => ?_)
  rw [rQ_read, rYy, col_mate]

theorem rResK : rFlat (rHead qg (rK (rProj w (rNorm x g)))) = resK x g w qg := by
  funext z
  obtain ⟨r, n, rfl⟩ : ∃ r n : Fin 1024, z = ix2 r n := ⟨z 0, z 1, by funext a; fin_cases a <;> rfl⟩
  refine (rFlat_read _ r n).trans ?_
  rw [rHead_read]
  show _ = hnm (fun e => yy x g w r (kcol (mate n e))) (qg (ix1 (lane n))) (lane n)
  refine congrArg (fun t : Fin 64 → EReal => hnm t (qg (ix1 (lane n))) (lane n)) (funext fun e => ?_)
  rw [rK_read, rYy, col_mate]

theorem rResV : rV (rProj w (rNorm x g)) = resV x g w := by
  funext z
  obtain ⟨r, n, rfl⟩ : ∃ r n : Fin 1024, z = ix2 r n := ⟨z 0, z 1, by funext a; fin_cases a <;> rfl⟩
  exact (rV_read _ r n).trans (rYy x g w r (vcol n))

end Pieces

/-- The reference runs and leaves the queries, the keys and the values, its arguments unchanged. -/
theorem ref_run (m : (ℓ : Loc nD τ sig) → Buf (Elt Ideal) ℓ) (ρ : Dev nD → PrngReg) (x : Dev nD → Arr3 128 8 1024) (g : Dev nD → Arr1 1024) (w : Dev nD → Arr2 1024 3072) (qg kg : Dev nD → Arr1 64)
    (hm : ∀ c : Dev nD, m ((c.tc : Thread nD τ).loc main_arg0) = x c ∧ m ((c.tc : Thread nD τ).loc main_arg1) = g c ∧ m ((c.tc : Thread nD τ).loc main_arg2) = w c
      ∧ m ((c.tc : Thread nD τ).loc main_arg3) = qg c ∧ m ((c.tc : Thread nD τ).loc main_arg4) = kg c) :
    θ_run (defs (F := Ideal)) (onTc (τ := τ) (main (F := Ideal))) ⟨m, fun _ => 0, ρ⟩ fun r => ∀ c : Dev nD,
      r.2.mem ((c.tc : Thread nD τ).loc main_v47) = resQ (x c) (g c) (w c) (qg c)
      ∧ r.2.mem ((c.tc : Thread nD τ).loc main_v48) = resK (x c) (g c) (w c) (kg c)
      ∧ r.2.mem ((c.tc : Thread nD τ).loc main_v49) = resV (x c) (g c) (w c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ⟨(h c).1.trans ?_, (h c).2.1.trans ?_, (h c).2.2.1.trans ?_, (h c).2.2.2⟩) (Cert.Reference3Ideal.Value.run (F := Ideal) m ρ)
  all_goals
    obtain ⟨e0, e1, e2, e3, e4⟩ := hm c
    rw [← e0, ← e1, ← e2]
  · rw [← e3]
    exact rResQ (m ((c.tc : Thread nD τ).loc main_arg0)) (m ((c.tc : Thread nD τ).loc main_arg1)) (m ((c.tc : Thread nD τ).loc main_arg2)) (m ((c.tc : Thread nD τ).loc main_arg3))
  · rw [← e4]
    exact rResK (m ((c.tc : Thread nD τ).loc main_arg0)) (m ((c.tc : Thread nD τ).loc main_arg1)) (m ((c.tc : Thread nD τ).loc main_arg2)) (m ((c.tc : Thread nD τ).loc main_arg4))
  · exact rResV (m ((c.tc : Thread nD τ).loc main_arg0)) (m ((c.tc : Thread nD τ).loc main_arg1)) (m ((c.tc : Thread nD τ).loc main_arg2))

end Cert.Proof.Prj

end
-- ==== Proof.PrjEqual.lean ====
module

public import proofs.«01_k».proof.Defs
public import proofs.«01_k».proof.Proof.PrjOut
public import proofs.«01_k».proof.Proof.PrjRef
public import proofs.«01_k».proof.Proof.Gen.Kernel3.Frame
public import proofs.«01_k».proof.Proof.Gen.Pre_finite3

@[expose] public section

set_option maxRecDepth 16384

noncomputable section

/-! The claims of the projection call: the frames, and the equation at any arguments whose gain and weights are real numbers. -/

namespace Cert.Proof.Prj

open Idealize.ShloMosaic Idealize.ShloMosaic.TcCoe
open Idealize.SL.Sem
open Cert.Proof.Ffn (Arr1 Arr2 Arr3)

section Finite

open Cert.Pre_finite3 Cert.Pre_finite3.Gen

/-- The precondition, read: the gain and the weights are real. -/
theorem finite_real (x : Arr3 128 8 1024) (g : Arr1 1024) (w : Arr2 1024 3072) (qg kg : Arr1 64) (h : Cert.Pre_finite3.fn (F := Ideal) x g w qg kg = fun _ => 1#1) :
    Diff.AllReal g ∧ Diff.AllReal w := by
  have e := congrFun h (fun a => a.elim0)
  unfold Cert.Pre_finite3.fn at e
  haveI : Subsingleton S_.Idx := ⟨fun a b => funext fun z => z.elim0⟩
  obtain ⟨e0, e1⟩ := IntOp.andi_eq_one.1 e
  exact ⟨fun i => Diff.real_of_abs_lt _ (Host.reduce_andi_all _ _ _ _ _ e0 i), fun i => Diff.real_of_abs_lt _ (Host.reduce_andi_all _ _ _ _ _ e1 i)⟩

end Finite

/-- The kernel runs, at the machine's floats and at ideal ones, and gives its arguments back unchanged. -/
theorem frame_kernel : Cert.quiescent_Kernel3 (hKernel3 := Cert.Kernel3.Gen.facts) := fun m ρ _ => Cert.Kernel3.Gen.frame m ρ
theorem frame_ideal : Cert.quiescent_Kernel3Ideal (hKernel3Ideal := Cert.Kernel3Ideal.Gen.facts) := fun m ρ _ => Cert.Kernel3Ideal.Gen.frame m ρ

/-- The reference runs, gives the arguments back unchanged, and declares no semaphore. -/
theorem frame_ref : Cert.quiescent_Reference3Ideal (hReference3Ideal := Cert.Reference3Ideal.Gen.facts) := fun m ρ _ =>
  (θ_run (Cert.Reference3Ideal.defs (F := Ideal)) _ _).mono
    (fun r h => ⟨fun c => (h c).2.2.2, Idealize.ShloMosaic.sem_eq_zero_of_no_sems (by decide) r.2⟩)
    (Cert.Reference3Ideal.Value.run (F := Ideal) m ρ)

/-- At any arguments whose gain and weights are real the two programs' results are equal. -/
theorem equal : Cert.algebraic_Kernel3Ideal_Reference3Ideal_pre_finite3 (hKernel3Ideal := Cert.Kernel3Ideal.Gen.facts) (hReference3Ideal := Cert.Reference3Ideal.Gen.facts)
    (hPre_finite3 := Cert.Pre_finite3.Gen.facts) := by
  intro m g m' g' hpre hargs
  have hf := fun c => finite_real (px m c) (pg m c) (pw m c) (pq m c) (pk m c) (hpre c)
  refine ⟨fun c => resQ (px m c) (pg m c) (pw m c) (pq m c), fun c => resK (px m c) (pg m c) (pw m c) (pk m c), fun c => resV (px m c) (pg m c) (pw m c), ?_, ?_⟩
  · exact kernel_value m g (fun c => (hf c).1) (fun c => (hf c).2)
  · exact ref_run m' g' (px m) (pg m) (pw m) (pq m) (pk m) hargs

end Cert.Proof.Prj

end
-- ==== Proof.lean ====
/- The certificate: of each of the three calls the frames of the kernel, of its idealization and of the reference, and the equality of their results. -/
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Equal
public import proofs.«01_k».proof.Proof.FfnFrames
public import proofs.«01_k».proof.Proof.FfnEqual
public import proofs.«01_k».proof.Proof.PrjEqual
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts, Cert.Pre_finite3.Gen.facts,
    Diff.frame_kernel, Diff.frame_ideal, fun m ρ _ => Diff.frame_ideal m ρ trivial, Diff.frame_ref, fun m ρ _ => Diff.frame_ref m ρ trivial,
    Ffn.frame_kernel, Ffn.frame_ideal, Ffn.frame_ref,
    Prj.frame_kernel, Prj.frame_ideal, fun m ρ _ => Prj.frame_ideal m ρ trivial, Prj.frame_ref, fun m ρ _ => Prj.frame_ref m ρ trivial,
    trivial, Diff.equal, trivial, Ffn.equal, trivial, Prj.equal⟩

end Cert.Proof

end
